-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x256 : Shape := ⟨2, ![10000, 256]⟩
abbrev S10000x128 : Shape := ⟨2, ![10000, 128]⟩
abbrev S10000x10000 : Shape := ⟨2, ![10000, 10000]⟩
abbrev S256x32 : Shape := ⟨2, ![256, 32]⟩
abbrev S32x16 : Shape := ⟨2, ![32, 16]⟩
abbrev S128x16 : Shape := ⟨2, ![128, 16]⟩
abbrev S16x16 : Shape := ⟨2, ![16, 16]⟩
abbrev S_ : Shape := ⟨0, ![]⟩

class Facts : Prop where
  bcast_S_S256x32 : S_.BroadcastsInDim S256x32 (![] : Fin 0 → Fin S256x32.rank)
  bcast_S_S32x16 : S_.BroadcastsInDim S32x16 (![] : Fin 0 → Fin S32x16.rank)
  bcast_S_S128x16 : S_.BroadcastsInDim S128x16 (![] : Fin 0 → Fin S128x16.rank)
  bcast_S_S16x16 : S_.BroadcastsInDim S16x16 (![] : Fin 0 → Fin S16x16.rank)

variable [Facts]

def fn {F : FTy → Type} [FloatOps F] (main_arg0 : FVec F S10000x256 .f32) (main_arg1 : FVec F S10000x128 .f32) (main_arg2 : FVec F S10000x10000 .f32) (main_arg3 : FVec F S10000x10000 .f32) (main_arg4 : FVec F S10000x10000 .f32) (main_arg5 : FVec F S256x32 .f32) (main_arg6 : FVec F S32x16 .f32) (main_arg7 : FVec F S128x16 .f32) (main_arg8 : FVec F S16x16 .f32) (main_arg9 : FVec F S16x16 .f32) (main_arg10 : FVec F S16x16 .f32) : IVec S256x32 1 × IVec S32x16 1 × IVec S128x16 1 × IVec S16x16 1 × IVec S16x16 1 × IVec S16x16 1 :=
  let main_v0 : FVec F S256x32 .f32 := Host.absf main_arg5
  let main_cst : FVec F S_ .f32 := constant S_ .f32 0x7F800000#32
  let main_v1 : FVec F S256x32 .f32 := broadcastInDim S256x32 ![] bcast_S_S256x32 main_cst
  let main_v2 : IVec S256x32 1 := cmpf .olt main_v0 main_v1
  let main_v3 : FVec F S32x16 .f32 := Host.absf main_arg6
  let main_cst_0 : FVec F S_ .f32 := constant S_ .f32 0x7F800000#32
  let main_v4 : FVec F S32x16 .f32 := broadcastInDim S32x16 ![] bcast_S_S32x16 main_cst_0
  let main_v5 : IVec S32x16 1 := cmpf .olt main_v3 main_v4
  let main_v6 : FVec F S128x16 .f32 := Host.absf main_arg7
  let main_cst_1 : FVec F S_ .f32 := constant S_ .f32 0x7F800000#32
  let main_v7 : FVec F S128x16 .f32 := broadcastInDim S128x16 ![] bcast_S_S128x16 main_cst_1
  let main_v8 : IVec S128x16 1 := cmpf .olt main_v6 main_v7
  let main_v9 : FVec F S16x16 .f32 := Host.absf main_arg8
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_v12 : FVec F S16x16 .f32 := Host.absf main_arg9
  let main_cst_3 : FVec F S_ .f32 := constant S_ .f32 0x7F800000#32
  let main_v13 : FVec F S16x16 .f32 := broadcastInDim S16x16 ![] bcast_S_S16x16 main_cst_3
  let main_v14 : IVec S16x16 1 := cmpf .olt main_v12 main_v13
  let main_v15 : FVec F S16x16 .f32 := Host.absf main_arg10
  let main_cst_4 : FVec F S_ .f32 := constant S_ .f32 0x7F800000#32
  let main_v16 : FVec F S16x16 .f32 := broadcastInDim S16x16 ![] bcast_S_S16x16 main_cst_4
  let main_v17 : IVec S16x16 1 := cmpf .olt main_v15 main_v16
  (main_v2, main_v5, main_v8, main_v11, main_v14, main_v17)
-- ==== Kernel.lean ====
abbrev S10000x256 : Shape := ⟨2, ![10000, 256]⟩
abbrev S10000x128 : Shape := ⟨2, ![10000, 128]⟩
abbrev S10000x10000 : Shape := ⟨2, ![10000, 10000]⟩
abbrev S256x32 : Shape := ⟨2, ![256, 32]⟩
abbrev S32x16 : Shape := ⟨2, ![32, 16]⟩
abbrev S128x16 : Shape := ⟨2, ![128, 16]⟩
abbrev S16x16 : Shape := ⟨2, ![16, 16]⟩
abbrev S32x32 : Shape := ⟨2, ![32, 32]⟩
abbrev S32x256 : Shape := ⟨2, ![32, 256]⟩
abbrev S16x32 : Shape := ⟨2, ![16, 32]⟩
abbrev S16x128 : Shape := ⟨2, ![16, 128]⟩
abbrev S1x32x32 : Shape := ⟨3, ![1, 32, 32]⟩
abbrev S1 : Shape := ⟨1, ![1]⟩
abbrev S1x1x1 : Shape := ⟨3, ![1, 1, 1]⟩
abbrev S32 : Shape := ⟨1, ![32]⟩
abbrev S32x1 : Shape := ⟨2, ![32, 1]⟩
abbrev S1x32 : Shape := ⟨2, ![1, 32]⟩
abbrev S1x16x16 : Shape := ⟨3, ![1, 16, 16]⟩
abbrev S16 : Shape := ⟨1, ![16]⟩
abbrev S16x1 : Shape := ⟨2, ![16, 1]⟩
abbrev S1x16 : Shape := ⟨2, ![1, 16]⟩
abbrev S32x32x1 : Shape := ⟨3, ![32, 32, 1]⟩
abbrev S32x32x32 : Shape := ⟨3, ![32, 32, 32]⟩
abbrev S16x16x1 : Shape := ⟨3, ![16, 16, 1]⟩
abbrev S16x16x16 : Shape := ⟨3, ![16, 16, 16]⟩
abbrev S10000x16 : Shape := ⟨2, ![10000, 16]⟩
abbrev S80x10000 : Shape := ⟨2, ![80, 10000]⟩
abbrev S400x16 : Shape := ⟨2, ![400, 16]⟩
abbrev S10000x32 : Shape := ⟨2, ![10000, 32]⟩
abbrev S80x32 : Shape := ⟨2, ![80, 32]⟩
abbrev S80x16 : Shape := ⟨2, ![80, 16]⟩

abbrev nBuf : Space → Nat
  | .hbm => 25
  | .vmem => 90
  | .smem => 0
  | _ => 0

abbrev bufTy : (tb : Table) → Fin (tcTables nBuf tb) → BufTy
  | .hbm, ⟨0, _⟩ => ⟨S10000x256, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S10000x10000, .f32⟩
  | .hbm, ⟨5, _⟩ => ⟨S256x32, .f32⟩
  | .hbm, ⟨6, _⟩ => ⟨S32x16, .f32⟩
  | .hbm, ⟨7, _⟩ => ⟨S128x16, .f32⟩
  | .hbm, ⟨8, _⟩ => ⟨S16x16, .f32⟩
  | .hbm, ⟨9, _⟩ => ⟨S16x16, .f32⟩
  | .hbm, ⟨10, _⟩ => ⟨S16x16, .f32⟩
  | .hbm, ⟨11, _⟩ => ⟨S256x32, .f32⟩
  | .hbm, ⟨12, _⟩ => ⟨S32x16, .f32⟩
  | .hbm, ⟨13, _⟩ => ⟨S128x16, .f32⟩
  | .hbm, ⟨14, _⟩ => ⟨S16x16, .f32⟩
  | .hbm, ⟨15, _⟩ => ⟨S16x16, .f32⟩
  | .hbm, ⟨16, _⟩ => ⟨S16x16, .f32⟩
  | .hbm, ⟨17, _⟩ => ⟨S10000x16, .f32⟩
  | .hbm, ⟨18, _⟩ => ⟨S10000x16, .f32⟩
  | .hbm, ⟨19, _⟩ => ⟨S10000x16, .f32⟩
  | .hbm, ⟨20, _⟩ => ⟨S10000x16, .f32⟩
  | .hbm, ⟨21, _⟩ => ⟨S10000x16, .f32⟩
  | .hbm, ⟨22, _⟩ => ⟨S10000x16, .f32⟩
  | .hbm, ⟨23, _⟩ => ⟨S10000x16, .f32⟩
  | .hbm, ⟨24, _⟩ => ⟨S10000x16, .f32⟩
  | .local _ .vmem, ⟨0, _⟩ => ⟨S256x32, .f32⟩
  | .local _ .vmem, ⟨1, _⟩ => ⟨S32x16, .f32⟩
  | .local _ .vmem, ⟨2, _⟩ => ⟨S128x16, .f32⟩
  | .local _ .vmem, ⟨3, _⟩ => ⟨S16x16, .f32⟩
  | .local _ .vmem, ⟨4, _⟩ => ⟨S16x16, .f32⟩
  | .local _ .vmem, ⟨5, _⟩ => ⟨S16x16, .f32⟩
  | .local _ .vmem, ⟨6, _⟩ => ⟨S256x32, .f32⟩
  | .local _ .vmem, ⟨7, _⟩ => ⟨S32x16, .f32⟩
  | .local _ .vmem, ⟨8, _⟩ => ⟨S128x16, .f32⟩
  | .local _ .vmem, ⟨9, _⟩ => ⟨S16x16, .f32⟩
  | .local _ .vmem, ⟨10, _⟩ => ⟨S16x16, .f32⟩
  | .local _ .vmem, ⟨11, _⟩ => ⟨S16x16, .f32⟩
  | .local _ .vmem, ⟨12, _⟩ => ⟨S80x10000, .f32⟩
  | .local _ .vmem, ⟨13, _⟩ => ⟨S80x10000, .f32⟩
  | .local _ .vmem, ⟨14, _⟩ => ⟨S80x10000, .f32⟩
  | .local _ .vmem, ⟨15, _⟩ => ⟨S80x10000, .f32⟩
  | .local _ .vmem, ⟨16, _⟩ => ⟨S80x10000, .f32⟩
  | .local _ .vmem, ⟨17, _⟩ => ⟨S80x10000, .f32⟩
  | .local _ .vmem, ⟨18, _⟩ => ⟨S80x10000, .f32⟩
  | .local _ .vmem, ⟨19, _⟩ => ⟨S80x10000, .f32⟩
  | .local _ .vmem, ⟨20, _⟩ => ⟨S80x10000, .f32⟩
  | .local _ .vmem, ⟨21, _⟩ => ⟨S80x10000, .f32⟩
  | .local _ .vmem, ⟨22, _⟩ => ⟨S10000x256, .f32⟩
  | .local _ .vmem, ⟨23, _⟩ => ⟨S256x32, .f32⟩
  | .local _ .vmem, ⟨24, _⟩ => ⟨S32x16, .f32⟩
  | .local _ .vmem, ⟨25, _⟩ => ⟨S400x16, .f32⟩
  | .local _ .vmem, ⟨26, _⟩ => ⟨S400x16, .f32⟩
  | .local _ .vmem, ⟨27, _⟩ => ⟨S10000x32, .f32⟩
  | .local _ .vmem, ⟨28, _⟩ => ⟨S80x10000, .f32⟩
  | .local _ .vmem, ⟨29, _⟩ => ⟨S80x10000, .f32⟩
  | .local _ .vmem, ⟨30, _⟩ => ⟨S80x10000, .f32⟩
  | .local _ .vmem, ⟨31, _⟩ => ⟨S80x10000, .f32⟩
  | .local _ .vmem, ⟨32, _⟩ => ⟨S80x10000, .f32⟩
  | .local _ .vmem, ⟨33, _⟩ => ⟨S80x10000, .f32⟩
  | .local _ .vmem, ⟨34, _⟩ => ⟨S80x10000, .f32⟩
  | .local _ .vmem, ⟨35, _⟩ => ⟨S80x10000, .f32⟩
  | .local _ .vmem, ⟨36, _⟩ => ⟨S80x10000, .f32⟩
  | .local _ .vmem, ⟨37, _⟩ => ⟨S80x10000, .f32⟩
  | .local _ .vmem, ⟨38, _⟩ => ⟨S10000x128, .f32⟩
  | .local _ .vmem, ⟨39, _⟩ => ⟨S128x16, .f32⟩
  | .local _ .vmem, ⟨40, _⟩ => ⟨S16x16, .f32⟩
  | .local _ .vmem, ⟨41, _⟩ => ⟨S400x16, .f32⟩
  | .local _ .vmem, ⟨42, _⟩ => ⟨S400x16, .f32⟩
  | .local _ .vmem, ⟨43, _⟩ => ⟨S10000x16, .f32⟩
  | .local _ .vmem, ⟨44, _⟩ => ⟨S80x10000, .f32⟩
  | .local _ .vmem, ⟨45, _⟩ => ⟨S80x10000, .f32⟩
  | .local _ .vmem, ⟨46, _⟩ => ⟨S80x10000, .f32⟩
  | .local _ .vmem, ⟨47, _⟩ => ⟨S80x10000, .f32⟩
  | .local _ .vmem, ⟨48, _⟩ => ⟨S80x10000, .f32⟩
  | .local _ .vmem, ⟨49, _⟩ => ⟨S80x10000, .f32⟩
  | .local _ .vmem, ⟨50, _⟩ => ⟨S80x10000, .f32⟩
  | .local _ .vmem, ⟨51, _⟩ => ⟨S80x10000, .f32⟩
  | .local _ .vmem, ⟨52, _⟩ => ⟨S80x10000, .f32⟩
  | .local _ .vmem, ⟨53, _⟩ => ⟨S80x10000, .f32⟩
  | .local _ .vmem, ⟨54, _⟩ => ⟨S10000x16, .f32⟩
  | .local _ .vmem, ⟨55, _⟩ => ⟨S400x16, .f32⟩
  | .local _ .vmem, ⟨56, _⟩ => ⟨S400x16, .f32⟩
  | .local _ .vmem, ⟨57, _⟩ => ⟨S80x10000, .f32⟩
  | .local _ .vmem, ⟨58, _⟩ => ⟨S80x10000, .f32⟩
  | .local _ .vmem, ⟨59, _⟩ => ⟨S80x10000, .f32⟩
  | .local _ .vmem, ⟨60, _⟩ => ⟨S80x10000, .f32⟩
  | .local _ .vmem, ⟨61, _⟩ => ⟨S80x10000, .f32⟩
  | .local _ .vmem, ⟨62, _⟩ => ⟨S80x10000, .f32⟩
  | .local _ .vmem, ⟨63, _⟩ => ⟨S80x10000, .f32⟩
  | .local _ .vmem, ⟨64, _⟩ => ⟨S80x10000, .f32⟩
  | .local _ .vmem, ⟨65, _⟩ => ⟨S80x10000, .f32⟩
  | .local _ .vmem, ⟨66, _⟩ => ⟨S80x10000, .f32⟩
  | .local _ .vmem, ⟨67, _⟩ => ⟨S10000x16, .f32⟩
  | .local _ .vmem, ⟨68, _⟩ => ⟨S400x16, .f32⟩
  | .local _ .vmem, ⟨69, _⟩ => ⟨S400x16, .f32⟩
  | .local _ .vmem, ⟨70, _⟩ => ⟨S10000x16, .f32⟩
  | .local _ .vmem, ⟨71, _⟩ => ⟨S10000x16, .f32⟩
  | .local _ .vmem, ⟨72, _⟩ => ⟨S16x16, .f32⟩
  | .local _ .vmem, ⟨73, _⟩ => ⟨S16x16, .f32⟩
  | .local _ .vmem, ⟨74, _⟩ => ⟨S10000x16, .f32⟩
  | .local _ .vmem, ⟨75, _⟩ => ⟨S10000x16, .f32⟩
  | .local _ .vmem, ⟨76, _⟩ => ⟨S10000x16, .f32⟩
  | .local _ .vmem, ⟨77, _⟩ => ⟨S80x10000, .f32⟩
  | .local _ .vmem, ⟨78, _⟩ => ⟨S80x10000, .f32⟩
  | .local _ .vmem, ⟨79, _⟩ => ⟨S80x10000, .f32⟩
  | .local _ .vmem, ⟨80, _⟩ => ⟨S80x10000, .f32⟩
  | .local _ .vmem, ⟨81, _⟩ => ⟨S80x10000, .f32⟩
  | .local _ .vmem, ⟨82, _⟩ => ⟨S80x10000, .f32⟩
  | .local _ .vmem, ⟨83, _⟩ => ⟨S80x10000, .f32⟩
  | .local _ .vmem, ⟨84, _⟩ => ⟨S80x10000, .f32⟩
  | .local _ .vmem, ⟨85, _⟩ => ⟨S80x10000, .f32⟩
  | .local _ .vmem, ⟨86, _⟩ => ⟨S80x10000, .f32⟩
  | .local _ .vmem, ⟨87, _⟩ => ⟨S10000x16, .f32⟩
  | .local _ .vmem, ⟨88, _⟩ => ⟨S400x16, .f32⟩
  | .local _ .vmem, ⟨89, _⟩ => ⟨S400x16, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v6 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg8_1 : Ref sig .tc := ⟨.vmem, 26, rfl⟩
abbrev cc1_scratch0 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg8_1 : Ref sig .tc := ⟨.vmem, 42, rfl⟩
abbrev cc2_scratch0 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg2_1 : Ref sig .tc := ⟨.vmem, 49, rfl⟩
abbrev cc3_stg3_0 : Ref sig .tc := ⟨.vmem, 50, rfl⟩
abbrev cc3_stg3_1 : Ref sig .tc := ⟨.vmem, 51, rfl⟩
abbrev cc3_stg4_0 : Ref sig .tc := ⟨.vmem, 52, rfl⟩
abbrev cc3_stg4_1 : Ref sig .tc := ⟨.vmem, 53, rfl⟩
abbrev cc3_stg5_0 : Ref sig .tc := ⟨.vmem, 54, rfl⟩
abbrev cc3_stg6_0 : Ref sig .tc := ⟨.vmem, 55, rfl⟩
abbrev cc3_stg6_1 : Ref sig .tc := ⟨.vmem, 56, rfl⟩
abbrev cc4_stg0_0 : Ref sig .tc := ⟨.vmem, 57, rfl⟩
abbrev cc4_stg0_1 : Ref sig .tc := ⟨.vmem, 58, rfl⟩
abbrev cc4_stg1_0 : Ref sig .tc := ⟨.vmem, 59, rfl⟩
abbrev cc4_stg1_1 : Ref sig .tc := ⟨.vmem, 60, rfl⟩
abbrev cc4_stg2_0 : Ref sig .tc := ⟨.vmem, 61, rfl⟩
abbrev cc4_stg2_1 : Ref sig .tc := ⟨.vmem, 62, rfl⟩
abbrev cc4_stg3_0 : Ref sig .tc := ⟨.vmem, 63, rfl⟩
abbrev cc4_stg3_1 : Ref sig .tc := ⟨.vmem, 64, rfl⟩
abbrev cc4_stg4_0 : Ref sig .tc := ⟨.vmem, 65, rfl⟩
abbrev cc4_stg4_1 : Ref sig .tc := ⟨.vmem, 66, rfl⟩
abbrev cc4_stg5_0 : Ref sig .tc := ⟨.vmem, 67, rfl⟩
abbrev cc4_stg6_0 : Ref sig .tc := ⟨.vmem, 68, rfl⟩
abbrev cc4_stg6_1 : Ref sig .tc := ⟨.vmem, 69, rfl⟩
abbrev cc5_stg0_0 : Ref sig .tc := ⟨.vmem, 70, rfl⟩
abbrev cc5_stg1_0 : Ref sig .tc := ⟨.vmem, 71, rfl⟩
abbrev cc5_stg2_0 : Ref sig .tc := ⟨.vmem, 72, rfl⟩
abbrev cc5_stg3_0 : Ref sig .tc := ⟨.vmem, 73, rfl⟩
abbrev cc5_stg4_0 : Ref sig .tc := ⟨.vmem, 74, rfl⟩
abbrev cc5_stg5_0 : Ref sig .tc := ⟨.vmem, 75, rfl⟩
abbrev cc5_stg6_0 : Ref sig .tc := ⟨.vmem, 76, rfl⟩
abbrev cc6_stg0_0 : Ref sig .tc := ⟨.vmem, 77, rfl⟩
abbrev cc6_stg0_1 : Ref sig .tc := ⟨.vmem, 78, rfl⟩
abbrev cc6_stg1_0 : Ref sig .tc := ⟨.vmem, 79, rfl⟩
abbrev cc6_stg1_1 : Ref sig .tc := ⟨.vmem, 80, rfl⟩
abbrev cc6_stg2_0 : Ref sig .tc := ⟨.vmem, 81, rfl⟩
abbrev cc6_stg2_1 : Ref sig .tc := ⟨.vmem, 82, rfl⟩
abbrev cc6_stg3_0 : Ref sig .tc := ⟨.vmem, 83, rfl⟩
abbrev cc6_stg3_1 : Ref sig .tc := ⟨.vmem, 84, rfl⟩
abbrev cc6_stg4_0 : Ref sig .tc := ⟨.vmem, 85, rfl⟩
abbrev cc6_stg4_1 : Ref sig .tc := ⟨.vmem, 86, rfl⟩
abbrev cc6_stg5_0 : Ref sig .tc := ⟨.vmem, 87, rfl⟩
abbrev cc6_stg6_0 : Ref sig .tc := ⟨.vmem, 88, rfl⟩
abbrev cc6_stg6_1 : Ref sig .tc := ⟨.vmem, 89, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem8_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem8_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem6_0 : DmaSem sig := 53
abbrev cc3_sem6_1 : DmaSem sig := 54
abbrev cc4_sem0_0 : DmaSem sig := 55
abbrev cc4_sem0_1 : DmaSem sig := 56
abbrev cc4_sem1_0 : DmaSem sig := 57
abbrev cc4_sem1_1 : DmaSem sig := 58
abbrev cc4_sem2_0 : DmaSem sig := 59
abbrev cc4_sem2_1 : DmaSem sig := 60
abbrev cc4_sem3_0 : DmaSem sig := 61
abbrev cc4_sem3_1 : DmaSem sig := 62
abbrev cc4_sem4_0 : DmaSem sig := 63
abbrev cc4_sem4_1 : DmaSem sig := 64
abbrev cc4_sem5_0 : DmaSem sig := 65
abbrev cc4_sem6_0 : DmaSem sig := 66
abbrev cc4_sem6_1 : DmaSem sig := 67
abbrev cc5_sem0_0 : DmaSem sig := 68
abbrev cc5_sem1_0 : DmaSem sig := 69
abbrev cc5_sem2_0 : DmaSem sig := 70
abbrev cc5_sem3_0 : DmaSem sig := 71
abbrev cc5_sem4_0 : DmaSem sig := 72
abbrev cc5_sem5_0 : DmaSem sig := 73
abbrev cc5_sem6_0 : DmaSem sig := 74
abbrev cc6_sem0_0 : DmaSem sig := 75
abbrev cc6_sem0_1 : DmaSem sig := 76
abbrev cc6_sem1_0 : DmaSem sig := 77
abbrev cc6_sem1_1 : DmaSem sig := 78
abbrev cc6_sem2_0 : DmaSem sig := 79
abbrev cc6_sem2_1 : DmaSem sig := 80
abbrev cc6_sem3_0 : DmaSem sig := 81
abbrev cc6_sem3_1 : DmaSem sig := 82
abbrev cc6_sem4_0 : DmaSem sig := 83
abbrev cc6_sem4_1 : DmaSem sig := 84
abbrev cc6_sem5_0 : DmaSem sig := 85
abbrev cc6_sem6_0 : DmaSem sig := 86
abbrev cc6_sem6_1 : DmaSem sig := 87

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v90 : BitVec 32 := Scalar.addi c0_i32 c32_i32
  let c1_i32 : BitVec 32 := 1#32
  ⟨c0_i32, v90, c1_i32⟩
abbrev stage0_0 : Fin 1 → Memref sig .tc .vmem S256x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S80x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S80x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S80x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S80x10000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S10000x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S400x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc2_transform_1 (i : grid2.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S80x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S80x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S80x10000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S80x10000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S80x10000 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S10000x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S400x16 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc3_transform_1 (i : grid3.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc3_transform_4 (i : grid3.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S80x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S80x10000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S80x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S80x10000 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S80x10000 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S10000x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S400x16 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc4_transform_1 (i : grid4.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc4_transform_3 (i : grid4.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc4_transform_4 (i : grid4.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S80x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S80x10000 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S80x10000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S80x10000 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S80x10000 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S10000x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S400x16 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := .none

abbrev stage5_0 : Fin 1 → Memref sig .tc .vmem S10000x16 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S10000x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S16x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S16x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S10000x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S10000x16 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S10000x16 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev grid6 : Pipeline.Grid := ⟨1, ![25], ![false]⟩

def cc6_transform_0 (i : grid6.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc6_transform_1 (i : grid6.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc6_transform_2 (i : grid6.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc6_transform_3 (i : grid6.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc6_transform_4 (i : grid6.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S80x10000 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S80x10000 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S80x10000 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S80x10000 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S80x10000 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S10000x16 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S400x16 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]
-- ==== ReferenceIdeal.lean ====
abbrev S10000x256 : Shape := ⟨2, ![10000, 256]⟩
abbrev S10000x128 : Shape := ⟨2, ![10000, 128]⟩
abbrev S10000x10000 : Shape := ⟨2, ![10000, 10000]⟩
abbrev S256x32 : Shape := ⟨2, ![256, 32]⟩
abbrev S32x16 : Shape := ⟨2, ![32, 16]⟩
abbrev S128x16 : Shape := ⟨2, ![128, 16]⟩
abbrev S16x16 : Shape := ⟨2, ![16, 16]⟩
abbrev S32x256 : Shape := ⟨2, ![32, 256]⟩
abbrev S32x32 : Shape := ⟨2, ![32, 32]⟩
abbrev S_ : Shape := ⟨0, ![]⟩
abbrev S16x32 : Shape := ⟨2, ![16, 32]⟩
abbrev S16x128 : Shape := ⟨2, ![16, 128]⟩
abbrev S1x32x32 : Shape := ⟨3, ![1, 32, 32]⟩
abbrev S6x32x32 : Shape := ⟨3, ![6, 32, 32]⟩
abbrev S32 : Shape := ⟨1, ![32]⟩
abbrev S32x1 : Shape := ⟨2, ![32, 1]⟩
abbrev S1x32 : Shape := ⟨2, ![1, 32]⟩
abbrev S6x32 : Shape := ⟨2, ![6, 32]⟩
abbrev S6 : Shape := ⟨1, ![6]⟩
abbrev S6x1 : Shape := ⟨2, ![6, 1]⟩
abbrev S6x32x1 : Shape := ⟨3, ![6, 32, 1]⟩
abbrev S6x1x32 : Shape := ⟨3, ![6, 1, 32]⟩
abbrev S1x16x16 : Shape := ⟨3, ![1, 16, 16]⟩
abbrev S10000x32 : Shape := ⟨2, ![10000, 32]⟩
abbrev S10000x16 : Shape := ⟨2, ![10000, 16]⟩
abbrev S16 : Shape := ⟨1, ![16]⟩
abbrev S1x16 : Shape := ⟨2, ![1, 16]⟩

abbrev nBuf : Space → Nat
  | .hbm => 213
  | .vmem => 0
  | .smem => 0
  | _ => 0

abbrev hbmTy0_0 (i : Nat) : BufTy := match i % 128 with
  | 0 => ⟨S10000x256, .f32⟩
  | 1 => ⟨S10000x128, .f32⟩
  | 2 => ⟨S10000x10000, .f32⟩
  | 3 => ⟨S10000x10000, .f32⟩
  | 4 => ⟨S10000x10000, .f32⟩
  | 5 => ⟨S256x32, .f32⟩
  | 6 => ⟨S32x16, .f32⟩
  | 7 => ⟨S128x16, .f32⟩
  | 8 => ⟨S16x16, .f32⟩
  | 9 => ⟨S16x16, .f32⟩
  | 10 => ⟨S16x16, .f32⟩
  | 11 => ⟨S32x256, .f32⟩
  | 12 => ⟨S32x32, .f32⟩
  | 13 => ⟨S_, .i32⟩
  | 14 => ⟨S_, .f32⟩
  | 15 => ⟨S32x32, .f32⟩
  | 16 => ⟨S16x32, .f32⟩
  | 17 => ⟨S16x16, .f32⟩
  | 18 => ⟨S_, .i32⟩
  | 19 => ⟨S_, .f32⟩
  | 20 => ⟨S32x32, .f32⟩
  | 21 => ⟨S16x128, .f32⟩
  | 22 => ⟨S16x16, .f32⟩
  | 23 => ⟨S_, .i32⟩
  | 24 => ⟨S_, .f32⟩
  | 25 => ⟨S32x32, .f32⟩
  | 26 => ⟨S16x16, .f32⟩
  | 27 => ⟨S16x16, .f32⟩
  | 28 => ⟨S_, .i32⟩
  | 29 => ⟨S_, .f32⟩
  | 30 => ⟨S32x32, .f32⟩
  | 31 => ⟨S16x16, .f32⟩
  | 32 => ⟨S16x16, .f32⟩
  | 33 => ⟨S_, .i32⟩
  | 34 => ⟨S_, .f32⟩
  | 35 => ⟨S32x32, .f32⟩
  | 36 => ⟨S16x16, .f32⟩
  | 37 => ⟨S16x16, .f32⟩
  | 38 => ⟨S_, .i32⟩
  | 39 => ⟨S_, .f32⟩
  | 40 => ⟨S32x32, .f32⟩
  | 41 => ⟨S1x32x32, .f32⟩
  | 42 => ⟨S1x32x32, .f32⟩
  | 43 => ⟨S1x32x32, .f32⟩
  | 44 => ⟨S1x32x32, .f32⟩
  | 45 => ⟨S1x32x32, .f32⟩
  | 46 => ⟨S1x32x32, .f32⟩
  | 47 => ⟨S6x32x32, .f32⟩
  | 48 => ⟨S32x32, .i32⟩
  | 49 => ⟨S32x32, .i32⟩
  | 50 => ⟨S_, .i32⟩
  | 51 => ⟨S32x32, .i32⟩
  | 52 => ⟨S32x32, .i32⟩
  | 53 => ⟨S32x32, .i1⟩
  | 54 => ⟨S32x32, .f32⟩
  | 55 => ⟨S_, .f32⟩
  | 56 => ⟨S32x32, .f32⟩
  | 57 => ⟨S32x32, .f32⟩
  | 58 => ⟨S1x32x32, .f32⟩
  | 59 => ⟨S6x32x32, .f32⟩
  | 60 => ⟨S6x32x32, .f32⟩
  | 61 => ⟨S32, .i32⟩
  | 62 => ⟨S32x1, .i32⟩
  | 63 => ⟨S1x32, .i32⟩
  | 64 => ⟨S_, .f32⟩
  | 65 => ⟨S6x32x32, .f32⟩
  | 66 => ⟨S_, .i32⟩
  | 67 => ⟨S_, .i32⟩
  | 68 => ⟨S32x1, .i32⟩
  | 69 => ⟨S1x32, .i32⟩
  | 70 => ⟨S6x32x32, .f32⟩
  | 71 => ⟨S32, .i32⟩
  | 72 => ⟨S_, .i32⟩
  | 73 => ⟨S_, .i32⟩
  | 74 => ⟨S6x32x32, .f32⟩
  | 75 => ⟨S6x32x32, .f32⟩
  | 76 => ⟨S_, .i32⟩
  | 77 => ⟨S_, .i1⟩
  | 78 => ⟨S_, .i32⟩
  | 79 => ⟨S_, .i32⟩
  | 80 => ⟨S_, .i32⟩
  | 81 => ⟨S32x1, .i32⟩
  | 82 => ⟨S32x1, .i1⟩
  | 83 => ⟨S_, .f32⟩
  | 84 => ⟨S_, .f32⟩
  | 85 => ⟨S6x32x32, .i1⟩
  | 86 => ⟨S6x32x32, .f32⟩
  | 87 => ⟨S6x32x32, .f32⟩
  | 88 => ⟨S_, .f32⟩
  | 89 => ⟨S6x32, .f32⟩
  | 90 => ⟨S_, .i32⟩
  | 91 => ⟨S1x32, .i32⟩
  | 92 => ⟨S1x32, .i1⟩
  | 93 => ⟨S_, .f32⟩
  | 94 => ⟨S_, .f32⟩
  | 95 => ⟨S6x32x32, .i1⟩
  | 96 => ⟨S6x32x32, .f32⟩
  | 97 => ⟨S6x32x32, .f32⟩
  | 98 => ⟨S_, .f32⟩
  | 99 => ⟨S6x32, .f32⟩
  | 100 => ⟨S6x32, .f32⟩
  | 101 => ⟨S6x32, .f32⟩
  | 102 => ⟨S_, .i32⟩
  | 103 => ⟨S32, .i32⟩
  | 104 => ⟨S32, .i1⟩
  | 105 => ⟨S_, .f32⟩
  | 106 => ⟨S_, .f32⟩
  | 107 => ⟨S6x32, .i1⟩
  | 108 => ⟨S6x32, .f32⟩
  | 109 => ⟨S6x32, .f32⟩
  | 110 => ⟨S_, .f32⟩
  | 111 => ⟨S6, .f32⟩
  | 112 => ⟨S6, .f32⟩
  | 113 => ⟨S_, .i32⟩
  | 114 => ⟨S32, .i32⟩
  | 115 => ⟨S32, .i1⟩
  | 116 => ⟨S6x1, .f32⟩
  | 117 => ⟨S6x32, .f32⟩
  | 118 => ⟨S6x32, .f32⟩
  | 119 => ⟨S_, .f32⟩
  | 120 => ⟨S_, .f32⟩
  | 121 => ⟨S6x32, .i1⟩
  | 122 => ⟨S6x32, .f32⟩
  | 123 => ⟨S6x32, .f32⟩
  | 124 => ⟨S_, .i32⟩
  | 125 => ⟨S1x32, .i32⟩
  | 126 => ⟨S1x32, .i1⟩
  | 127 => ⟨S6x32x1, .f32⟩
  | _ => ⟨S10000x256, .f32⟩

abbrev hbmTy0_1 (i : Nat) : BufTy := match i % 128 with
  | 0 => ⟨S6x32x32, .i1⟩
  | 1 => ⟨S6x32x32, .f32⟩
  | 2 => ⟨S6x32x32, .f32⟩
  | 3 => ⟨S_, .i32⟩
  | 4 => ⟨S32, .i32⟩
  | 5 => ⟨S32, .i1⟩
  | 6 => ⟨S_, .f32⟩
  | 7 => ⟨S_, .f32⟩
  | 8 => ⟨S32, .f32⟩
  | 9 => ⟨S32, .f32⟩
  | 10 => ⟨S32, .f32⟩
  | 11 => ⟨S6x32, .f32⟩
  | 12 => ⟨S32, .f32⟩
  | 13 => ⟨S1x32, .f32⟩
  | 14 => ⟨S6x32, .f32⟩
  | 15 => ⟨S6x32, .f32⟩
  | 16 => ⟨S6x1, .f32⟩
  | 17 => ⟨S6x32, .f32⟩
  | 18 => ⟨S6x32, .f32⟩
  | 19 => ⟨S_, .i32⟩
  | 20 => ⟨S32x1, .i32⟩
  | 21 => ⟨S32x1, .i1⟩
  | 22 => ⟨S6x1x32, .f32⟩
  | 23 => ⟨S6x32x32, .i1⟩
  | 24 => ⟨S6x32x32, .f32⟩
  | 25 => ⟨S6x32x32, .f32⟩
  | 26 => ⟨S_, .i32⟩
  | 27 => ⟨S_, .i32⟩
  | 28 => ⟨S1x32x32, .f32⟩
  | 29 => ⟨S32x32, .f32⟩
  | 30 => ⟨S32x32, .f32⟩
  | 31 => ⟨S256x32, .f32⟩
  | 32 => ⟨S1x16x16, .f32⟩
  | 33 => ⟨S16x16, .f32⟩
  | 34 => ⟨S16x16, .f32⟩
  | 35 => ⟨S32x16, .f32⟩
  | 36 => ⟨S1x16x16, .f32⟩
  | 37 => ⟨S16x16, .f32⟩
  | 38 => ⟨S16x16, .f32⟩
  | 39 => ⟨S128x16, .f32⟩
  | 40 => ⟨S1x16x16, .f32⟩
  | 41 => ⟨S16x16, .f32⟩
  | 42 => ⟨S16x16, .f32⟩
  | 43 => ⟨S16x16, .f32⟩
  | 44 => ⟨S1x16x16, .f32⟩
  | 45 => ⟨S16x16, .f32⟩
  | 46 => ⟨S16x16, .f32⟩
  | 47 => ⟨S16x16, .f32⟩
  | 48 => ⟨S1x16x16, .f32⟩
  | 49 => ⟨S16x16, .f32⟩
  | 50 => ⟨S16x16, .f32⟩
  | 51 => ⟨S16x16, .f32⟩
  | 52 => ⟨S10000x32, .f32⟩
  | 53 => ⟨S10000x32, .f32⟩
  | 54 => ⟨S10000x32, .f32⟩
  | 55 => ⟨S10000x16, .f32⟩
  | 56 => ⟨S10000x16, .f32⟩
  | 57 => ⟨S10000x16, .f32⟩
  | 58 => ⟨S10000x16, .f32⟩
  | 59 => ⟨S10000x16, .f32⟩
  | 60 => ⟨S10000x16, .f32⟩
  | 61 => ⟨S10000x16, .f32⟩
  | 62 => ⟨S10000x16, .f32⟩
  | 63 => ⟨S10000x16, .f32⟩
  | 64 => ⟨S_, .f32⟩
  | 65 => ⟨S16, .f32⟩
  | 66 => ⟨S_, .f32⟩
  | 67 => ⟨S16, .f32⟩
  | 68 => ⟨S16, .f32⟩
  | 69 => ⟨S1x16, .f32⟩
  | 70 => ⟨S10000x16, .f32⟩
  | 71 => ⟨S10000x16, .f32⟩
  | 72 => ⟨S_, .f32⟩
  | 73 => ⟨S16, .f32⟩
  | 74 => ⟨S_, .f32⟩
  | 75 => ⟨S16, .f32⟩
  | 76 => ⟨S16, .f32⟩
  | 77 => ⟨S1x16, .f32⟩
  | 78 => ⟨S10000x16, .f32⟩
  | 79 => ⟨S10000x16, .f32⟩
  | 80 => ⟨S10000x16, .f32⟩
  | 81 => ⟨S10000x16, .f32⟩
  | 82 => ⟨S10000x16, .f32⟩
  | 83 => ⟨S10000x16, .f32⟩
  | 84 => ⟨S10000x16, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_call2_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_call3_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_call4_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_call5_v0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_c_7 : Ref sig .tc := ⟨.hbm, 66, rfl⟩
abbrev main_c_8 : Ref sig .tc := ⟨.hbm, 67, rfl⟩
abbrev main_v40_0 : Ref sig .tc := ⟨.hbm, 68, rfl⟩
abbrev main_v40_1 : Ref sig .tc := ⟨.hbm, 69, rfl⟩
abbrev main_v40_2 : Ref sig .tc := ⟨.hbm, 70, rfl⟩
abbrev main_v40_3 : Ref sig .tc := ⟨.hbm, 71, rfl⟩
abbrev main_v40_4 : Ref sig .tc := ⟨.hbm, 72, rfl⟩
abbrev main_v40_5 : Ref sig .tc := ⟨.hbm, 73, rfl⟩
abbrev main_v40_6 : Ref sig .tc := ⟨.hbm, 74, rfl⟩
abbrev main_v40_7 : Ref sig .tc := ⟨.hbm, 75, rfl⟩
abbrev main_while0c_c_20 : Ref sig .tc := ⟨.hbm, 76, rfl⟩
abbrev main_while0c_v94 : Ref sig .tc := ⟨.hbm, 77, rfl⟩
abbrev main_while0b_c_20 : Ref sig .tc := ⟨.hbm, 78, rfl⟩
abbrev main_while0b_v94 : Ref sig .tc := ⟨.hbm, 79, rfl⟩
abbrev main_while0b_v95 : Ref sig .tc := ⟨.hbm, 80, rfl⟩
abbrev main_while0b_v96 : Ref sig .tc := ⟨.hbm, 81, rfl⟩
abbrev main_while0b_v97 : Ref sig .tc := ⟨.hbm, 82, rfl⟩
abbrev main_while0b_cst_21 : Ref sig .tc := ⟨.hbm, 83, rfl⟩
abbrev main_while0b_call6_v0 : Ref sig .tc := ⟨.hbm, 84, rfl⟩
abbrev main_while0b_call6_v1 : Ref sig .tc := ⟨.hbm, 85, rfl⟩
abbrev main_while0b_call6_v2 : Ref sig .tc := ⟨.hbm, 86, rfl⟩
abbrev main_while0b_v98 : Ref sig .tc := ⟨.hbm, 87, rfl⟩
abbrev main_while0b_cst_22 : Ref sig .tc := ⟨.hbm, 88, rfl⟩
abbrev main_while0b_v99 : Ref sig .tc := ⟨.hbm, 89, rfl⟩
abbrev main_while0b_v100 : Ref sig .tc := ⟨.hbm, 90, rfl⟩
abbrev main_while0b_v101 : Ref sig .tc := ⟨.hbm, 91, rfl⟩
abbrev main_while0b_v102 : Ref sig .tc := ⟨.hbm, 92, rfl⟩
abbrev main_while0b_cst_23 : Ref sig .tc := ⟨.hbm, 93, rfl⟩
abbrev main_while0b_call7_v0 : Ref sig .tc := ⟨.hbm, 94, rfl⟩
abbrev main_while0b_call7_v1 : Ref sig .tc := ⟨.hbm, 95, rfl⟩
abbrev main_while0b_call7_v2 : Ref sig .tc := ⟨.hbm, 96, rfl⟩
abbrev main_while0b_v103 : Ref sig .tc := ⟨.hbm, 97, rfl⟩
abbrev main_while0b_cst_24 : Ref sig .tc := ⟨.hbm, 98, rfl⟩
abbrev main_while0b_v104 : Ref sig .tc := ⟨.hbm, 99, rfl⟩
abbrev main_while0b_v105 : Ref sig .tc := ⟨.hbm, 100, rfl⟩
abbrev main_while0b_v106 : Ref sig .tc := ⟨.hbm, 101, rfl⟩
abbrev main_while0b_v107 : Ref sig .tc := ⟨.hbm, 102, rfl⟩
abbrev main_while0b_v108 : Ref sig .tc := ⟨.hbm, 103, rfl⟩
abbrev main_while0b_v109 : Ref sig .tc := ⟨.hbm, 104, rfl⟩
abbrev main_while0b_cst_25 : Ref sig .tc := ⟨.hbm, 105, rfl⟩
abbrev main_while0b_call8_v0 : Ref sig .tc := ⟨.hbm, 106, rfl⟩
abbrev main_while0b_call8_v1 : Ref sig .tc := ⟨.hbm, 107, rfl⟩
abbrev main_while0b_call8_v2 : Ref sig .tc := ⟨.hbm, 108, rfl⟩
abbrev main_while0b_v110 : Ref sig .tc := ⟨.hbm, 109, rfl⟩
abbrev main_while0b_cst_26 : Ref sig .tc := ⟨.hbm, 110, rfl⟩
abbrev main_while0b_v111 : Ref sig .tc := ⟨.hbm, 111, rfl⟩
abbrev main_while0b_v112 : Ref sig .tc := ⟨.hbm, 112, rfl⟩
abbrev main_while0b_v113 : Ref sig .tc := ⟨.hbm, 113, rfl⟩
abbrev main_while0b_v114 : Ref sig .tc := ⟨.hbm, 114, rfl⟩
abbrev main_while0b_v115 : Ref sig .tc := ⟨.hbm, 115, rfl⟩
abbrev main_while0b_v116 : Ref sig .tc := ⟨.hbm, 116, rfl⟩
abbrev main_while0b_v117 : Ref sig .tc := ⟨.hbm, 117, rfl⟩
abbrev main_while0b_v118 : Ref sig .tc := ⟨.hbm, 118, rfl⟩
abbrev main_while0b_cst_27 : Ref sig .tc := ⟨.hbm, 119, rfl⟩
abbrev main_while0b_call9_v0 : Ref sig .tc := ⟨.hbm, 120, rfl⟩
abbrev main_while0b_call9_v1 : Ref sig .tc := ⟨.hbm, 121, rfl⟩
abbrev main_while0b_call9_v2 : Ref sig .tc := ⟨.hbm, 122, rfl⟩
abbrev main_while0b_v119 : Ref sig .tc := ⟨.hbm, 123, rfl⟩
abbrev main_while0b_v120 : Ref sig .tc := ⟨.hbm, 124, rfl⟩
abbrev main_while0b_v121 : Ref sig .tc := ⟨.hbm, 125, rfl⟩
abbrev main_while0b_v122 : Ref sig .tc := ⟨.hbm, 126, rfl⟩
abbrev main_while0b_v123 : Ref sig .tc := ⟨.hbm, 127, rfl⟩
abbrev main_while0b_call10_v0 : Ref sig .tc := ⟨.hbm, 128, rfl⟩
abbrev main_while0b_call10_v1 : Ref sig .tc := ⟨.hbm, 129, rfl⟩
abbrev main_while0b_v124 : Ref sig .tc := ⟨.hbm, 130, rfl⟩
abbrev main_while0b_v125 : Ref sig .tc := ⟨.hbm, 131, rfl⟩
abbrev main_while0b_v126 : Ref sig .tc := ⟨.hbm, 132, rfl⟩
abbrev main_while0b_v127 : Ref sig .tc := ⟨.hbm, 133, rfl⟩
abbrev main_while0b_cst_28 : Ref sig .tc := ⟨.hbm, 134, rfl⟩
abbrev main_while0b_cst_29 : Ref sig .tc := ⟨.hbm, 135, rfl⟩
abbrev main_while0b_call11_v0 : Ref sig .tc := ⟨.hbm, 136, rfl⟩
abbrev main_while0b_call11_v1 : Ref sig .tc := ⟨.hbm, 137, rfl⟩
abbrev main_while0b_v128 : Ref sig .tc := ⟨.hbm, 138, rfl⟩
abbrev main_while0b_v129 : Ref sig .tc := ⟨.hbm, 139, rfl⟩
abbrev main_while0b_v130 : Ref sig .tc := ⟨.hbm, 140, rfl⟩
abbrev main_while0b_v131 : Ref sig .tc := ⟨.hbm, 141, rfl⟩
abbrev main_while0b_v132 : Ref sig .tc := ⟨.hbm, 142, rfl⟩
abbrev main_while0b_v133 : Ref sig .tc := ⟨.hbm, 143, rfl⟩
abbrev main_while0b_v134 : Ref sig .tc := ⟨.hbm, 144, rfl⟩
abbrev main_while0b_v135 : Ref sig .tc := ⟨.hbm, 145, rfl⟩
abbrev main_while0b_v136 : Ref sig .tc := ⟨.hbm, 146, rfl⟩
abbrev main_while0b_v137 : Ref sig .tc := ⟨.hbm, 147, rfl⟩
abbrev main_while0b_v138 : Ref sig .tc := ⟨.hbm, 148, rfl⟩
abbrev main_while0b_v139 : Ref sig .tc := ⟨.hbm, 149, rfl⟩
abbrev main_while0b_v140 : Ref sig .tc := ⟨.hbm, 150, rfl⟩
abbrev main_while0b_call12_v0 : Ref sig .tc := ⟨.hbm, 151, rfl⟩
abbrev main_while0b_call12_v1 : Ref sig .tc := ⟨.hbm, 152, rfl⟩
abbrev main_while0b_v141 : Ref sig .tc := ⟨.hbm, 153, rfl⟩
abbrev main_while0b_c_30 : Ref sig .tc := ⟨.hbm, 154, rfl⟩
abbrev main_while0b_v142 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_v45 : Ref sig .tc := ⟨.hbm, 160, rfl⟩
abbrev main_v46 : Ref sig .tc := ⟨.hbm, 161, rfl⟩
abbrev main_v47 : Ref sig .tc := ⟨.hbm, 162, rfl⟩
abbrev main_v48 : Ref sig .tc := ⟨.hbm, 163, rfl⟩
abbrev main_v49 : Ref sig .tc := ⟨.hbm, 164, rfl⟩
abbrev main_v50 : Ref sig .tc := ⟨.hbm, 165, rfl⟩
abbrev main_v51 : Ref sig .tc := ⟨.hbm, 166, rfl⟩
abbrev main_v52 : Ref sig .tc := ⟨.hbm, 167, rfl⟩
abbrev main_v53 : Ref sig .tc := ⟨.hbm, 168, rfl⟩
abbrev main_v54 : Ref sig .tc := ⟨.hbm, 169, rfl⟩
abbrev main_v55 : Ref sig .tc := ⟨.hbm, 170, rfl⟩
abbrev main_v56 : Ref sig .tc := ⟨.hbm, 171, rfl⟩
abbrev main_v57 : Ref sig .tc := ⟨.hbm, 172, rfl⟩
abbrev main_v58 : Ref sig .tc := ⟨.hbm, 173, rfl⟩
abbrev main_v59 : Ref sig .tc := ⟨.hbm, 174, rfl⟩
abbrev main_v60 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩
abbrev main_v64 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_v70 : Ref sig .tc := ⟨.hbm, 185, rfl⟩
abbrev main_v71 : Ref sig .tc := ⟨.hbm, 186, rfl⟩
abbrev main_v72 : Ref sig .tc := ⟨.hbm, 187, rfl⟩
abbrev main_v73 : Ref sig .tc := ⟨.hbm, 188, rfl⟩
abbrev main_v74 : Ref sig .tc := ⟨.hbm, 189, rfl⟩
abbrev main_v75 : Ref sig .tc := ⟨.hbm, 190, rfl⟩
abbrev main_v76 : Ref sig .tc := ⟨.hbm, 191, rfl⟩
abbrev main_cst_9 : Ref sig .tc := ⟨.hbm, 192, rfl⟩
abbrev main_v77 : Ref sig .tc := ⟨.hbm, 193, rfl⟩
abbrev main_cst_10 : Ref sig .tc := ⟨.hbm, 194, rfl⟩
abbrev main_v78 : Ref sig .tc := ⟨.hbm, 195, rfl⟩
abbrev main_v79 : Ref sig .tc := ⟨.hbm, 196, rfl⟩
abbrev main_v80 : Ref sig .tc := ⟨.hbm, 197, rfl⟩
abbrev main_v81 : Ref sig .tc := ⟨.hbm, 198, rfl⟩
abbrev main_v82 : Ref sig .tc := ⟨.hbm, 199, rfl⟩
abbrev main_cst_11 : Ref sig .tc := ⟨.hbm, 200, rfl⟩
abbrev main_v83 : Ref sig .tc := ⟨.hbm, 201, rfl⟩
abbrev main_cst_12 : Ref sig .tc := ⟨.hbm, 202, rfl⟩
abbrev main_v84 : Ref sig .tc := ⟨.hbm, 203, rfl⟩
abbrev main_v85 : Ref sig .tc := ⟨.hbm, 204, rfl⟩
abbrev main_v86 : Ref sig .tc := ⟨.hbm, 205, rfl⟩
abbrev main_v87 : Ref sig .tc := ⟨.hbm, 206, rfl⟩
abbrev main_v88 : Ref sig .tc := ⟨.hbm, 207, rfl⟩
abbrev main_v89 : Ref sig .tc := ⟨.hbm, 208, rfl⟩
abbrev main_v90 : Ref sig .tc := ⟨.hbm, 209, rfl⟩
abbrev main_v91 : Ref sig .tc := ⟨.hbm, 210, rfl⟩
abbrev main_v92 : Ref sig .tc := ⟨.hbm, 211, rfl⟩
abbrev main_v93 : Ref sig .tc := ⟨.hbm, 212, rfl⟩

abbrev nD : Nat := 1
abbrev τ : Topo := Topo.v7x

variable {F : FTy → Type} [FloatOps F]

abbrev main_while0_count : Scf.Loop 32 := ⟨0#32, 32#32, 1#32⟩
-- ==== Proof.Frames.lean ====
/- The reference's frame: its run leaves its arguments alone, and it has no counters. -/
module

public import proofs.«01_k».proof.Defs
public import proofs.«01_k».proof.Proof.Gen.ReferenceIdeal.Run
public import proofs.«01_k».proof.Proof.Gen.ReferenceIdeal
public import Idealize.ShloMosaic.Lib.Quiescent
public import Idealize.ShloMosaic.Adequacy
public import Idealize.ShloMosaic.Init

@[expose] public section

noncomputable section

namespace Cert.Proof

open Idealize.ShloMosaic Idealize.ShloMosaic.TcCoe
open Idealize.SL Idealize.SL.Sem

/-- The reference ends with its arguments as they were and no counter raised. -/
theorem frame_reference : Cert.quiescent_ReferenceIdeal (hReferenceIdeal := Cert.ReferenceIdeal.Gen.facts) := by
  intro m ρ _
  exact (θ_run _ _ _).mono
    (fun r h => ⟨fun c => (h c).2.2.2, sem_eq_zero_of_no_sems rfl _⟩) (Cert.ReferenceIdeal.Value.run m ρ)

end Cert.Proof

end
-- ==== Proof.KernelIdeal.Strips.lean ====
/-
The calls made of row strips (calls 3, 4 and 6), and the gridless call 5: what each leaves in its
output blocks, and the triple of each body.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Calls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The rectangles the row-tiled bodies load and store. -/
abbrev rWide : Rect S10000x16 := Rect.unit (s := S10000x16) ![0, 0] S10000x16.size inb_S10000x16_S10000x16_0_0
abbrev rRows : Rect S80x10000 := Rect.unit (s := S80x10000) ![0, 0] S80x10000.size inb_S80x10000_S80x10000_0_0
abbrev rOut0 : Rect S400x16 := Rect.unit (s := S400x16) ![0, 0] S80x16.size inb_S400x16_S80x16_0_0
abbrev rOut1 : Rect S400x16 := Rect.unit (s := S400x16) ![80, 0] S80x16.size inb_S400x16_S80x16_80_0
abbrev rOut2 : Rect S400x16 := Rect.unit (s := S400x16) ![160, 0] S80x16.size inb_S400x16_S80x16_160_0
abbrev rOut3 : Rect S400x16 := Rect.unit (s := S400x16) ![240, 0] S80x16.size inb_S400x16_S80x16_240_0
abbrev rOut4 : Rect S400x16 := Rect.unit (s := S400x16) ![320, 0] S80x16.size inb_S400x16_S80x16_320_0
abbrev rSq : Rect S16x16 := Rect.unit (s := S16x16) ![0, 0] S16x16.size inb_S16x16_S16x16_0_0

/-- Five row strips of 80 rows stacked into a 400-row block. -/
def stack5 (p0 p1 p2 p3 p4 : Vec F S80x16 .f32) : Vec F S400x16 .f32 :=
  View.canon [⟨rOut4, p4⟩, ⟨rOut3, p3⟩, ⟨rOut2, p2⟩, ⟨rOut1, p1⟩, ⟨rOut0, p0⟩]

/-- The five strips cover the block. -/
theorem cover5 (p0 p1 p2 p3 p4 : Vec F S80x16 .f32) (y : S400x16.Idx) :
    ∃ pc ∈ ([⟨rOut4, p4⟩, ⟨rOut3, p3⟩, ⟨rOut2, p2⟩, ⟨rOut1, p1⟩, ⟨rOut0, p0⟩] : List (View.Piece (Elt F) S400x16 .f32)), y ∈ pc.1.set :=
  View.cover_of_tiled [⟨rOut4, p4⟩, ⟨rOut3, p3⟩, ⟨rOut2, p2⟩, ⟨rOut1, p1⟩, ⟨rOut0, p0⟩] S80x16.size (by rfl) y

/-- One store of a whole 10000 x 16 buffer covers it. -/
theorem coverWide (p : Vec F S10000x16 .f32) (y : S10000x16.Idx) :
    ∃ pc ∈ ([⟨rWide, p⟩] : List (View.Piece (Elt F) S10000x16 .f32)), y ∈ pc.1.set :=
  View.cover_of_tiled [⟨rWide, p⟩] S10000x16.size (by rfl) y

variable (V : (c : Dev nD) → (b : Ref sig .tc) → Buf (Elt F) ((c : Thread nD τ).loc b))
/-! ## Call 3: five row strips of `tanh (flt · a)` -/

/-- The block window `w` of call 3 stages at point `t`, read from the entry contents `V`. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The block the body of call 3 leaves, from its inputs. -/
def out3 (x0 : Vec F S80x10000 .f32) (x1 : Vec F S80x10000 .f32) (x2 : Vec F S80x10000 .f32) (x3 : Vec F S80x10000 .f32) (x4 : Vec F S80x10000 .f32) (x5 : Vec F S10000x16 .f32) : Vec F S400x16 .f32 :=
  stack5 (k3_pay2 (View.ld x5 rWide) (View.ld x0 rRows)) (k3_pay3 (View.ld x5 rWide) (View.ld x1 rRows)) (k3_pay4 (View.ld x5 rWide) (View.ld x2 rRows)) (k3_pay5 (View.ld x5 rWide) (View.ld x3 rRows)) (k3_pay6 (View.ld x5 rWide) (View.ld x4 rRows))

set_option maxHeartbeats 1000000 in
/-- The body of call 3 on whole buffers: the inputs stay, each output ends at the contents named above. -/
theorem sound_kernel3 (c : Dev nD) (E : Set ℕ) (i : grid3.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x16 .f32) (harg6 : arg6.IsWhole) (arg7 : Memref sig .tc .vmem S400x16 .f32) (harg7 : arg7.IsWhole)
    (x0 : Vec F S80x10000 .f32) (x1 : Vec F S80x10000 .f32) (x2 : Vec F S80x10000 .f32) (x3 : Vec F S80x10000 .f32) (x4 : Vec F S80x10000 .f32) (x5 : Vec F S10000x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3 x0 x1 x2 x3 x4 x5)) -∗ K ⟨⟩))
      ⊢ wp frame (wpE (defs₀ (F := F)) Variants.none c none) E (cc3__mms_body i arg1 harg1 arg2 harg2 arg3 harg3 arg4 harg4 arg5 harg5 arg6 harg6 arg7 harg7) K := by
  simp only [cc3__mms_body_eq_skeleton]; unfold cc3__mms_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5 _ _ _ _ _)

/-- The proof data of call 3: every input window holds its block, the output window the body's block. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ t := Pipeline.ΦA spec3 c
  q w := Pipeline.shareOf spec3 w
  owed _ := 0

theorem A_eq3 (c : Dev nD) (w : Fin cfg3.W) : (dat3 V c).A w = V c (Pipeline.arrRef spec3 w) := by
  dsimp only [dat3]

/-! The contents each window holds after the body, and each input before it. -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3 (iblk3 V c 0 t) (iblk3 V c 1 t) (iblk3 V c 2 t) (iblk3 V c 3 t) (iblk3 V c 4 t) (iblk3 V c 5 t) := by dsimp only [dat3]
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)

/-- What the body of call 3 is given at point `t`. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: its triple at the staged blocks. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) :
    BodyObligation (dat3 (F := F) V c) (defs₀ (F := F)) Variants.none () Set.univ := fun t => by
  rw [bigSep_W3, bigSep_W3, defs₀_row3]
  exact triple_restated (sound_body3 V c t) rfl .rfl fun _ => .rfl

/-! ## Call 4: five row strips of `tanh (flt · a)` -/

/-- The block window `w` of call 4 stages at point `t`, read from the entry contents `V`. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The block the body of call 4 leaves, from its inputs. -/
def out4 (x0 : Vec F S80x10000 .f32) (x1 : Vec F S80x10000 .f32) (x2 : Vec F S80x10000 .f32) (x3 : Vec F S80x10000 .f32) (x4 : Vec F S80x10000 .f32) (x5 : Vec F S10000x16 .f32) : Vec F S400x16 .f32 :=
  stack5 (k4_pay2 (View.ld x5 rWide) (View.ld x0 rRows)) (k4_pay3 (View.ld x5 rWide) (View.ld x1 rRows)) (k4_pay4 (View.ld x5 rWide) (View.ld x2 rRows)) (k4_pay5 (View.ld x5 rWide) (View.ld x3 rRows)) (k4_pay6 (View.ld x5 rWide) (View.ld x4 rRows))

set_option maxHeartbeats 1000000 in
/-- The body of call 4 on whole buffers: the inputs stay, each output ends at the contents named above. -/
theorem sound_kernel4 (c : Dev nD) (E : Set ℕ) (i : grid4.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x16 .f32) (harg6 : arg6.IsWhole) (arg7 : Memref sig .tc .vmem S400x16 .f32) (harg7 : arg7.IsWhole)
    (x0 : Vec F S80x10000 .f32) (x1 : Vec F S80x10000 .f32) (x2 : Vec F S80x10000 .f32) (x3 : Vec F S80x10000 .f32) (x4 : Vec F S80x10000 .f32) (x5 : Vec F S10000x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4 x0 x1 x2 x3 x4 x5)) -∗ K ⟨⟩))
      ⊢ wp frame (wpE (defs₀ (F := F)) Variants.none c none) E (cc4__mms_body i arg1 harg1 arg2 harg2 arg3 harg3 arg4 harg4 arg5 harg5 arg6 harg6 arg7 harg7) K := by
  simp only [cc4__mms_body_eq_skeleton]; unfold cc4__mms_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5 _ _ _ _ _)

/-- The proof data of call 4: every input window holds its block, the output window the body's block. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4 (iblk4 V c 0 t) (iblk4 V c 1 t) (iblk4 V c 2 t) (iblk4 V c 3 t) (iblk4 V c 4 t) (iblk4 V c 5 t)
  Φ t := Pipeline.ΦA spec4 c
  q w := Pipeline.shareOf spec4 w
  owed _ := 0

theorem A_eq4 (c : Dev nD) (w : Fin cfg4.W) : (dat4 V c).A w = V c (Pipeline.arrRef spec4 w) := by
  dsimp only [dat4]

/-! The contents each window holds after the body, and each input before it. -/

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4 (iblk4 V c 0 t) (iblk4 V c 1 t) (iblk4 V c 2 t) (iblk4 V c 3 t) (iblk4 V c 4 t) (iblk4 V c 5 t) := by dsimp only [dat4]
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl)
    (fun t => by rw [after4_5]; unfold Dat.blockOf iblk4; rw [A_eq4]; try rfl) t d).trans
    (by unfold Dat.fetched Dat.blockOf iblk4; rw [A_eq4]; try rfl)

/-- What the body of call 4 is given at point `t`. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- What it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: its triple at the staged blocks. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) :
    BodyObligation (dat4 (F := F) V c) (defs₀ (F := F)) Variants.none () Set.univ := fun t => by
  rw [bigSep_W4, bigSep_W4, defs₀_row4]
  exact triple_restated (sound_body4 V c t) rfl .rfl fun _ => .rfl

/-! ## Call 6: five row strips of `tanh (flt · a)` -/

/-- The block window `w` of call 6 stages at point `t`, read from the entry contents `V`. -/
def iblk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- The block the body of call 6 leaves, from its inputs. -/
def out6 (x0 : Vec F S80x10000 .f32) (x1 : Vec F S80x10000 .f32) (x2 : Vec F S80x10000 .f32) (x3 : Vec F S80x10000 .f32) (x4 : Vec F S80x10000 .f32) (x5 : Vec F S10000x16 .f32) : Vec F S400x16 .f32 :=
  stack5 (k6_pay2 (View.ld x5 rWide) (View.ld x0 rRows)) (k6_pay3 (View.ld x5 rWide) (View.ld x1 rRows)) (k6_pay4 (View.ld x5 rWide) (View.ld x2 rRows)) (k6_pay5 (View.ld x5 rWide) (View.ld x3 rRows)) (k6_pay6 (View.ld x5 rWide) (View.ld x4 rRows))

set_option maxHeartbeats 1000000 in
/-- The body of call 6 on whole buffers: the inputs stay, each output ends at the contents named above. -/
theorem sound_kernel6 (c : Dev nD) (E : Set ℕ) (i : grid6.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x16 .f32) (harg6 : arg6.IsWhole) (arg7 : Memref sig .tc .vmem S400x16 .f32) (harg7 : arg7.IsWhole)
    (x0 : Vec F S80x10000 .f32) (x1 : Vec F S80x10000 .f32) (x2 : Vec F S80x10000 .f32) (x3 : Vec F S80x10000 .f32) (x4 : Vec F S80x10000 .f32) (x5 : Vec F S10000x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4 x5)) -∗ K ⟨⟩))
      ⊢ wp frame (wpE (defs₀ (F := F)) Variants.none c none) E (cc6__mms_body i arg1 harg1 arg2 harg2 arg3 harg3 arg4 harg4 arg5 harg5 arg6 harg6 arg7 harg7) K := by
  simp only [cc6__mms_body_eq_skeleton]; unfold cc6__mms_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5 _ _ _ _ _)

/-- The proof data of call 6: every input window holds its block, the output window the body's block. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6 (iblk6 V c 0 t) (iblk6 V c 1 t) (iblk6 V c 2 t) (iblk6 V c 3 t) (iblk6 V c 4 t) (iblk6 V c 5 t)
  Φ t := Pipeline.ΦA spec6 c
  q w := Pipeline.shareOf spec6 w
  owed _ := 0

theorem A_eq6 (c : Dev nD) (w : Fin cfg6.W) : (dat6 V c).A w = V c (Pipeline.arrRef spec6 w) := by
  dsimp only [dat6]

/-! The contents each window holds after the body, and each input before it. -/

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6 (iblk6 V c 0 t) (iblk6 V c 1 t) (iblk6 V c 2 t) (iblk6 V c 3 t) (iblk6 V c 4 t) (iblk6 V c 5 t) := by dsimp only [dat6]
theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl)
    (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (fun _ => rfl) (fun _ _ _ => rfl)
    (fun t => by rw [after6_5]; unfold Dat.blockOf iblk6; rw [A_eq6]; try rfl) t d).trans
    (by unfold Dat.fetched Dat.blockOf iblk6; rw [A_eq6]; try rfl)

/-- What the body of call 6 is given at point `t`. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- What it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: its triple at the staged blocks. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row6 (t : Fin cfg6.N) :
    defs₀ (F := F) .tc cfg6.body (cfg6.bodyArgs t (cfg6.slots t)) = bodyAt6 t := by
  unfold defs₀; rw [Defs.onTc_tc]

theorem body_obligation6 (c : Dev nD) :
    BodyObligation (dat6 (F := F) V c) (defs₀ (F := F)) Variants.none () Set.univ := fun t => by
  rw [bigSep_W6, bigSep_W6, defs₀_row6]
  exact triple_restated (sound_body6 V c t) rfl .rfl fun _ => .rfl

/-! ## Call 5: centering and the hidden layer -/

/-- The block window `w` of call 5 stages at point `t`, read from the entry contents `V`. -/
def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- The first output of call 5: the first feature array less its column means. -/
def out5_4 (x0 : Vec F S10000x16 .f32) (x1 : Vec F S10000x16 .f32) (x2 : Vec F S16x16 .f32) (x3 : Vec F S16x16 .f32) : Vec F S10000x16 .f32 :=
  View.canon [⟨rWide, k5_pay1 (View.ld x0 rWide) (View.ld x0 rWide)⟩]
/-- The second output: the second feature array less its column means. -/
def out5_5 (x0 : Vec F S10000x16 .f32) (x1 : Vec F S10000x16 .f32) (x2 : Vec F S16x16 .f32) (x3 : Vec F S16x16 .f32) : Vec F S10000x16 .f32 :=
  View.canon [⟨rWide, k5_pay2 (View.ld x1 rWide) (View.ld x1 rWide)⟩]
/-- The third output: the hidden layer. -/
def out5_6 (x0 : Vec F S10000x16 .f32) (x1 : Vec F S10000x16 .f32) (x2 : Vec F S16x16 .f32) (x3 : Vec F S16x16 .f32) : Vec F S10000x16 .f32 :=
  View.canon [⟨rWide, k5_pay3 (View.ld x0 rWide) (View.ld x0 rWide) (View.ld x1 rWide) (View.ld x1 rWide) (View.ld x2 rSq) (View.ld x3 rSq)⟩]

set_option maxHeartbeats 1000000 in
/-- The body of call 5 on whole buffers: the inputs stay, each output ends at the contents named above. -/
theorem sound_kernel5 (c : Dev nD) (E : Set ℕ) (arg0 : Memref sig .tc .vmem S10000x16 .f32) (harg0 : arg0.IsWhole) (arg1 : Memref sig .tc .vmem S10000x16 .f32) (harg1 : arg1.IsWhole) (arg2 : Memref sig .tc .vmem S16x16 .f32) (harg2 : arg2.IsWhole) (arg3 : Memref sig .tc .vmem S16x16 .f32) (harg3 : arg3.IsWhole) (arg4 : Memref sig .tc .vmem S10000x16 .f32) (harg4 : arg4.IsWhole) (arg5 : Memref sig .tc .vmem S10000x16 .f32) (harg5 : arg5.IsWhole) (arg6 : Memref sig .tc .vmem S10000x16 .f32) (harg6 : arg6.IsWhole)
    (x0 : Vec F S10000x16 .f32) (x1 : Vec F S10000x16 .f32) (x2 : Vec F S16x16 .f32) (x3 : Vec F S16x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out5_4 x0 x1 x2 x3) ∗ owns (c : Thread nD τ) arg5 fullShare (out5_5 x0 x1 x2 x3) ∗ owns (c : Thread nD τ) arg6 fullShare (out5_6 x0 x1 x2 x3)) -∗ K ⟨⟩))
      ⊢ wp frame (wpE (defs₀ (F := F)) Variants.none c none) E (cc5__fuse_body arg0 harg0 arg1 harg1 arg2 harg2 arg3 harg3 arg4 harg4 arg5 harg5 arg6 harg6) K := by
  simp only [cc5__fuse_body_eq_skeleton]; unfold cc5__fuse_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverWide _)
  isplitl [H5]
  · iexists _; isplitr
    swap; · iexact H5
    ipureintro
    exact View.read_writes_eq_canon _ _ _ (coverWide _)
  iexists _; isplitr
  swap; · iexact H6
  ipureintro
  exact View.read_writes_eq_canon _ _ _ (coverWide _)

/-- The proof data of call 5. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
    | ⟨5, _⟩ => out5_5 (iblk5 V c 0 t) (iblk5 V c 1 t) (iblk5 V c 2 t) (iblk5 V c 3 t)
    | ⟨6, _⟩ => out5_6 (iblk5 V c 0 t) (iblk5 V c 1 t) (iblk5 V c 2 t) (iblk5 V c 3 t)
  Φ t := Pipeline.ΦA spec5 c
  q _ := fullShare
  owed _ := 0

theorem A_eq5 (c : Dev nD) (w : Fin cfg5.W) : (dat5 V c).A w = V c (Pipeline.arrRef spec5 w) := by
  dsimp only [dat5]

/-! The contents each window holds after the body, and each input before it. -/

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]
theorem after5_5 (c : Dev nD) (t : Fin cfg5.N) : (dat5 V c).after 5 t = out5_5 (iblk5 V c 0 t) (iblk5 V c 1 t) (iblk5 V c 2 t) (iblk5 V c 3 t) := by dsimp only [dat5]
theorem after5_6 (c : Dev nD) (t : Fin cfg5.N) : (dat5 V c).after 6 t = out5_6 (iblk5 V c 0 t) (iblk5 V c 1 t) (iblk5 V c 2 t) (iblk5 V c 3 t) := by dsimp only [dat5]
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

/-- What the body of call 5 is given at point `t`. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- What it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: its triple at the staged blocks. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row5 (t : Fin cfg5.N) :
    defs₀ (F := F) .tc cfg5.body (cfg5.bodyArgs t (cfg5.slots t)) = bodyAt5 t := by
  unfold defs₀; rw [Defs.onTc_tc]

theorem body_obligation5 (c : Dev nD) :
    BodyObligation (dat5 (F := F) V c) (defs₀ (F := F)) Variants.none () Set.univ := fun t => by
  rw [bigSep_W5, bigSep_W5, defs₀_row5]
  exact triple_restated (sound_body5 V c t) rfl .rfl fun _ => .rfl

end Cert.KernelIdeal.Calls

end
-- ==== Proof.KernelIdeal.Layers.lean ====
/-
Calls 1 and 2: the first layer of each view. The body keeps `x · w1` in a scratch buffer that the first
grid point fills and the later points read.
-/
module

public import proofs.«01_k».proof.Proof.KernelIdeal.Strips

@[expose] public section

set_option maxRecDepth 16384

noncomputable section

namespace Cert.KernelIdeal.Calls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## Call 1: `tanh (flt · (x · w1)) · w2` in row strips, `x · w1` kept in the scratch buffer -/

abbrev rA1 : Rect S10000x32 := Rect.unit (s := S10000x32) ![0, 0] S10000x32.size inb_S10000x32_S10000x32_0_0
abbrev rX1 : Rect S10000x256 := Rect.unit (s := S10000x256) ![0, 0] S10000x256.size inb_S10000x256_S10000x256_0_0
abbrev rW1 : Rect S256x32 := Rect.unit (s := S256x32) ![0, 0] S256x32.size inb_S256x32_S256x32_0_0
abbrev rU1 : Rect S32x16 := Rect.unit (s := S32x16) ![0, 0] S32x16.size inb_S32x16_S32x16_0_0

/-- The block window `w` of call 1 stages at point `t`, read from the entry contents `V`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- What the first point leaves in the scratch buffer of call 1: the features times the first weights. -/
def fill1 (x5 : Vec F S10000x256 .f32) (x6 : Vec F S256x32 .f32) : Vec F S10000x32 .f32 :=
  View.canon [⟨rA1, k1_pay2 (View.ld x5 rX1) (View.ld x6 rW1)⟩]

theorem coverA1 (p : Vec F S10000x32 .f32) (y : S10000x32.Idx) :
    ∃ pc ∈ ([⟨rA1, p⟩] : List (View.Piece (Elt F) S10000x32 .f32)), y ∈ pc.1.set :=
  View.cover_of_tiled [⟨rA1, p⟩] S10000x32.size (by rfl) y

/-- The block the body of call 1 leaves, from the scratch contents `a` and its inputs. -/
def out1 (a : Vec F S10000x32 .f32) (x0 : Vec F S80x10000 .f32) (x1 : Vec F S80x10000 .f32) (x2 : Vec F S80x10000 .f32) (x3 : Vec F S80x10000 .f32) (x4 : Vec F S80x10000 .f32) (x7 : Vec F S32x16 .f32) : Vec F S400x16 .f32 :=
  stack5 (k1_pay4 (View.ld a rA1) (View.ld x7 rU1) (View.ld x0 rRows)) (k1_pay5 (View.ld a rA1) (View.ld x7 rU1) (View.ld x1 rRows))
    (k1_pay6 (View.ld a rA1) (View.ld x7 rU1) (View.ld x2 rRows)) (k1_pay7 (View.ld a rA1) (View.ld x7 rU1) (View.ld x3 rRows))
    (k1_pay1 (View.ld a rA1) (k1_pay3 (View.ld x7 rU1)) (View.ld x4 rRows))

/-- The test by which the body fills the scratch buffer. -/
abbrev first1 (i : grid1.Coords) : Prop :=
  (Scalar.cmpi .ne (Scalar.extui (Scalar.cmpi .eq (BitVec.ofNat 32 (i 0).val) 0#32)) 0#32) = 1#1
/-- It holds at the first point only. -/
theorem first1_iff (t : Fin cfg1.N) : first1 (grid1.coords t) ↔ t.val % 25 = 0 := by
  have ht : t.val < 25 := Nat.lt_of_lt_of_eq t.isLt N_1
  have e0 : (grid1.coords t 0).val = t.val / 1 % 25 := Pipeline.Grid.coords_val t 0 (by decide) rfl
  simp only [first1, e0]
  word_cmp

set_option maxHeartbeats 2000000 in
/-- The body of call 1 at the first point. -/
theorem sound_kernel1_A (c : Dev nD) (E : Set ℕ) (i : grid1.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x256 .f32) (harg6 : arg6.IsWhole) (arg7 : Memref sig .tc .vmem S256x32 .f32) (harg7 : arg7.IsWhole) (arg8 : Memref sig .tc .vmem S32x16 .f32) (harg8 : arg8.IsWhole) (arg9 : Memref sig .tc .vmem S400x16 .f32) (harg9 : arg9.IsWhole) (arg10 : Memref sig .tc .vmem S10000x32 .f32) (harg10 : arg10.IsWhole) (hc : first1 i)
    (x0 : Vec F S80x10000 .f32) (x1 : Vec F S80x10000 .f32) (x2 : Vec F S80x10000 .f32) (x3 : Vec F S80x10000 .f32) (x4 : Vec F S80x10000 .f32) (x5 : Vec F S10000x256 .f32) (x6 : Vec F S256x32 .f32) (x7 : Vec F S32x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1 (fill1 x5 x6) x0 x1 x2 x3 x4 x7) ∗ owns (c : Thread nD τ) arg10 fullShare (fill1 x5 x6)) -∗ K ⟨⟩))
      ⊢ wp frame (wpE (defs₀ (F := F)) Variants.none c none) E (cc1__l1_body i arg1 harg1 arg2 harg2 arg3 harg3 arg4 harg4 arg5 harg5 arg6 harg6 arg7 harg7 arg8 harg8 arg9 harg9 arg10 harg10) K := by
  simp only [cc1__l1_body_eq_skeleton]; unfold cc1__l1_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover5 _ _ _ _ _)).trans ?_
    have hv : sound_kernel1_A.sl.v3 c arg6 arg7 arg10 f5 f6
        = View.ld (fill1 (View.read (Elt F) arg6.view f5) (View.read (Elt F) arg7.view f6)) rA1 :=
      View.readCov_eq_canon' _ _ _
    have hr : sound_kernel1_A.sl.r_1 c arg4 arg6 arg7 arg8 arg10 f3 f5 f6 f7
        = k1_pay7 (View.ld (fill1 (View.read (Elt F) arg6.view f5) (View.read (Elt F) arg7.view f6)) rA1)
          (View.ld (View.read (Elt F) arg8.view f7) rU1) (View.ld (View.read (Elt F) arg4.view f3) rRows) :=
      congrArg (fun a => k1_pay7 a _ _) hv
    rw [hv, hr]
    rfl
  iexists _; isplitr
  swap; · iexact H9
  ipureintro
  exact View.read_writes_eq_canon _ _ _ (coverA1 _)

set_option maxHeartbeats 2000000 in
/-- The body of call 1 at a later point. -/
theorem sound_kernel1_B (c : Dev nD) (E : Set ℕ) (i : grid1.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x256 .f32) (harg6 : arg6.IsWhole) (arg7 : Memref sig .tc .vmem S256x32 .f32) (harg7 : arg7.IsWhole) (arg8 : Memref sig .tc .vmem S32x16 .f32) (harg8 : arg8.IsWhole) (arg9 : Memref sig .tc .vmem S400x16 .f32) (harg9 : arg9.IsWhole) (arg10 : Memref sig .tc .vmem S10000x32 .f32) (harg10 : arg10.IsWhole) (hc : ¬ first1 i)
    (x0 : Vec F S80x10000 .f32) (x1 : Vec F S80x10000 .f32) (x2 : Vec F S80x10000 .f32) (x3 : Vec F S80x10000 .f32) (x4 : Vec F S80x10000 .f32) (x5 : Vec F S10000x256 .f32) (x6 : Vec F S256x32 .f32) (x7 : Vec F S32x16 .f32) (a : Vec F S10000x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1 a x0 x1 x2 x3 x4 x7) ∗ owns (c : Thread nD τ) arg10 fullShare a) -∗ K ⟨⟩))
      ⊢ wp frame (wpE (defs₀ (F := F)) Variants.none c none) E (cc1__l1_body i arg1 harg1 arg2 harg2 arg3 harg3 arg4 harg4 arg5 harg5 arg6 harg6 arg7 harg7 arg8 harg8 arg9 harg9 arg10 harg10) K := by
  simp only [cc1__l1_body_eq_skeleton]; unfold cc1__l1_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf0 hf1 hf2 hf3 hf4 hf5 hf6 hf7 hf9
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover5 _ _ _ _ _)
  iexists f9; isplitr; · ipureintro; rfl
  iexact H9

/-- The scratch buffer of call 1, filled from the features and weights the call finds. -/
def scratch1 (c : Dev nD) : Vec F S10000x32 .f32 := fill1 (iblk1 V c 5 ⟨0, by decide⟩) (iblk1 V c 6 ⟨0, by decide⟩)

/-- Every point stages the same features and first weights. -/
theorem fill1_eq (c : Dev nD) (t : Fin cfg1.N) : fill1 (iblk1 V c 5 t) (iblk1 V c 6 t) = scratch1 V c := rfl

/-- Between points: the scratch buffer, at anything before the first point and filled after it. -/
def Phi1 (c : Dev nD) : ℕ → sProp 𝕄
  | 0 => Pipeline.ΦA spec1 c
  | _ + 1 => iprop(iprop(owns (c : Thread nD τ) (Memref.whole cc1_scratch0 : Memref sig .tc .vmem S10000x32 .f32) fullShare (scratch1 V c)
      ∗ Pipeline.scopedRestBut spec1 c [cc1_scratch0]) ∗ (∃ r, prngReg c r))

theorem Phi1_succ (c : Dev nD) (n : ℕ) :
    Phi1 V c (n + 1) = iprop(iprop(owns (c : Thread nD τ) (Memref.whole cc1_scratch0 : Memref sig .tc .vmem S10000x32 .f32) fullShare (scratch1 V c)
      ∗ Pipeline.scopedRestBut spec1 c [cc1_scratch0]) ∗ (∃ r, prngReg c r)) := rfl

theorem Phi1_start (c : Dev nD) :
    (Pipeline.ΦA spec1 c : sProp 𝕄) = iprop(iprop((∃ d, owns (c : Thread nD τ) (Memref.whole cc1_scratch0 : Memref sig .tc .vmem S10000x32 .f32) fullShare d)
      ∗ Pipeline.scopedRestBut spec1 c [cc1_scratch0]) ∗ (∃ r, prngReg c r)) := by
  unfold Pipeline.ΦA; rw [scopedRest1_split]; simp only [owns_whole]; try rfl

/-- The proof data of call 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1 (scratch1 V c) (iblk1 V c 0 t) (iblk1 V c 1 t) (iblk1 V c 2 t) (iblk1 V c 3 t) (iblk1 V c 4 t) (iblk1 V c 7 t)
  Φ t := Phi1 V c t.val
  q w := Pipeline.shareOf spec1 w
  owed _ := 0

theorem A_eq1 (c : Dev nD) (w : Fin cfg1.W) : (dat1 V c).A w = V c (Pipeline.arrRef spec1 w) := by
  dsimp only [dat1]

/-! The contents each window holds after the body, and each input before it. -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1 (scratch1 V c) (iblk1 V c 0 t) (iblk1 V c 1 t) (iblk1 V c 2 t) (iblk1 V c 3 t) (iblk1 V c 4 t) (iblk1 V c 7 t) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-- What the body of call 1 is given at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 2000000 in
/-- The body at any point: the first point fills the scratch buffer, the others find it filled. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8]
  rw [show (dat1 V c).Φ t.succ = Phi1 V c (t.val + 1) from rfl, show (dat1 V c).Φ t.castSucc = Phi1 V c t.val from rfl]
  have hN : t.val < 25 := lt_of_lt_of_eq t.isLt (show cfg1.N = 25 from N_1)
  rcases Nat.eq_zero_or_pos t.val with hz | hz
  · rw [hz, show Phi1 V c 0 = Pipeline.ΦA spec1 c from rfl, Phi1_start]
    rw [← fill1_eq V c t]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1_A c Set.univ (grid1.coords t) _ _ _ _ _ _ _ _ _ _ _ _ _ _ _ _ _ _ _ _ ((first1_iff t).mpr (by omega)) (iblk1 V c 0 t) (iblk1 V c 1 t) (iblk1 V c 2 t) (iblk1 V c 3 t) (iblk1 V c 4 t) (iblk1 V c 5 t) (iblk1 V c 6 t) (iblk1 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS HR Hg]
    · rw [Phi1_succ]
      isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · obtain ⟨n, hn⟩ : ∃ n, t.val = n + 1 := ⟨t.val - 1, by omega⟩
    have hc : ¬ first1 (grid1.coords t) := fun h => by have := (first1_iff t).mp h; omega
    rw [hn, Phi1_succ]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1_B c Set.univ (grid1.coords t) _ _ _ _ _ _ _ _ _ _ _ _ _ _ _ _ _ _ _ _ hc (iblk1 V c 0 t) (iblk1 V c 1 t) (iblk1 V c 2 t) (iblk1 V c 3 t) (iblk1 V c 4 t) (iblk1 V c 5 t) (iblk1 V c 6 t) (iblk1 V c 7 t) (scratch1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS HR Hg]
    · rw [Phi1_succ]
      isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) :
    BodyObligation (dat1 (F := F) V c) (defs₀ (F := F)) Variants.none () Set.univ := fun t => by
  rw [bigSep_W1, bigSep_W1, defs₀_row1]
  exact triple_restated (sound_body1 V c t) rfl .rfl fun _ => .rfl

/-- The call starts with the scratch buffer at anything. -/
theorem hin1 (c : Dev nD) : Pipeline.ΦA spec1 c ⊢ (dat1 V c).Φ 0 := by
  rw [show (dat1 V c).Φ 0 = Pipeline.ΦA spec1 c from rfl]

/-- Its contents are forgotten when the call returns. -/
theorem hout1 (c : Dev nD) : (dat1 V c).Φ (Fin.last cfg1.N) ⊢ Pipeline.ΦA spec1 c := by
  rw [show (dat1 V c).Φ (Fin.last cfg1.N) = Phi1 V c (24 + 1) from
    congrArg (Phi1 V c) (show (Fin.last cfg1.N).val = 25 from N_1), Phi1_succ, Phi1_start]
  iintro ⟨⟨HS, HR⟩, Hg⟩
  isplitl [HS HR]
  · isplitl [HS]
    · iexists _; iexact HS
    iexact HR
  iexact Hg

/-! ## Call 2: `tanh (flt · (x · w1)) · w2` in row strips, `x · w1` kept in the scratch buffer -/

abbrev rA2 : Rect S10000x16 := Rect.unit (s := S10000x16) ![0, 0] S10000x16.size inb_S10000x16_S10000x16_0_0
abbrev rX2 : Rect S10000x128 := Rect.unit (s := S10000x128) ![0, 0] S10000x128.size inb_S10000x128_S10000x128_0_0
abbrev rW2 : Rect S128x16 := Rect.unit (s := S128x16) ![0, 0] S128x16.size inb_S128x16_S128x16_0_0
abbrev rU2 : Rect S16x16 := Rect.unit (s := S16x16) ![0, 0] S16x16.size inb_S16x16_S16x16_0_0

/-- The block window `w` of call 2 stages at point `t`, read from the entry contents `V`. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- What the first point leaves in the scratch buffer of call 2: the features times the first weights. -/
def fill2 (x5 : Vec F S10000x128 .f32) (x6 : Vec F S128x16 .f32) : Vec F S10000x16 .f32 :=
  View.canon [⟨rA2, k2_pay2 (View.ld x5 rX2) (View.ld x6 rW2)⟩]

theorem coverA2 (p : Vec F S10000x16 .f32) (y : S10000x16.Idx) :
    ∃ pc ∈ ([⟨rA2, p⟩] : List (View.Piece (Elt F) S10000x16 .f32)), y ∈ pc.1.set :=
  View.cover_of_tiled [⟨rA2, p⟩] S10000x16.size (by rfl) y

/-- The block the body of call 2 leaves, from the scratch contents `a` and its inputs. -/
def out2 (a : Vec F S10000x16 .f32) (x0 : Vec F S80x10000 .f32) (x1 : Vec F S80x10000 .f32) (x2 : Vec F S80x10000 .f32) (x3 : Vec F S80x10000 .f32) (x4 : Vec F S80x10000 .f32) (x7 : Vec F S16x16 .f32) : Vec F S400x16 .f32 :=
  stack5 (k2_pay4 (View.ld a rA2) (View.ld x7 rU2) (View.ld x0 rRows)) (k2_pay5 (View.ld a rA2) (View.ld x7 rU2) (View.ld x1 rRows))
    (k2_pay6 (View.ld a rA2) (View.ld x7 rU2) (View.ld x2 rRows)) (k2_pay7 (View.ld a rA2) (View.ld x7 rU2) (View.ld x3 rRows))
    (k2_pay1 (View.ld a rA2) (k2_pay3 (View.ld x7 rU2)) (View.ld x4 rRows))

/-- The test by which the body fills the scratch buffer. -/
abbrev first2 (i : grid2.Coords) : Prop :=
  (Scalar.cmpi .ne (Scalar.extui (Scalar.cmpi .eq (BitVec.ofNat 32 (i 0).val) 0#32)) 0#32) = 1#1
/-- It holds at the first point only. -/
theorem first2_iff (t : Fin cfg2.N) : first2 (grid2.coords t) ↔ t.val % 25 = 0 := by
  have ht : t.val < 25 := Nat.lt_of_lt_of_eq t.isLt N_2
  have e0 : (grid2.coords t 0).val = t.val / 1 % 25 := Pipeline.Grid.coords_val t 0 (by decide) rfl
  simp only [first2, e0]
  word_cmp

set_option maxHeartbeats 2000000 in
/-- The body of call 2 at the first point. -/
theorem sound_kernel2_A (c : Dev nD) (E : Set ℕ) (i : grid2.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x16 .f32) (harg7 : arg7.IsWhole) (arg8 : Memref sig .tc .vmem S16x16 .f32) (harg8 : arg8.IsWhole) (arg9 : Memref sig .tc .vmem S400x16 .f32) (harg9 : arg9.IsWhole) (arg10 : Memref sig .tc .vmem S10000x16 .f32) (harg10 : arg10.IsWhole) (hc : first2 i)
    (x0 : Vec F S80x10000 .f32) (x1 : Vec F S80x10000 .f32) (x2 : Vec F S80x10000 .f32) (x3 : Vec F S80x10000 .f32) (x4 : Vec F S80x10000 .f32) (x5 : Vec F S10000x128 .f32) (x6 : Vec F S128x16 .f32) (x7 : Vec F S16x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2 (fill2 x5 x6) x0 x1 x2 x3 x4 x7) ∗ owns (c : Thread nD τ) arg10 fullShare (fill2 x5 x6)) -∗ K ⟨⟩))
      ⊢ wp frame (wpE (defs₀ (F := F)) Variants.none c none) E (cc2__l1_body i arg1 harg1 arg2 harg2 arg3 harg3 arg4 harg4 arg5 harg5 arg6 harg6 arg7 harg7 arg8 harg8 arg9 harg9 arg10 harg10) K := by
  simp only [cc2__l1_body_eq_skeleton]; unfold cc2__l1_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover5 _ _ _ _ _)).trans ?_
    have hv : sound_kernel2_A.sl.v3 c arg6 arg7 arg10 f5 f6
        = View.ld (fill2 (View.read (Elt F) arg6.view f5) (View.read (Elt F) arg7.view f6)) rA2 :=
      View.readCov_eq_canon' _ _ _
    have hr : sound_kernel2_A.sl.r_1 c arg4 arg6 arg7 arg8 arg10 f3 f5 f6 f7
        = k2_pay7 (View.ld (fill2 (View.read (Elt F) arg6.view f5) (View.read (Elt F) arg7.view f6)) rA2)
          (View.ld (View.read (Elt F) arg8.view f7) rU2) (View.ld (View.read (Elt F) arg4.view f3) rRows) :=
      congrArg (fun a => k2_pay7 a _ _) hv
    rw [hv, hr]
    rfl
  iexists _; isplitr
  swap; · iexact H9
  ipureintro
  exact View.read_writes_eq_canon _ _ _ (coverA2 _)

set_option maxHeartbeats 2000000 in
/-- The body of call 2 at a later point. -/
theorem sound_kernel2_B (c : Dev nD) (E : Set ℕ) (i : grid2.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x16 .f32) (harg7 : arg7.IsWhole) (arg8 : Memref sig .tc .vmem S16x16 .f32) (harg8 : arg8.IsWhole) (arg9 : Memref sig .tc .vmem S400x16 .f32) (harg9 : arg9.IsWhole) (arg10 : Memref sig .tc .vmem S10000x16 .f32) (harg10 : arg10.IsWhole) (hc : ¬ first2 i)
    (x0 : Vec F S80x10000 .f32) (x1 : Vec F S80x10000 .f32) (x2 : Vec F S80x10000 .f32) (x3 : Vec F S80x10000 .f32) (x4 : Vec F S80x10000 .f32) (x5 : Vec F S10000x128 .f32) (x6 : Vec F S128x16 .f32) (x7 : Vec F S16x16 .f32) (a : Vec F S10000x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2 a x0 x1 x2 x3 x4 x7) ∗ owns (c : Thread nD τ) arg10 fullShare a) -∗ K ⟨⟩))
      ⊢ wp frame (wpE (defs₀ (F := F)) Variants.none c none) E (cc2__l1_body i arg1 harg1 arg2 harg2 arg3 harg3 arg4 harg4 arg5 harg5 arg6 harg6 arg7 harg7 arg8 harg8 arg9 harg9 arg10 harg10) K := by
  simp only [cc2__l1_body_eq_skeleton]; unfold cc2__l1_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf0 hf1 hf2 hf3 hf4 hf5 hf6 hf7 hf9
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover5 _ _ _ _ _)
  iexists f9; isplitr; · ipureintro; rfl
  iexact H9

/-- The scratch buffer of call 2, filled from the features and weights the call finds. -/
def scratch2 (c : Dev nD) : Vec F S10000x16 .f32 := fill2 (iblk2 V c 5 ⟨0, by decide⟩) (iblk2 V c 6 ⟨0, by decide⟩)

/-- Every point stages the same features and first weights. -/
theorem fill2_eq (c : Dev nD) (t : Fin cfg2.N) : fill2 (iblk2 V c 5 t) (iblk2 V c 6 t) = scratch2 V c := rfl

/-- Between points: the scratch buffer, at anything before the first point and filled after it. -/
def Phi2 (c : Dev nD) : ℕ → sProp 𝕄
  | 0 => Pipeline.ΦA spec2 c
  | _ + 1 => iprop(iprop(owns (c : Thread nD τ) (Memref.whole cc2_scratch0 : Memref sig .tc .vmem S10000x16 .f32) fullShare (scratch2 V c)
      ∗ Pipeline.scopedRestBut spec2 c [cc2_scratch0]) ∗ (∃ r, prngReg c r))

theorem Phi2_succ (c : Dev nD) (n : ℕ) :
    Phi2 V c (n + 1) = iprop(iprop(owns (c : Thread nD τ) (Memref.whole cc2_scratch0 : Memref sig .tc .vmem S10000x16 .f32) fullShare (scratch2 V c)
      ∗ Pipeline.scopedRestBut spec2 c [cc2_scratch0]) ∗ (∃ r, prngReg c r)) := rfl

theorem Phi2_start (c : Dev nD) :
    (Pipeline.ΦA spec2 c : sProp 𝕄) = iprop(iprop((∃ d, owns (c : Thread nD τ) (Memref.whole cc2_scratch0 : Memref sig .tc .vmem S10000x16 .f32) fullShare d)
      ∗ Pipeline.scopedRestBut spec2 c [cc2_scratch0]) ∗ (∃ r, prngReg c r)) := by
  unfold Pipeline.ΦA; rw [scopedRest2_split]; simp only [owns_whole]; try rfl

/-- The proof data of call 2. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2 (scratch2 V c) (iblk2 V c 0 t) (iblk2 V c 1 t) (iblk2 V c 2 t) (iblk2 V c 3 t) (iblk2 V c 4 t) (iblk2 V c 7 t)
  Φ t := Phi2 V c t.val
  q w := Pipeline.shareOf spec2 w
  owed _ := 0

theorem A_eq2 (c : Dev nD) (w : Fin cfg2.W) : (dat2 V c).A w = V c (Pipeline.arrRef spec2 w) := by
  dsimp only [dat2]

/-! The contents each window holds after the body, and each input before it. -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2 (scratch2 V c) (iblk2 V c 0 t) (iblk2 V c 1 t) (iblk2 V c 2 t) (iblk2 V c 3 t) (iblk2 V c 4 t) (iblk2 V c 7 t) := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [A_eq2]; try rfl) t d).trans
    (by unfold Dat.fetched Dat.blockOf iblk2; rw [A_eq2]; try rfl)

/-- What the body of call 2 is given at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 2000000 in
/-- The body at any point: the first point fills the scratch buffer, the others find it filled. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl,
    after2_0, after2_1, after2_2, after2_3, after2_4, after2_5, after2_6, after2_7, after2_8]
  rw [show (dat2 V c).Φ t.succ = Phi2 V c (t.val + 1) from rfl, show (dat2 V c).Φ t.castSucc = Phi2 V c t.val from rfl]
  have hN : t.val < 25 := lt_of_lt_of_eq t.isLt (show cfg2.N = 25 from N_2)
  rcases Nat.eq_zero_or_pos t.val with hz | hz
  · rw [hz, show Phi2 V c 0 = Pipeline.ΦA spec2 c from rfl, Phi2_start]
    rw [← fill2_eq V c t]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_A c Set.univ (grid2.coords t) _ _ _ _ _ _ _ _ _ _ _ _ _ _ _ _ _ _ _ _ ((first2_iff t).mpr (by omega)) (iblk2 V c 0 t) (iblk2 V c 1 t) (iblk2 V c 2 t) (iblk2 V c 3 t) (iblk2 V c 4 t) (iblk2 V c 5 t) (iblk2 V c 6 t) (iblk2 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS HR Hg]
    · rw [Phi2_succ]
      isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · obtain ⟨n, hn⟩ : ∃ n, t.val = n + 1 := ⟨t.val - 1, by omega⟩
    have hc : ¬ first2 (grid2.coords t) := fun h => by have := (first2_iff t).mp h; omega
    rw [hn, Phi2_succ]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_B c Set.univ (grid2.coords t) _ _ _ _ _ _ _ _ _ _ _ _ _ _ _ _ _ _ _ _ hc (iblk2 V c 0 t) (iblk2 V c 1 t) (iblk2 V c 2 t) (iblk2 V c 3 t) (iblk2 V c 4 t) (iblk2 V c 5 t) (iblk2 V c 6 t) (iblk2 V c 7 t) (scratch2 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS HR Hg]
    · rw [Phi2_succ]
      isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) :
    BodyObligation (dat2 (F := F) V c) (defs₀ (F := F)) Variants.none () Set.univ := fun t => by
  rw [bigSep_W2, bigSep_W2, defs₀_row2]
  exact triple_restated (sound_body2 V c t) rfl .rfl fun _ => .rfl

/-- The call starts with the scratch buffer at anything. -/
theorem hin2 (c : Dev nD) : Pipeline.ΦA spec2 c ⊢ (dat2 V c).Φ 0 := by
  rw [show (dat2 V c).Φ 0 = Pipeline.ΦA spec2 c from rfl]

/-- Its contents are forgotten when the call returns. -/
theorem hout2 (c : Dev nD) : (dat2 V c).Φ (Fin.last cfg2.N) ⊢ Pipeline.ΦA spec2 c := by
  rw [show (dat2 V c).Φ (Fin.last cfg2.N) = Phi2 V c (24 + 1) from
    congrArg (Phi2 V c) (show (Fin.last cfg2.N).val = 25 from N_2), Phi2_succ, Phi2_start]
  iintro ⟨⟨HS, HR⟩, Hg⟩
  isplitl [HS HR]
  · isplitl [HS]
    · iexists _; iexact HS
    iexact HR
  iexact Hg

end Cert.KernelIdeal.Calls

end
-- ==== Proof.KernelIdeal.Ortho.lean ====
/-
Call 0: the six weights normalised. The pure functions one weight goes through, the loop that factors
all six at once, and the triple of the body.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Gen.KernelIdeal.Loops

@[expose] public section

set_option maxRecDepth 16384

noncomputable section

namespace Cert.KernelIdeal.Calls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What one weight goes through -/

/-- One refinement of the inverse square root `r` of `a`. -/
def refine (a r : F .f32) : F .f32 :=
  Scalar.mulf r (Scalar.subf (Scalar.ofBits .f32 0x3FC00000#32)
    (Scalar.mulf (Scalar.mulf (Scalar.mulf (Scalar.ofBits .f32 0x3F000000#32) a) r) r))

/-- The inverse square root of `a`, refined twice. -/
def invRoot (a : F .f32) : F .f32 := refine a (refine a (Scalar.rsqrt a))

/-! ### Matrices of side 32 -/

/-- Row numbers of a square of side 32. -/
def rowIx32 : IVec S32x32 32 := iota .tc S32x32 32 [0] iota_S32x32_d0_w32
/-- Column numbers of a square of side 32. -/
def colIx32 : IVec S32x32 32 := iota .tc S32x32 32 [1] iota_S32x32_d1_w32

/-- The inverse square root of the pivot `A j j`, found by masking and summing. -/
def pivot32 (R C : IVec S32x32 32) (A : FVec F S32x32 .f32) (j : BitVec 32) : F .f32 :=
  invRoot (extractAt ![0, 0, 0]
    (shapeCast S1x1x1
      (multiReduction .add [1, 2] S1
        (shapeCast S1x32x32
          (select (andi (cmpi .eq R (broadcast S32x32 j)) (cmpi .eq C (broadcast S32x32 j))) A
            (broadcast S32x32 (Scalar.ofBits .f32 0x00000000#32)))
          shapeCasts_S32x32_S1x32x32)
        0x00000000#32 reduces_S1x32x32_S1 (.inl rfl) rfl)
      shapeCasts_S1_S1x1x1) inpos_S1x1x1_p0_0_0)

/-- Column `j` of `A` over the pivot's root, zero above row `j`. -/
def colOf32 (R C : IVec S32x32 32) (A : FVec F S32x32 .f32) (j : BitVec 32) : FVec F S32x1 .f32 :=
  select (cmpi .sge (iota .tc S32x1 32 [0] iota_S32x1_d0_w32) (broadcast S32x1 j))
    (mulf
      (shapeCast S32x1
        (multiReduction .add [1] S32
          (select (cmpi .eq C (broadcast S32x32 j)) A (broadcast S32x32 (Scalar.ofBits .f32 0x00000000#32)))
          0x00000000#32 reduces_S32x32_S32 (.inl rfl) rfl)
        shapeCasts_S32_S32x1)
      (broadcast S32x1 (pivot32 R C A j)))
    (broadcast S32x1 (Scalar.ofBits .f32 0x00000000#32))

/-- Row `j` of `A` over the pivot's root, zero left of column `j`. -/
def rowOf32 (R C : IVec S32x32 32) (A : FVec F S32x32 .f32) (j : BitVec 32) : FVec F S1x32 .f32 :=
  select (cmpi .sge (iota .tc S1x32 32 [1] iota_S1x32_d1_w32) (broadcast S1x32 j))
    (mulf
      (shapeCast S1x32
        (multiReduction .add [0] S32
          (select (cmpi .eq R (broadcast S32x32 j)) A (broadcast S32x32 (Scalar.ofBits .f32 0x00000000#32)))
          0x00000000#32 reduces_S32x32_S32_2 (.inl rfl) rfl)
        shapeCasts_S32_S1x32)
      (broadcast S1x32 (pivot32 R C A j)))
    (broadcast S1x32 (Scalar.ofBits .f32 0x00000000#32))

/-- What is left of `A` when the product of its scaled column and row `j` is taken away. -/
def next32 (R C : IVec S32x32 32) (A : FVec F S32x32 .f32) (j : BitVec 32) : FVec F S32x32 .f32 :=
  subf A (mulf (broadcastTo S32x32 (colOf32 R C A j) broadcasts_S32x1_S32x32)
    (broadcastTo S32x32 (rowOf32 R C A j) broadcasts_S1x32_S32x32))

/-- `L` with its column `j` replaced by the scaled column of `A`. -/
def put32 (R C : IVec S32x32 32) (A L : FVec F S32x32 .f32) (j : BitVec 32) : FVec F S32x32 .f32 :=
  select (cmpi .eq C (broadcast S32x32 j))
    (broadcastTo S32x32 (shapeCast S32x1 (colOf32 R C A j) shapeCasts_S32x1_S32x1) broadcasts_S32x1_S32x32) L

/-- One trip of the factorisation. -/
def trip32 (R C : IVec S32x32 32) (k : ℕ) (s : FVec F S32x32 .f32 × FVec F S32x32 .f32) :
    FVec F S32x32 .f32 × FVec F S32x32 .f32 :=
  (next32 R C s.1 (Scf.iv 0#32 1#32 k), put32 R C s.1 s.2 (Scf.iv 0#32 1#32 k))

/-- The remainder and the factor before trip `k`. -/
def chol32 (R C : IVec S32x32 32) (G : FVec F S32x32 .f32) : ℕ → FVec F S32x32 .f32 × FVec F S32x32 .f32
  | 0 => (G, broadcast S32x32 (Scalar.ofBits .f32 0x00000000#32))
  | k + 1 => trip32 R C k (chol32 R C G k)

/-- A constant on the diagonal, another off it. -/
def diag32 (a b : BitVec 32) : FVec F S32x32 .f32 :=
  select (cmpi .eq rowIx32 colIx32) (broadcast S32x32 (Scalar.ofBits .f32 a)) (broadcast S32x32 (Scalar.ofBits .f32 b))

/-- One refinement of the reciprocal `x` of `d`. -/
def recip32 (d x : FVec F S32x32 .f32) : FVec F S32x32 .f32 :=
  mulf x (subf (broadcast S32x32 (Scalar.ofBits .f32 0x40000000#32)) (mulf d x))

/-- The diagonal of `L`, one elsewhere. -/
def diagOf32 (L : FVec F S32x32 .f32) : FVec F S32x32 .f32 :=
  select (cmpi .eq rowIx32 colIx32) L (broadcast S32x32 (Scalar.ofBits .f32 0x3F800000#32))

/-- The reciprocals of the diagonal of `L`, zero elsewhere. -/
def start32 (L : FVec F S32x32 .f32) : FVec F S32x32 .f32 :=
  select (cmpi .eq rowIx32 colIx32)
    (recip32 (diagOf32 L) (recip32 (diagOf32 L) (divf (broadcast S32x32 (Scalar.ofBits .f32 0x3F800000#32)) (diagOf32 L))))
    (broadcast S32x32 (Scalar.ofBits .f32 0x00000000#32))

/-- The matrix product by broadcasting and summing over the shared index. -/
def mm32 (A B : FVec F S32x32 .f32) : FVec F S32x32 .f32 :=
  multiReduction .add [1] S32x32
    (mulf (broadcastTo S32x32x32 (shapeCast S32x32x1 A shapeCasts_S32x32_S32x32x1) broadcasts_S32x32x1_S32x32x32)
      (broadcastTo S32x32x32 (shapeCast S1x32x32 B shapeCasts_S32x32_S1x32x32) broadcasts_S1x32x32_S32x32x32))
    0x00000000#32 reduces_S32x32x32_S32x32 (.inl rfl) rfl

/-- One Newton round `X (2 - L X)`. -/
def newton32 (L X : FVec F S32x32 .f32) : FVec F S32x32 .f32 :=
  mm32 X (subf (diag32 0x40000000#32 0x00000000#32) (mm32 L X))

/-- The inverse of the factor: five rounds from the diagonal's reciprocals. -/
def inv32 (L : FVec F S32x32 .f32) : FVec F S32x32 .f32 :=
  newton32 L (newton32 L (newton32 L (newton32 L (newton32 L (start32 L)))))

/-- The factor of `G` after all 32 trips. -/
def factor32 (G : FVec F S32x32 .f32) : FVec F S32x32 .f32 := (chol32 rowIx32 colIx32 G 32).2

/-- The inverse rounded once and transposed. -/
def turned32 (L : FVec F S32x32 .f32) : FVec F S32x32 .f32 :=
  transpose S32x32 [1, 0] (extf .f32 (truncf .bf16 (inv32 L) bitsLt_bf16_f32) bitsLt_bf16_f32) transposes_S32x32_p1_0_S32x32

/-! ### Matrices of side 16 -/

/-- Row numbers of a square of side 16. -/
def rowIx16 : IVec S16x16 32 := iota .tc S16x16 32 [0] iota_S16x16_d0_w32
/-- Column numbers of a square of side 16. -/
def colIx16 : IVec S16x16 32 := iota .tc S16x16 32 [1] iota_S16x16_d1_w32

/-- The inverse square root of the pivot `A j j`, found by masking and summing. -/
def pivot16 (R C : IVec S16x16 32) (A : FVec F S16x16 .f32) (j : BitVec 32) : F .f32 :=
  invRoot (extractAt ![0, 0, 0]
    (shapeCast S1x1x1
      (multiReduction .add [1, 2] S1
        (shapeCast S1x16x16
          (select (andi (cmpi .eq R (broadcast S16x16 j)) (cmpi .eq C (broadcast S16x16 j))) A
            (broadcast S16x16 (Scalar.ofBits .f32 0x00000000#32)))
          shapeCasts_S16x16_S1x16x16)
        0x00000000#32 reduces_S1x16x16_S1 (.inl rfl) rfl)
      shapeCasts_S1_S1x1x1) inpos_S1x1x1_p0_0_0)

/-- Column `j` of `A` over the pivot's root, zero above row `j`. -/
def colOf16 (R C : IVec S16x16 32) (A : FVec F S16x16 .f32) (j : BitVec 32) : FVec F S16x1 .f32 :=
  select (cmpi .sge (iota .tc S16x1 32 [0] iota_S16x1_d0_w32) (broadcast S16x1 j))
    (mulf
      (shapeCast S16x1
        (multiReduction .add [1] S16
          (select (cmpi .eq C (broadcast S16x16 j)) A (broadcast S16x16 (Scalar.ofBits .f32 0x00000000#32)))
          0x00000000#32 reduces_S16x16_S16 (.inl rfl) rfl)
        shapeCasts_S16_S16x1)
      (broadcast S16x1 (pivot16 R C A j)))
    (broadcast S16x1 (Scalar.ofBits .f32 0x00000000#32))

/-- Row `j` of `A` over the pivot's root, zero left of column `j`. -/
def rowOf16 (R C : IVec S16x16 32) (A : FVec F S16x16 .f32) (j : BitVec 32) : FVec F S1x16 .f32 :=
  select (cmpi .sge (iota .tc S1x16 32 [1] iota_S1x16_d1_w32) (broadcast S1x16 j))
    (mulf
      (shapeCast S1x16
        (multiReduction .add [0] S16
          (select (cmpi .eq R (broadcast S16x16 j)) A (broadcast S16x16 (Scalar.ofBits .f32 0x00000000#32)))
          0x00000000#32 reduces_S16x16_S16_2 (.inl rfl) rfl)
        shapeCasts_S16_S1x16)
      (broadcast S1x16 (pivot16 R C A j)))
    (broadcast S1x16 (Scalar.ofBits .f32 0x00000000#32))

/-- What is left of `A` when the product of its scaled column and row `j` is taken away. -/
def next16 (R C : IVec S16x16 32) (A : FVec F S16x16 .f32) (j : BitVec 32) : FVec F S16x16 .f32 :=
  subf A (mulf (broadcastTo S16x16 (colOf16 R C A j) broadcasts_S16x1_S16x16)
    (broadcastTo S16x16 (rowOf16 R C A j) broadcasts_S1x16_S16x16))

/-- `L` with its column `j` replaced by the scaled column of `A`. -/
def put16 (R C : IVec S16x16 32) (A L : FVec F S16x16 .f32) (j : BitVec 32) : FVec F S16x16 .f32 :=
  select (cmpi .eq C (broadcast S16x16 j))
    (broadcastTo S16x16 (shapeCast S16x1 (colOf16 R C A j) shapeCasts_S16x1_S16x1) broadcasts_S16x1_S16x16) L

/-- One trip of the factorisation. -/
def trip16 (R C : IVec S16x16 32) (k : ℕ) (s : FVec F S16x16 .f32 × FVec F S16x16 .f32) :
    FVec F S16x16 .f32 × FVec F S16x16 .f32 :=
  (next16 R C s.1 (Scf.iv 0#32 1#32 k), put16 R C s.1 s.2 (Scf.iv 0#32 1#32 k))

/-- The remainder and the factor before trip `k`. -/
def chol16 (R C : IVec S16x16 32) (G : FVec F S16x16 .f32) : ℕ → FVec F S16x16 .f32 × FVec F S16x16 .f32
  | 0 => (G, broadcast S16x16 (Scalar.ofBits .f32 0x00000000#32))
  | k + 1 => trip16 R C k (chol16 R C G k)

/-- A constant on the diagonal, another off it. -/
def diag16 (a b : BitVec 32) : FVec F S16x16 .f32 :=
  select (cmpi .eq rowIx16 colIx16) (broadcast S16x16 (Scalar.ofBits .f32 a)) (broadcast S16x16 (Scalar.ofBits .f32 b))

/-- One refinement of the reciprocal `x` of `d`. -/
def recip16 (d x : FVec F S16x16 .f32) : FVec F S16x16 .f32 :=
  mulf x (subf (broadcast S16x16 (Scalar.ofBits .f32 0x40000000#32)) (mulf d x))

/-- The diagonal of `L`, one elsewhere. -/
def diagOf16 (L : FVec F S16x16 .f32) : FVec F S16x16 .f32 :=
  select (cmpi .eq rowIx16 colIx16) L (broadcast S16x16 (Scalar.ofBits .f32 0x3F800000#32))

/-- The reciprocals of the diagonal of `L`, zero elsewhere. -/
def start16 (L : FVec F S16x16 .f32) : FVec F S16x16 .f32 :=
  select (cmpi .eq rowIx16 colIx16)
    (recip16 (diagOf16 L) (recip16 (diagOf16 L) (divf (broadcast S16x16 (Scalar.ofBits .f32 0x3F800000#32)) (diagOf16 L))))
    (broadcast S16x16 (Scalar.ofBits .f32 0x00000000#32))

/-- The matrix product by broadcasting and summing over the shared index. -/
def mm16 (A B : FVec F S16x16 .f32) : FVec F S16x16 .f32 :=
  multiReduction .add [1] S16x16
    (mulf (broadcastTo S16x16x16 (shapeCast S16x16x1 A shapeCasts_S16x16_S16x16x1) broadcasts_S16x16x1_S16x16x16)
      (broadcastTo S16x16x16 (shapeCast S1x16x16 B shapeCasts_S16x16_S1x16x16) broadcasts_S1x16x16_S16x16x16))
    0x00000000#32 reduces_S16x16x16_S16x16 (.inl rfl) rfl

/-- One Newton round `X (2 - L X)`. -/
def newton16 (L X : FVec F S16x16 .f32) : FVec F S16x16 .f32 :=
  mm16 X (subf (diag16 0x40000000#32 0x00000000#32) (mm16 L X))

/-- The inverse of the factor: five rounds from the diagonal's reciprocals. -/
def inv16 (L : FVec F S16x16 .f32) : FVec F S16x16 .f32 :=
  newton16 L (newton16 L (newton16 L (newton16 L (newton16 L (start16 L)))))

/-- The factor of `G` after all 32 trips. -/
def factor16 (G : FVec F S16x16 .f32) : FVec F S16x16 .f32 := (chol16 rowIx16 colIx16 G 32).2

/-- The inverse rounded once and transposed. -/
def turned16 (L : FVec F S16x16 .f32) : FVec F S16x16 .f32 :=
  transpose S16x16 [1, 0] (extf .f32 (truncf .bf16 (inv16 L) bitsLt_bf16_f32) bitsLt_bf16_f32) transposes_S16x16_p1_0_S16x16

/-- A 256 x 32 weight rounded once. -/
def round256x32 (w : FVec F S256x32 .f32) : FVec F S256x32 .f32 :=
  extf .f32 (truncf .bf16 w bitsLt_bf16_f32) bitsLt_bf16_f32

/-- The weight's Gram matrix with the small diagonal term. -/
def gram256x32 (w : FVec F S256x32 .f32) : FVec F S32x32 .f32 :=
  addf (matmul dot_S32x256_S256x32_S32x32_1_0_0_1_n_n none
      (transpose S32x256 [1, 0] (round256x32 w) transposes_S256x32_p1_0_S32x256) (round256x32 w) (constant S32x32 .f32 0x00000000#32))
    (mulf (broadcast S32x32 (Scalar.ofBits .f32 0x38D1B717#32)) (diag32 0x3F800000#32 0x00000000#32))

/-- The weight normalised: its product with the factor's inverse transposed. -/
def ortho256x32 (w : FVec F S256x32 .f32) : FVec F S256x32 .f32 :=
  matmul dot_S256x32_S32x32_S256x32_1_0_0_1_n_n none (round256x32 w) (turned32 (factor32 (gram256x32 w)))
    (constant S256x32 .f32 0x00000000#32)

/-- The rectangle of a whole 256 x 32 weight. -/
abbrev rW256x32 : Rect S256x32 := Rect.unit (s := S256x32) ![0, 0] S256x32.size inb_S256x32_S256x32_0_0

/-- One store of a whole 256 x 32 buffer covers it. -/
theorem coverW256x32 (p : Vec F S256x32 .f32) (y : S256x32.Idx) :
    ∃ pc ∈ ([⟨rW256x32, p⟩] : List (View.Piece (Elt F) S256x32 .f32)), y ∈ pc.1.set :=
  View.cover_of_tiled [⟨rW256x32, p⟩] S256x32.size (by rfl) y

/-- The block call 0 leaves for a 256 x 32 weight. -/
def out0_256x32 (x : Vec F S256x32 .f32) : Vec F S256x32 .f32 :=
  View.canon [⟨rW256x32, ortho256x32 (View.ld x rW256x32)⟩]

/-- A 32 x 16 weight rounded once. -/
def round32x16 (w : FVec F S32x16 .f32) : FVec F S32x16 .f32 :=
  extf .f32 (truncf .bf16 w bitsLt_bf16_f32) bitsLt_bf16_f32

/-- The weight's Gram matrix with the small diagonal term. -/
def gram32x16 (w : FVec F S32x16 .f32) : FVec F S16x16 .f32 :=
  addf (matmul dot_S16x32_S32x16_S16x16_1_0_0_1_n_n none
      (transpose S16x32 [1, 0] (round32x16 w) transposes_S32x16_p1_0_S16x32) (round32x16 w) (constant S16x16 .f32 0x00000000#32))
    (mulf (broadcast S16x16 (Scalar.ofBits .f32 0x38D1B717#32)) (diag16 0x3F800000#32 0x00000000#32))

/-- The weight normalised: its product with the factor's inverse transposed. -/
def ortho32x16 (w : FVec F S32x16 .f32) : FVec F S32x16 .f32 :=
  matmul dot_S32x16_S16x16_S32x16_1_0_0_1_n_n none (round32x16 w) (turned16 (factor16 (gram32x16 w)))
    (constant S32x16 .f32 0x00000000#32)

/-- The rectangle of a whole 32 x 16 weight. -/
abbrev rW32x16 : Rect S32x16 := Rect.unit (s := S32x16) ![0, 0] S32x16.size inb_S32x16_S32x16_0_0

/-- One store of a whole 32 x 16 buffer covers it. -/
theorem coverW32x16 (p : Vec F S32x16 .f32) (y : S32x16.Idx) :
    ∃ pc ∈ ([⟨rW32x16, p⟩] : List (View.Piece (Elt F) S32x16 .f32)), y ∈ pc.1.set :=
  View.cover_of_tiled [⟨rW32x16, p⟩] S32x16.size (by rfl) y

/-- The block call 0 leaves for a 32 x 16 weight. -/
def out0_32x16 (x : Vec F S32x16 .f32) : Vec F S32x16 .f32 :=
  View.canon [⟨rW32x16, ortho32x16 (View.ld x rW32x16)⟩]

/-- A 128 x 16 weight rounded once. -/
def round128x16 (w : FVec F S128x16 .f32) : FVec F S128x16 .f32 :=
  extf .f32 (truncf .bf16 w bitsLt_bf16_f32) bitsLt_bf16_f32

/-- The weight's Gram matrix with the small diagonal term. -/
def gram128x16 (w : FVec F S128x16 .f32) : FVec F S16x16 .f32 :=
  addf (matmul dot_S16x128_S128x16_S16x16_1_0_0_1_n_n none
      (transpose S16x128 [1, 0] (round128x16 w) transposes_S128x16_p1_0_S16x128) (round128x16 w) (constant S16x16 .f32 0x00000000#32))
    (mulf (broadcast S16x16 (Scalar.ofBits .f32 0x38D1B717#32)) (diag16 0x3F800000#32 0x00000000#32))

/-- The weight normalised: its product with the factor's inverse transposed. -/
def ortho128x16 (w : FVec F S128x16 .f32) : FVec F S128x16 .f32 :=
  matmul dot_S128x16_S16x16_S128x16_1_0_0_1_n_n none (round128x16 w) (turned16 (factor16 (gram128x16 w)))
    (constant S128x16 .f32 0x00000000#32)

/-- The rectangle of a whole 128 x 16 weight. -/
abbrev rW128x16 : Rect S128x16 := Rect.unit (s := S128x16) ![0, 0] S128x16.size inb_S128x16_S128x16_0_0

/-- One store of a whole 128 x 16 buffer covers it. -/
theorem coverW128x16 (p : Vec F S128x16 .f32) (y : S128x16.Idx) :
    ∃ pc ∈ ([⟨rW128x16, p⟩] : List (View.Piece (Elt F) S128x16 .f32)), y ∈ pc.1.set :=
  View.cover_of_tiled [⟨rW128x16, p⟩] S128x16.size (by rfl) y

/-- The block call 0 leaves for a 128 x 16 weight. -/
def out0_128x16 (x : Vec F S128x16 .f32) : Vec F S128x16 .f32 :=
  View.canon [⟨rW128x16, ortho128x16 (View.ld x rW128x16)⟩]

/-- A 16 x 16 weight rounded once. -/
def round16x16 (w : FVec F S16x16 .f32) : FVec F S16x16 .f32 :=
  extf .f32 (truncf .bf16 w bitsLt_bf16_f32) bitsLt_bf16_f32

/-- The weight's Gram matrix with the small diagonal term. -/
def gram16x16 (w : FVec F S16x16 .f32) : FVec F S16x16 .f32 :=
  addf (matmul dot_S16x16_S16x16_S16x16_1_0_0_1_n_n none
      (transpose S16x16 [1, 0] (round16x16 w) transposes_S16x16_p1_0_S16x16) (round16x16 w) (constant S16x16 .f32 0x00000000#32))
    (mulf (broadcast S16x16 (Scalar.ofBits .f32 0x38D1B717#32)) (diag16 0x3F800000#32 0x00000000#32))

/-- The weight normalised: its product with the factor's inverse transposed. -/
def ortho16x16 (w : FVec F S16x16 .f32) : FVec F S16x16 .f32 :=
  matmul dot_S16x16_S16x16_S16x16_1_0_0_1_n_n none (round16x16 w) (turned16 (factor16 (gram16x16 w)))
    (constant S16x16 .f32 0x00000000#32)

/-- The rectangle of a whole 16 x 16 weight. -/
abbrev rW16x16 : Rect S16x16 := Rect.unit (s := S16x16) ![0, 0] S16x16.size inb_S16x16_S16x16_0_0

/-- One store of a whole 16 x 16 buffer covers it. -/
theorem coverW16x16 (p : Vec F S16x16 .f32) (y : S16x16.Idx) :
    ∃ pc ∈ ([⟨rW16x16, p⟩] : List (View.Piece (Elt F) S16x16 .f32)), y ∈ pc.1.set :=
  View.cover_of_tiled [⟨rW16x16, p⟩] S16x16.size (by rfl) y

/-- The block call 0 leaves for a 16 x 16 weight. -/
def out0_16x16 (x : Vec F S16x16 .f32) : Vec F S16x16 .f32 :=
  View.canon [⟨rW16x16, ortho16x16 (View.ld x rW16x16)⟩]

/-! ## The factorisation loop -/

/-- A fold over the first `n` numbers, as an iteration. -/
theorem foldl_steps {σ : Type} (f : ℕ → σ → σ) (x : σ) (n : ℕ) :
    (List.finRange n).foldl (fun a (k : Fin n) => f k.1 a) x = Nat.rec x (fun k a => f k a) n := by
  induction n with
  | zero => rfl
  | succ n ih => rw [List.finRange_succ_last, List.foldl_append, List.foldl_map]; exact congrArg (f n) ih

/-- What the loop carries: the remainder and the factor of each of the six weights. -/
abbrev Carry (F : FTy → Type) [FloatOps F] : Type :=
  FVec F S32x32 .f32 × FVec F S32x32 .f32 × FVec F S16x16 .f32 × FVec F S16x16 .f32 × FVec F S16x16 .f32 × FVec F S16x16 .f32 × FVec F S16x16 .f32 × FVec F S16x16 .f32 × FVec F S16x16 .f32 × FVec F S16x16 .f32 × FVec F S16x16 .f32 × FVec F S16x16 .f32

/-- One trip of all six factorisations. -/
def tripAll (R0 C0 : IVec S32x32 32) (R1 C1 : IVec S16x16 32) (R2 C2 : IVec S16x16 32) (R3 C3 : IVec S16x16 32) (R4 C4 : IVec S16x16 32) (R5 C5 : IVec S16x16 32) (k : ℕ) (s : Carry F) : Carry F :=
  ((trip32 R0 C0 k (s.1, s.2.1)).1, (trip32 R0 C0 k (s.1, s.2.1)).2,
    (trip16 R1 C1 k (s.2.2.1, s.2.2.2.1)).1, (trip16 R1 C1 k (s.2.2.1, s.2.2.2.1)).2,
    (trip16 R2 C2 k (s.2.2.2.2.1, s.2.2.2.2.2.1)).1, (trip16 R2 C2 k (s.2.2.2.2.1, s.2.2.2.2.2.1)).2,
    (trip16 R3 C3 k (s.2.2.2.2.2.2.1, s.2.2.2.2.2.2.2.1)).1, (trip16 R3 C3 k (s.2.2.2.2.2.2.1, s.2.2.2.2.2.2.2.1)).2,
    (trip16 R4 C4 k (s.2.2.2.2.2.2.2.2.1, s.2.2.2.2.2.2.2.2.2.1)).1, (trip16 R4 C4 k (s.2.2.2.2.2.2.2.2.1, s.2.2.2.2.2.2.2.2.2.1)).2,
    (trip16 R5 C5 k (s.2.2.2.2.2.2.2.2.2.2.1, s.2.2.2.2.2.2.2.2.2.2.2)).1, (trip16 R5 C5 k (s.2.2.2.2.2.2.2.2.2.2.1, s.2.2.2.2.2.2.2.2.2.2.2)).2)

/-- After `n` trips each weight has its own `n` steps behind it. -/
theorem tripAll_steps (R0 C0 : IVec S32x32 32) (R1 C1 : IVec S16x16 32) (R2 C2 : IVec S16x16 32) (R3 C3 : IVec S16x16 32) (R4 C4 : IVec S16x16 32) (R5 C5 : IVec S16x16 32) (G0 : FVec F S32x32 .f32) (G1 : FVec F S16x16 .f32) (G2 : FVec F S16x16 .f32) (G3 : FVec F S16x16 .f32) (G4 : FVec F S16x16 .f32) (G5 : FVec F S16x16 .f32) (n : ℕ) :
    Nat.rec (motive := fun _ => Carry F) (G0, broadcast S32x32 (Scalar.ofBits .f32 0x00000000#32), G1, broadcast S16x16 (Scalar.ofBits .f32 0x00000000#32), G2, broadcast S16x16 (Scalar.ofBits .f32 0x00000000#32), G3, broadcast S16x16 (Scalar.ofBits .f32 0x00000000#32), G4, broadcast S16x16 (Scalar.ofBits .f32 0x00000000#32), G5, broadcast S16x16 (Scalar.ofBits .f32 0x00000000#32)) (fun k a => tripAll R0 C0 R1 C1 R2 C2 R3 C3 R4 C4 R5 C5 k a) n =
      ((chol32 R0 C0 G0 n).1, (chol32 R0 C0 G0 n).2,
      (chol16 R1 C1 G1 n).1, (chol16 R1 C1 G1 n).2,
      (chol16 R2 C2 G2 n).1, (chol16 R2 C2 G2 n).2,
      (chol16 R3 C3 G3 n).1, (chol16 R3 C3 G3 n).2,
      (chol16 R4 C4 G4 n).1, (chol16 R4 C4 G4 n).2,
      (chol16 R5 C5 G5 n).1, (chol16 R5 C5 G5 n).2) := by
  induction n with
  | zero => rfl
  | succ n ih => exact congrArg (tripAll R0 C0 R1 C1 R2 C2 R3 C3 R4 C4 R5 C5 n) ih

set_option maxHeartbeats 1000000 in
/-- The part of call 0 that holds the loop: it reads and writes nothing, and comes to the six factors. -/
theorem part10_eq (arg0 : Memref sig .tc .vmem S256x32 .f32) (harg0 : arg0.IsWhole) (arg1 : Memref sig .tc .vmem S32x16 .f32) (harg1 : arg1.IsWhole) (arg2 : Memref sig .tc .vmem S128x16 .f32) (harg2 : arg2.IsWhole) (arg3 : Memref sig .tc .vmem S16x16 .f32) (harg3 : arg3.IsWhole) (arg4 : Memref sig .tc .vmem S16x16 .f32) (harg4 : arg4.IsWhole) (arg5 : Memref sig .tc .vmem S16x16 .f32) (harg5 : arg5.IsWhole) (arg6 : Memref sig .tc .vmem S256x32 .f32) (harg6 : arg6.IsWhole) (arg7 : Memref sig .tc .vmem S32x16 .f32) (harg7 : arg7.IsWhole) (arg8 : Memref sig .tc .vmem S128x16 .f32) (harg8 : arg8.IsWhole) (arg9 : Memref sig .tc .vmem S16x16 .f32) (harg9 : arg9.IsWhole) (arg10 : Memref sig .tc .vmem S16x16 .f32) (harg10 : arg10.IsWhole) (arg11 : Memref sig .tc .vmem S16x16 .f32) (harg11 : arg11.IsWhole) (v6 : IVec S32x32 32) (v7 : IVec S16x16 32) (v8 : IVec S16x16 32) (v9 : IVec S16x16 32) (v10 : IVec S16x16 32) (v11 : IVec S16x16 32) (v12 : IVec S32x32 32) (v13 : IVec S16x16 32) (v14 : IVec S16x16 32) (v15 : IVec S16x16 32) (v16 : IVec S16x16 32) (v17 : IVec S16x16 32) (v38 : FVec F S32x32 .f32) (v47 : FVec F S16x16 .f32) (v56 : FVec F S16x16 .f32) (v65 : FVec F S16x16 .f32) (v74 : FVec F S16x16 .f32) (v83 : FVec F S16x16 .f32) :
    k0_part10 (F := F) arg0 harg0 arg1 harg1 arg2 harg2 arg3 harg3 arg4 harg4 arg5 harg5 arg6 harg6 arg7 harg7 arg8 harg8 arg9 harg9 arg10 harg10 arg11 harg11 v6 v7 v8 v9 v10 v11 v12 v13 v14 v15 v16 v17 v38 v47 v56 v65 v74 v83 =
      pure ⟨(chol32 v6 v12 v38 32).2, (chol16 v7 v13 v47 32).2, (chol16 v8 v14 v56 32).2, (chol16 v9 v15 v65 32).2, (chol16 v10 v16 v74 32).2, (chol16 v11 v17 v83 32).2,
        k0_pay66 v6 v12 (chol32 v6 v12 v38 32).2, k0_pay67 v7 v13 (chol16 v7 v13 v47 32).2⟩ := by
  rw [k0_part10_eq_skeleton]
  unfold k0_part10_skel
  refine (Scf.for_pure_bind k0_t1_loop.lb k0_t1_loop.ub k0_t1_loop.st k0_t1_ok _ _
    (fun k s => tripAll v6 v12 v7 v13 v8 v14 v9 v15 v10 v16 v11 v17 k s) ?_ _).trans ?_
  · rintro k ⟨a0, l0, a1, l1, a2, l2, a3, l3, a4, l4, a5, l5⟩
    rfl
  · have e : Scf.fold (n := Scf.trips k0_t1_loop.lb k0_t1_loop.ub k0_t1_loop.st)
        (fun k s => tripAll v6 v12 v7 v13 v8 v14 v9 v15 v10 v16 v11 v17 k s)
        (v38, k0_pay59 (F := F), v47, k0_pay60 (F := F), v56, k0_pay61 (F := F), v65, k0_pay62 (F := F), v74, k0_pay63 (F := F), v83, k0_pay64 (F := F)) = _ :=
      (Scf.fold_eq _ _).trans ((foldl_steps (fun k s => tripAll v6 v12 v7 v13 v8 v14 v9 v15 v10 v16 v11 v17 k s) _ _).trans
        (tripAll_steps v6 v12 v7 v13 v8 v14 v9 v15 v10 v16 v11 v17 v38 v47 v56 v65 v74 v83 32))
    rw [e]

set_option maxHeartbeats 2000000 in
/-- The body of call 0 on whole buffers: the inputs stay, each output ends at the contents named above. -/
theorem sound_kernel0 (c : Dev nD) (E : Set ℕ) (arg0 : Memref sig .tc .vmem S256x32 .f32) (harg0 : arg0.IsWhole) (arg1 : Memref sig .tc .vmem S32x16 .f32) (harg1 : arg1.IsWhole) (arg2 : Memref sig .tc .vmem S128x16 .f32) (harg2 : arg2.IsWhole) (arg3 : Memref sig .tc .vmem S16x16 .f32) (harg3 : arg3.IsWhole) (arg4 : Memref sig .tc .vmem S16x16 .f32) (harg4 : arg4.IsWhole) (arg5 : Memref sig .tc .vmem S16x16 .f32) (harg5 : arg5.IsWhole) (arg6 : Memref sig .tc .vmem S256x32 .f32) (harg6 : arg6.IsWhole) (arg7 : Memref sig .tc .vmem S32x16 .f32) (harg7 : arg7.IsWhole) (arg8 : Memref sig .tc .vmem S128x16 .f32) (harg8 : arg8.IsWhole) (arg9 : Memref sig .tc .vmem S16x16 .f32) (harg9 : arg9.IsWhole) (arg10 : Memref sig .tc .vmem S16x16 .f32) (harg10 : arg10.IsWhole) (arg11 : Memref sig .tc .vmem S16x16 .f32) (harg11 : arg11.IsWhole)
    (x0 : Vec F S256x32 .f32) (x1 : Vec F S32x16 .f32) (x2 : Vec F S128x16 .f32) (x3 : Vec F S16x16 .f32) (x4 : Vec F S16x16 .f32) (x5 : Vec F S16x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_256x32 x0) ∗ owns (c : Thread nD τ) arg7 fullShare (out0_32x16 x1) ∗ owns (c : Thread nD τ) arg8 fullShare (out0_128x16 x2) ∗ owns (c : Thread nD τ) arg9 fullShare (out0_16x16 x3) ∗ owns (c : Thread nD τ) arg10 fullShare (out0_16x16 x4) ∗ owns (c : Thread nD τ) arg11 fullShare (out0_16x16 x5)) -∗ K ⟨⟩))
      ⊢ wp frame (wpE (defs₀ (F := F)) Variants.none c none) E (cc0__ortho_body arg0 harg0 arg1 harg1 arg2 harg2 arg3 harg3 arg4 harg4 arg5 harg5 arg6 harg6 arg7 harg7 arg8 harg8 arg9 harg9 arg10 harg10 arg11 harg11) K := by
  simp only [cc0__ortho_body_eq_skeleton]; unfold cc0__ortho_body_skel
  simp only [part10_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverW256x32 _)
  isplitl [H7]
  · iexists _; isplitr
    swap; · iexact H7
    ipureintro
    exact View.read_writes_eq_canon _ _ _ (coverW32x16 _)
  isplitl [H8]
  · iexists _; isplitr
    swap; · iexact H8
    ipureintro
    exact View.read_writes_eq_canon _ _ _ (coverW128x16 _)
  isplitl [H9]
  · iexists _; isplitr
    swap; · iexact H9
    ipureintro
    exact View.read_writes_eq_canon _ _ _ (coverW16x16 _)
  isplitl [H10]
  · iexists _; isplitr
    swap; · iexact H10
    ipureintro
    exact View.read_writes_eq_canon _ _ _ (coverW16x16 _)
  iexists _; isplitr
  swap; · iexact H11
  ipureintro
  exact View.read_writes_eq_canon _ _ _ (coverW16x16 _)

variable (V : (c : Dev nD) → (b : Ref sig .tc) → Buf (Elt F) ((c : Thread nD τ).loc b))
/-- The block window `w` of call 0 stages at point `t`, read from the entry contents `V`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The proof data of call 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_256x32 (iblk0 V c 0 t)
    | ⟨7, _⟩ => out0_32x16 (iblk0 V c 1 t)
    | ⟨8, _⟩ => out0_128x16 (iblk0 V c 2 t)
    | ⟨9, _⟩ => out0_16x16 (iblk0 V c 3 t)
    | ⟨10, _⟩ => out0_16x16 (iblk0 V c 4 t)
    | ⟨11, _⟩ => out0_16x16 (iblk0 V c 5 t)
  Φ t := Pipeline.ΦA spec0 c
  q _ := fullShare
  owed _ := 0

theorem A_eq0 (c : Dev nD) (w : Fin cfg0.W) : (dat0 V c).A w = V c (Pipeline.arrRef spec0 w) := by
  dsimp only [dat0]

/-! The contents each window holds after the body, and each input before it. -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_256x32 (iblk0 V c 0 t) := by dsimp only [dat0]
theorem after0_7 (c : Dev nD) (t : Fin cfg0.N) : (dat0 V c).after 7 t = out0_32x16 (iblk0 V c 1 t) := by dsimp only [dat0]
theorem after0_8 (c : Dev nD) (t : Fin cfg0.N) : (dat0 V c).after 8 t = out0_128x16 (iblk0 V c 2 t) := by dsimp only [dat0]
theorem after0_9 (c : Dev nD) (t : Fin cfg0.N) : (dat0 V c).after 9 t = out0_16x16 (iblk0 V c 3 t) := by dsimp only [dat0]
theorem after0_10 (c : Dev nD) (t : Fin cfg0.N) : (dat0 V c).after 10 t = out0_16x16 (iblk0 V c 4 t) := by dsimp only [dat0]
theorem after0_11 (c : Dev nD) (t : Fin cfg0.N) : (dat0 V c).after 11 t = out0_16x16 (iblk0 V c 5 t) := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- What the body of call 0 is given at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: its triple at the staged blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) :
    BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Calls

end
-- ==== Proof.KernelIdeal.Whole.lean ====
/-
The seven calls in order: what every buffer holds between them, and the run from the launch to the return.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Strips
public import proofs.«01_k».proof.Proof.KernelIdeal.Layers
public import proofs.«01_k».proof.Proof.KernelIdeal.Ortho
public import proofs.«01_k».proof.Proof.Gen.KernelIdeal.Regions
public import Idealize.ShloMosaic.Adequacy
public import Idealize.ShloMosaic.Init

@[expose] public section

set_option maxRecDepth 16384

noncomputable section

namespace Cert.KernelIdeal.Calls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments. -/
abbrev argRefs : List (Ref sig .tc) := [main_arg0, main_arg1, main_arg2, main_arg3, main_arg4, main_arg5, main_arg6, main_arg7, main_arg8, main_arg9, main_arg10]

/-- The buffers at the launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b

/-! ### After call 0 -/

/-- The buffers after call 0: its output arrays at what the call leaves, every other as before it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A buffer that call 0 does not write keeps its contents. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-! ### After call 1 -/

/-- The buffers after call 1: its output arrays at what the call leaves, every other as before it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact (dat1 (V1 m ρ) c).withArrays_arrAt launch₀1.sharedIn _ (A_eq1 (V1 m ρ) c) w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A buffer that call 1 does not write keeps its contents. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### After call 2 -/

/-- The buffers after call 2: its output arrays at what the call leaves, every other as before it. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact (dat2 (V2 m ρ) c).withArrays_arrAt launch₀2.sharedIn _ (A_eq2 (V2 m ρ) c) w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- A buffer that call 2 does not write keeps its contents. -/
theorem W3_of (c : Dev nD) (r : Ref sig .tc) (h : ∀ w : Fin cfg2.W, Pipeline.arrRef spec2 w = r → (cfg2.win w).isOut = false) :
    W3 m ρ c (Proc.devRef .tc r) = W2 m ρ c (Proc.devRef .tc r) := by
  by_cases hw : ∃ w : Fin cfg2.W, Pipeline.arrRef spec2 w = r
  · obtain ⟨w, rfl⟩ := hw
    exact (W3_arr m ρ c w).trans (((dat2 (V2 m ρ) c).arrAt_in w (h w rfl) _).trans (A_eq2 (V2 m ρ) c w))
  · exact W3_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn2 a ha)).trans (W2_args m ρ c a ha)
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ### After call 3 -/

/-- The buffers after call 3: its output arrays at what the call leaves, every other as before it. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact (dat3 (V3 m ρ) c).withArrays_arrAt launch₀3.sharedIn _ (A_eq3 (V3 m ρ) c) w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- A buffer that call 3 does not write keeps its contents. -/
theorem W4_of (c : Dev nD) (r : Ref sig .tc) (h : ∀ w : Fin cfg3.W, Pipeline.arrRef spec3 w = r → (cfg3.win w).isOut = false) :
    W4 m ρ c (Proc.devRef .tc r) = W3 m ρ c (Proc.devRef .tc r) := by
  by_cases hw : ∃ w : Fin cfg3.W, Pipeline.arrRef spec3 w = r
  · obtain ⟨w, rfl⟩ := hw
    exact (W4_arr m ρ c w).trans (((dat3 (V3 m ρ) c).arrAt_in w (h w rfl) _).trans (A_eq3 (V3 m ρ) c w))
  · exact W4_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn3 a ha)).trans (W3_args m ρ c a ha)
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-! ### After call 4 -/

/-- The buffers after call 4: its output arrays at what the call leaves, every other as before it. -/
def W5 (c : Dev nD) : Valuation τ sig (Elt F) :=
  Pipeline.withArrays spec4 c (W4 m ρ c) fun w => (dat4 (V4 m ρ) c).arrAt w cfg4.N
theorem W5_arr (c : Dev nD) (w : Fin cfg4.W) :
    W5 m ρ c (Proc.devRef .tc (Pipeline.arrRef spec4 w)) = (dat4 (V4 m ρ) c).arrAt w cfg4.N := by
  unfold W5; exact (dat4 (V4 m ρ) c).withArrays_arrAt launch₀4.sharedIn _ (A_eq4 (V4 m ρ) c) w
theorem W5_of_ne (c : Dev nD) (b : Ref sig .tc) (hb : ∀ w, Pipeline.arrRef spec4 w ≠ b) :
    W5 m ρ c (Proc.devRef .tc b) = W4 m ρ c (Proc.devRef .tc b) := by
  unfold W5; exact Pipeline.withArrays_of_ne spec4 c _ _ b hb
/-- A buffer that call 4 does not write keeps its contents. -/
theorem W5_of (c : Dev nD) (r : Ref sig .tc) (h : ∀ w : Fin cfg4.W, Pipeline.arrRef spec4 w = r → (cfg4.win w).isOut = false) :
    W5 m ρ c (Proc.devRef .tc r) = W4 m ρ c (Proc.devRef .tc r) := by
  by_cases hw : ∃ w : Fin cfg4.W, Pipeline.arrRef spec4 w = r
  · obtain ⟨w, rfl⟩ := hw
    exact (W5_arr m ρ c w).trans (((dat4 (V4 m ρ) c).arrAt_in w (h w rfl) _).trans (A_eq4 (V4 m ρ) c w))
  · exact W5_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn4 a ha)).trans (W4_args m ρ c a ha)
abbrev V5 : (c : Dev nD) → (b : Ref sig .tc) → Buf (Elt F) ((c : Thread nD τ).loc b) := fun c b => W5 m ρ c b
theorem hF4 (c : Dev nD) (w : Fin cfg4.W) : (dat4 (V4 m ρ) c).arrAt w cfg4.N = V5 m ρ c (Pipeline.arrRef spec4 w) :=
  (W5_arr m ρ c w).symm
theorem hrest4 (c : Dev nD) : ∀ b, b ∉ Finset.univ.image (Pipeline.arrRef spec4) → V5 m ρ c b = V4 m ρ c b :=
  fun b hb => W5_of_ne m ρ c b fun w e => hb (Finset.mem_image.mpr ⟨w, Finset.mem_univ _, e⟩)

/-! ### After call 5 -/

/-- The buffers after call 5: its output arrays at what the call leaves, every other as before it. -/
def W6 (c : Dev nD) : Valuation τ sig (Elt F) :=
  Pipeline.withArrays spec5 c (W5 m ρ c) fun w => (dat5 (V5 m ρ) c).arrAt w cfg5.N
theorem W6_arr (c : Dev nD) (w : Fin cfg5.W) :
    W6 m ρ c (Proc.devRef .tc (Pipeline.arrRef spec5 w)) = (dat5 (V5 m ρ) c).arrAt w cfg5.N := by
  unfold W6; exact Pipeline.withArrays_arr spec5 launch5.win.arr_inj c _ _ w
theorem W6_of_ne (c : Dev nD) (b : Ref sig .tc) (hb : ∀ w, Pipeline.arrRef spec5 w ≠ b) :
    W6 m ρ c (Proc.devRef .tc b) = W5 m ρ c (Proc.devRef .tc b) := by
  unfold W6; exact Pipeline.withArrays_of_ne spec5 c _ _ b hb
/-- A buffer that call 5 does not write keeps its contents. -/
theorem W6_of (c : Dev nD) (r : Ref sig .tc) (h : ∀ w : Fin cfg5.W, Pipeline.arrRef spec5 w = r → (cfg5.win w).isOut = false) :
    W6 m ρ c (Proc.devRef .tc r) = W5 m ρ c (Proc.devRef .tc r) := by
  by_cases hw : ∃ w : Fin cfg5.W, Pipeline.arrRef spec5 w = r
  · obtain ⟨w, rfl⟩ := hw
    exact (W6_arr m ρ c w).trans (((dat5 (V5 m ρ) c).arrAt_in w (h w rfl) _).trans (A_eq5 (V5 m ρ) c w))
  · exact W6_of_ne m ρ c r fun w e => hw ⟨w, e⟩
theorem argsIn5 : ∀ a ∈ argRefs, ∀ w : Fin cfg5.W, Pipeline.arrRef spec5 w = a → (cfg5.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn5 a ha)).trans (W5_args m ρ c a ha)
abbrev V6 : (c : Dev nD) → (b : Ref sig .tc) → Buf (Elt F) ((c : Thread nD τ).loc b) := fun c b => W6 m ρ c b
theorem hF5 (c : Dev nD) (w : Fin cfg5.W) : (dat5 (V5 m ρ) c).arrAt w cfg5.N = V6 m ρ c (Pipeline.arrRef spec5 w) :=
  (W6_arr m ρ c w).symm
theorem hrest5 (c : Dev nD) : ∀ b, b ∉ Finset.univ.image (Pipeline.arrRef spec5) → V6 m ρ c b = V5 m ρ c b :=
  fun b hb => W6_of_ne m ρ c b fun w e => hb (Finset.mem_image.mpr ⟨w, Finset.mem_univ _, e⟩)

/-! ### After call 6 -/

/-- The buffers after call 6: its output arrays at what the call leaves, every other as before it. -/
def W7 (c : Dev nD) : Valuation τ sig (Elt F) :=
  Pipeline.withArrays spec6 c (W6 m ρ c) fun w => (dat6 (V6 m ρ) c).arrAt w cfg6.N
theorem W7_arr (c : Dev nD) (w : Fin cfg6.W) :
    W7 m ρ c (Proc.devRef .tc (Pipeline.arrRef spec6 w)) = (dat6 (V6 m ρ) c).arrAt w cfg6.N := by
  unfold W7; exact (dat6 (V6 m ρ) c).withArrays_arrAt launch₀6.sharedIn _ (A_eq6 (V6 m ρ) c) w
theorem W7_of_ne (c : Dev nD) (b : Ref sig .tc) (hb : ∀ w, Pipeline.arrRef spec6 w ≠ b) :
    W7 m ρ c (Proc.devRef .tc b) = W6 m ρ c (Proc.devRef .tc b) := by
  unfold W7; exact Pipeline.withArrays_of_ne spec6 c _ _ b hb
/-- A buffer that call 6 does not write keeps its contents. -/
theorem W7_of (c : Dev nD) (r : Ref sig .tc) (h : ∀ w : Fin cfg6.W, Pipeline.arrRef spec6 w = r → (cfg6.win w).isOut = false) :
    W7 m ρ c (Proc.devRef .tc r) = W6 m ρ c (Proc.devRef .tc r) := by
  by_cases hw : ∃ w : Fin cfg6.W, Pipeline.arrRef spec6 w = r
  · obtain ⟨w, rfl⟩ := hw
    exact (W7_arr m ρ c w).trans (((dat6 (V6 m ρ) c).arrAt_in w (h w rfl) _).trans (A_eq6 (V6 m ρ) c w))
  · exact W7_of_ne m ρ c r fun w e => hw ⟨w, e⟩
theorem argsIn6 : ∀ a ∈ argRefs, ∀ w : Fin cfg6.W, Pipeline.arrRef spec6 w = a → (cfg6.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn6 a ha)).trans (W6_args m ρ c a ha)
abbrev V7 : (c : Dev nD) → (b : Ref sig .tc) → Buf (Elt F) ((c : Thread nD τ).loc b) := fun c b => W7 m ρ c b
theorem hF6 (c : Dev nD) (w : Fin cfg6.W) : (dat6 (V6 m ρ) c).arrAt w cfg6.N = V7 m ρ c (Pipeline.arrRef spec6 w) :=
  (W7_arr m ρ c w).symm
theorem hrest6 (c : Dev nD) : ∀ b, b ∉ Finset.univ.image (Pipeline.arrRef spec6) → V7 m ρ c b = V6 m ρ c b :=
  fun b hb => W7_of_ne m ρ c b fun w e => hb (Finset.mem_image.mpr ⟨w, Finset.mem_univ _, e⟩)

/-! ## The run -/

abbrev adm : (p : Fin 7) → (pcfgs (F := F) p).Adm := fun p => (cfgs p).toPCfg_adm
/-- The proof data of every call, at what the buffers hold when it starts. -/
def pdats : (p : Fin 7) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V4 m ρ) c
  | ⟨5, _⟩ => fun c => dat5 (V5 m ρ) c
  | ⟨6, _⟩ => fun c => dat6 (V6 m ρ) c
abbrev 𝒱₀ : Variants := Variants.none
abbrev L : GSem nD τ sig → Finset Unit := fun _ => ∅
abbrev lv : GSem nD τ sig → Unit → ℕ := fun _ _ => 0
/-- What goes along beside the buffers: the generator register, and a core that owes nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core ends with: every buffer at `W7`. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Call 0 as a segment of the run: entered with every buffer at `W0`, left with every buffer at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the run: entered with every buffer at `W1`, left with every buffer at `W2`. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V1 m ρ) c).Φ 0 from rfl]
    iintro ⟨Hp, -, Hr⟩
    iapply (hin1 (V1 m ρ) c); unfold Pipeline.ΦA
    isplitl [Hr]; · iexact Hr
    iexact Hp
  hout c := by
    rw [Pipeline.ownSems0_none, show (pdats m ρ 1 c).Φ (Fin.last _) = (dat1 (V1 m ρ) c).Φ (Fin.last _) from rfl]
    iintro H
    ihave H2 := (hout1 (V1 m ρ) c) $$ H
    unfold Pipeline.ΦA
    icases H2 with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the run: entered with every buffer at `W2`, left with every buffer at `W3`. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V2 m ρ c) (A_eq2 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V2 m ρ) c).Φ 0 from rfl]
    iintro ⟨Hp, -, Hr⟩
    iapply (hin2 (V2 m ρ) c); unfold Pipeline.ΦA
    isplitl [Hr]; · iexact Hr
    iexact Hp
  hout c := by
    rw [Pipeline.ownSems0_none, show (pdats m ρ 2 c).Φ (Fin.last _) = (dat2 (V2 m ρ) c).Φ (Fin.last _) from rfl]
    iintro H
    ihave H2 := (hout2 (V2 m ρ) c) $$ H
    unfold Pipeline.ΦA
    icases H2 with ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment of the run: entered with every buffer at `W3`, left with every buffer at `W4`. -/
def reg3 : Pipeline.RegionSeg (pcfgs (F := F)) adm (pdats m ρ) () defs₀ 𝒱₀ L lv 3 where
  win := launch₀3.win
  block_pos := launch₀3.block_pos
  stage_whole := launch₀3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs_shared (p := 3) (pcfgs (F := F)) adm (pdats m ρ) launch₀3.win launch₀3.sharedIn launch₀3.arr_whole c
      (fun _ _ => rfl) (V3 m ρ c) (A_eq3 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays_shared (p := 3) (pcfgs (F := F)) adm (Ix := Unit) (Name := ℕ) (U := UR sig nD τ) (Lvl := ℕ)
      launch₀3.win launch₀3.sharedIn launch₀3.arr_whole c (pdats m ρ) (fun _ _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 as a segment of the run: entered with every buffer at `W4`, left with every buffer at `W5`. -/
def reg4 : Pipeline.RegionSeg (pcfgs (F := F)) adm (pdats m ρ) () defs₀ 𝒱₀ L lv 4 where
  win := launch₀4.win
  block_pos := launch₀4.block_pos
  stage_whole := launch₀4.stage_whole
  K := PEmpty
  osem k := k.elim
  ho := Pipeline.OwnSemFacts.none _
  hbody c := (body_obligation4 (V4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec4 c (V4 m ρ c)
  hentry c := by
    rw [Pipeline.ownSems0_none]
    have hsplit := Pipeline.arrays_of_unscopedBufs_shared (p := 4) (pcfgs (F := F)) adm (pdats m ρ) launch₀4.win launch₀4.sharedIn launch₀4.arr_whole c
      (fun _ _ => rfl) (V4 m ρ c) (A_eq4 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays_shared (p := 4) (pcfgs (F := F)) adm (Ix := Unit) (Name := ℕ) (U := UR sig nD τ) (Lvl := ℕ)
      launch₀4.win launch₀4.sharedIn launch₀4.arr_whole c (pdats m ρ) (fun _ _ => rfl)
      (V4 m ρ c) (V5 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5 as a segment of the run: entered with every buffer at `W5`, left with every buffer at `W6`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V5 m ρ) c).loose
  hwaits := Pipeline.hwaits_of_owed_zero _ _ _ _ L lv 5 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec5 c (V5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V5 m ρ c) (A_eq5 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V5 m ρ c) (V6 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 6 as a segment of the run: entered with every buffer at `W6`, left with every buffer at `W7`. -/
def reg6 : Pipeline.RegionSeg (pcfgs (F := F)) adm (pdats m ρ) () defs₀ 𝒱₀ L lv 6 where
  win := launch₀6.win
  block_pos := launch₀6.block_pos
  stage_whole := launch₀6.stage_whole
  K := PEmpty
  osem k := k.elim
  ho := Pipeline.OwnSemFacts.none _
  hbody c := (body_obligation6 (V6 m ρ) c).loose
  hwaits := Pipeline.hwaits_of_owed_zero _ _ _ _ L lv 6 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V6 m ρ c)
  hentry c := by
    rw [Pipeline.ownSems0_none]
    have hsplit := Pipeline.arrays_of_unscopedBufs_shared (p := 6) (pcfgs (F := F)) adm (pdats m ρ) launch₀6.win launch₀6.sharedIn launch₀6.arr_whole c
      (fun _ _ => rfl) (V6 m ρ c) (A_eq6 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays_shared (p := 6) (pcfgs (F := F)) adm (Ix := Unit) (Name := ℕ) (U := UR sig nD τ) (Lvl := ℕ)
      launch₀6.win launch₀6.sharedIn launch₀6.arr_whole c (pdats m ρ) (fun _ _ => rfl)
      (V6 m ρ c) (V7 m ρ c) ((pdats m ρ 6 c).arrAt · cfg6.N) (hF6 m ρ c) (hrest6 m ρ c)
    rw [Pipeline.unscopedBufs_held] at hjoin
    iintro ⟨Ha, HO, HY, Hrest⟩
    imodintro
    isplitr [HO]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .region (reg1 m ρ),
    .region (reg2 m ρ),
    .region (reg3 m ρ),
    .region (reg4 m ρ),
    .region (reg5 m ρ),
    .region (reg6 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends with every buffer at `W7` and every counter at zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- An argument ends as it began. -/
theorem end_arg (c : Dev nD) (a : Ref sig .tc) (ha : a ∈ argRefs) : W7 m ρ c (Proc.devRef .tc a) = m ((c : Thread nD τ).loc a) :=
  W7_args m ρ c a ha

/-- The frame: the arguments end as they began and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨(h.1 c _ (mem_uc main_arg0 (by decide))).trans (end_arg m ρ c _ (by decide)),
    (h.1 c _ (mem_uc main_arg1 (by decide))).trans (end_arg m ρ c _ (by decide)),
    (h.1 c _ (mem_uc main_arg2 (by decide))).trans (end_arg m ρ c _ (by decide)),
    (h.1 c _ (mem_uc main_arg3 (by decide))).trans (end_arg m ρ c _ (by decide)),
    (h.1 c _ (mem_uc main_arg4 (by decide))).trans (end_arg m ρ c _ (by decide)),
    (h.1 c _ (mem_uc main_arg5 (by decide))).trans (end_arg m ρ c _ (by decide)),
    (h.1 c _ (mem_uc main_arg6 (by decide))).trans (end_arg m ρ c _ (by decide)),
    (h.1 c _ (mem_uc main_arg7 (by decide))).trans (end_arg m ρ c _ (by decide)),
    (h.1 c _ (mem_uc main_arg8 (by decide))).trans (end_arg m ρ c _ (by decide)),
    (h.1 c _ (mem_uc main_arg9 (by decide))).trans (end_arg m ρ c _ (by decide)),
    (h.1 c _ (mem_uc main_arg10 (by decide))).trans (end_arg m ρ c _ (by decide))⟩, h.2⟩) (ends m ρ)

end Cert.KernelIdeal.Calls

end
-- ==== Proof.Matrix.lean ====
/-
Arrays of extended reals as matrices: the product, the elementwise hyperbolic tangent, the sum, and an array
less the mean of each column. Both programs' results are stated in these.
-/
module

public import Idealize.ShloMosaic.Lib.ValueIdx
public import Idealize.ShloMosaic.Lib.Pointwise
public import Idealize.ShloMosaic.Lib.IdealHost

@[expose] public section

noncomputable section

namespace Cert.Maths

open Idealize.ShloMosaic
open scoped BigOperators

/-- An `a` by `b` array of extended reals. -/
abbrev Arr (a b : ℕ) := (⟨2, ![a, b]⟩ : Shape).Idx → EReal

variable {a b k : ℕ}

/-- The matrix product. -/
def mul (A : Arr a k) (B : Arr k b) : Arr a b := fun i => ∑ t : Fin k, A (ix2 (i 0) t) * B (ix2 t (i 1))

/-- The elementwise hyperbolic tangent. -/
def tanhOf (A : Arr a b) : Arr a b := fun i => Ideal.tanh (A i)

/-- The elementwise sum. -/
def plus (A B : Arr a b) : Arr a b := fun i => A i + B i

/-- The array less the mean of each column, for 10000 rows. -/
def centred (A : Arr 10000 b) : Arr 10000 b :=
  fun i => A i - Ideal.div (∑ t : Fin 10000, A (ix2 t (i 1))) (Ideal.ofBits .f32 0x461C4000#32)

/-- One graph convolution stack: `tanh (P (tanh (P (X U)) W))`. -/
def layers {p u w : ℕ} (X : Arr 10000 p) (P : Arr 10000 10000) (U : Arr p u) (W : Arr u w) : Arr 10000 w :=
  tanhOf (mul P (mul (tanhOf (mul P (mul X U))) W))

end Cert.Maths

end
-- ==== Proof.KernelIdeal.Values.lean ====
/-
What the calls leave in their arrays, as matrices of extended reals.
-/
module

public import proofs.«01_k».proof.Proof.KernelIdeal.Whole
public import proofs.«01_k».proof.Proof.Matrix
public import Idealize.ShloMosaic.Lib.Pipeline.Value
public import Idealize.ShloMosaic.Lib.Pipeline.ValueKit

@[expose] public section

set_option maxRecDepth 16384

noncomputable section

namespace Cert.KernelIdeal.Calls

open Idealize.ShloMosaic Idealize.ShloMosaic.TcCoe
open Idealize.SL Idealize.SL.RA Idealize.SL.Sem
open Idealize.ShloMosaic.Pipeline (Dat Cfg Window)
open Cert.KernelIdeal.Gen
open Cert.Maths

/-- Five strips stacked hold the function `G` of the block's row and column when each does on its own rows. -/
theorem stack5_eq (p0 p1 p2 p3 p4 : Vec Ideal S80x16 .f32) (G : S400x16.Idx → EReal)
    (h0 : ∀ x, p0 x = G (rOut0.emb x)) (h1 : ∀ x, p1 x = G (rOut1.emb x)) (h2 : ∀ x, p2 x = G (rOut2.emb x))
    (h3 : ∀ x, p3 x = G (rOut3.emb x)) (h4 : ∀ x, p4 x = G (rOut4.emb x)) : stack5 p0 p1 p2 p3 p4 = G := by
  funext y
  refine View.canon_eq_of_allAt _ y _ (cover5 p0 p1 p2 p3 p4 y) ?_
  intro p hp x hx
  subst hx
  fin_cases hp
  exacts [h4 x, h3 x, h2 x, h1 x, h0 x]

/-- One strip of calls 3, 4 and 6 at an index. -/
theorem strip_apply (A : Vec Ideal S10000x16 .f32) (B : Vec Ideal S80x10000 .f32) (x : S80x16.Idx) :
    k3_pay2 A B x = Ideal.tanh (∑ t : Fin 10000, B (ix2 (x 0) t) * A (ix2 t (x 1))) := by
  unfold_payloads
  pointwise

/-- Two indices with the same row and column are equal. -/
theorem idx2_ext {a b : ℕ} (i j : (⟨2, ![a, b]⟩ : Shape).Idx) (h0 : (i 0).val = (j 0).val) (h1 : (i 1).val = (j 1).val) : i = j := by
  funext x
  match x with
  | ⟨0, _⟩ => exact Fin.ext h0
  | ⟨1, _⟩ => exact Fin.ext h1

theorem zeros2 : (![0, 0] : Fin 2 → ℕ) = fun _ => 0 := by funext a; fin_cases a <;> rfl

variable (V : (c : Dev nD) → (b : Ref sig .tc) → Buf (Elt Ideal) ((c : Thread nD τ).loc b))

/-! ## Call 3 -/

/-- Where call 3's windows stand at point `t`: strip `s` at row strip `5 t + s`, the output at block `t`. -/
theorem index3 : ∀ t : Fin cfg3.N, (cfg3.win 6).flush t = true ∧ win3_6.index t (0 : Fin 2) = t.val ∧ win3_6.index t (1 : Fin 2) = 0
    ∧ win3_0.index t (0 : Fin 2) = 5 * t.val + 0 ∧ win3_0.index t (1 : Fin 2) = 0
    ∧ win3_1.index t (0 : Fin 2) = 5 * t.val + 1 ∧ win3_1.index t (1 : Fin 2) = 0
    ∧ win3_2.index t (0 : Fin 2) = 5 * t.val + 2 ∧ win3_2.index t (1 : Fin 2) = 0
    ∧ win3_3.index t (0 : Fin 2) = 5 * t.val + 3 ∧ win3_3.index t (1 : Fin 2) = 0
    ∧ win3_4.index t (0 : Fin 2) = 5 * t.val + 4 ∧ win3_4.index t (1 : Fin 2) = 0
    ∧ win3_5.index t (0 : Fin 2) = 0 ∧ win3_5.index t (1 : Fin 2) = 0 :=
  (by decide +kernel : ∀ t : Fin grid3.N, _)

/-- Call 3's result. -/
def val3 (c : Dev nD) : Arr 10000 16 := tanhOf (mul (V c (Pipeline.arrRef spec3 0) : Arr 10000 10000) (V c (Pipeline.arrRef spec3 5) : Arr 10000 16))

theorem strip3_0 (c : Dev nD) (t : Fin cfg3.N) (q : Fin 80) (l : Fin 10000) (r : Fin 10000) (hr : r.val = 400 * t.val + 0 + q.val) :
    iblk3 V c 0 t (ix2 q l) = (V c (Pipeline.arrRef spec3 0) : Arr 10000 10000) (ix2 r l) := by
  have e := index3 t
  show V c (Pipeline.arrRef spec3 0) (((cfg3.win 0).blk t).view.emb (ix2 q l)) = _
  refine congrArg (V c (Pipeline.arrRef spec3 0)) (funext fun a => Fin.ext ?_)
  match a with
  | ⟨0, _⟩ => show win3_0.index t (0 : Fin 2) * 80 + 1 * q.val = r.val; omega
  | ⟨1, _⟩ => show win3_0.index t (1 : Fin 2) * 10000 + 1 * l.val = l.val; omega

theorem strip3_1 (c : Dev nD) (t : Fin cfg3.N) (q : Fin 80) (l : Fin 10000) (r : Fin 10000) (hr : r.val = 400 * t.val + 80 + q.val) :
    iblk3 V c 1 t (ix2 q l) = (V c (Pipeline.arrRef spec3 0) : Arr 10000 10000) (ix2 r l) := by
  have e := index3 t
  show V c (Pipeline.arrRef spec3 1) (((cfg3.win 1).blk t).view.emb (ix2 q l)) = _
  refine congrArg (V c (Pipeline.arrRef spec3 1)) (funext fun a => Fin.ext ?_)
  match a with
  | ⟨0, _⟩ => show win3_1.index t (0 : Fin 2) * 80 + 1 * q.val = r.val; omega
  | ⟨1, _⟩ => show win3_1.index t (1 : Fin 2) * 10000 + 1 * l.val = l.val; omega

theorem strip3_2 (c : Dev nD) (t : Fin cfg3.N) (q : Fin 80) (l : Fin 10000) (r : Fin 10000) (hr : r.val = 400 * t.val + 160 + q.val) :
    iblk3 V c 2 t (ix2 q l) = (V c (Pipeline.arrRef spec3 0) : Arr 10000 10000) (ix2 r l) := by
  have e := index3 t
  show V c (Pipeline.arrRef spec3 2) (((cfg3.win 2).blk t).view.emb (ix2 q l)) = _
  refine congrArg (V c (Pipeline.arrRef spec3 2)) (funext fun a => Fin.ext ?_)
  match a with
  | ⟨0, _⟩ => show win3_2.index t (0 : Fin 2) * 80 + 1 * q.val = r.val; omega
  | ⟨1, _⟩ => show win3_2.index t (1 : Fin 2) * 10000 + 1 * l.val = l.val; omega

theorem strip3_3 (c : Dev nD) (t : Fin cfg3.N) (q : Fin 80) (l : Fin 10000) (r : Fin 10000) (hr : r.val = 400 * t.val + 240 + q.val) :
    iblk3 V c 3 t (ix2 q l) = (V c (Pipeline.arrRef spec3 0) : Arr 10000 10000) (ix2 r l) := by
  have e := index3 t
  show V c (Pipeline.arrRef spec3 3) (((cfg3.win 3).blk t).view.emb (ix2 q l)) = _
  refine congrArg (V c (Pipeline.arrRef spec3 3)) (funext fun a => Fin.ext ?_)
  match a with
  | ⟨0, _⟩ => show win3_3.index t (0 : Fin 2) * 80 + 1 * q.val = r.val; omega
  | ⟨1, _⟩ => show win3_3.index t (1 : Fin 2) * 10000 + 1 * l.val = l.val; omega

theorem strip3_4 (c : Dev nD) (t : Fin cfg3.N) (q : Fin 80) (l : Fin 10000) (r : Fin 10000) (hr : r.val = 400 * t.val + 320 + q.val) :
    iblk3 V c 4 t (ix2 q l) = (V c (Pipeline.arrRef spec3 0) : Arr 10000 10000) (ix2 r l) := by
  have e := index3 t
  show V c (Pipeline.arrRef spec3 4) (((cfg3.win 4).blk t).view.emb (ix2 q l)) = _
  refine congrArg (V c (Pipeline.arrRef spec3 4)) (funext fun a => Fin.ext ?_)
  match a with
  | ⟨0, _⟩ => show win3_4.index t (0 : Fin 2) * 80 + 1 * q.val = r.val; omega
  | ⟨1, _⟩ => show win3_4.index t (1 : Fin 2) * 10000 + 1 * l.val = l.val; omega

theorem all3_5 (c : Dev nD) (t : Fin cfg3.N) : iblk3 V c 5 t = (V c (Pipeline.arrRef spec3 5) : Arr 10000 16) := by
  have e := index3 t
  funext y
  show V c (Pipeline.arrRef spec3 5) (((cfg3.win 5).blk t).view.emb y) = _
  refine congrArg (V c (Pipeline.arrRef spec3 5)) (funext fun a => Fin.ext ?_)
  match a with
  | ⟨0, _⟩ => show win3_5.index t (0 : Fin 2) * 10000 + 1 * (y 0).val = (y 0).val; omega
  | ⟨1, _⟩ => show win3_5.index t (1 : Fin 2) * 16 + 1 * (y 1).val = (y 1).val; omega

/-- What point `t` leaves in call 3's output block: rows `400 t …` of the result. -/
theorem block3 (c : Dev nD) (t : Fin cfg3.N) (hN : ∀ z : S400x16.Idx, 400 * t.val + (z 0).val < 10000) :
    out3 (iblk3 V c 0 t) (iblk3 V c 1 t) (iblk3 V c 2 t) (iblk3 V c 3 t) (iblk3 V c 4 t) (iblk3 V c 5 t)
      = fun z => val3 V c (ix2 ⟨400 * t.val + (z 0).val, hN z⟩ (z 1)) := by
  unfold out3
  rw [all3_5]
  refine stack5_eq _ _ _ _ _ _ ?_ ?_ ?_ ?_ ?_
  · intro x
    refine (strip_apply _ _ x).trans ?_
    rw [View.ld_unit_zero zeros2, View.ld_unit_zero zeros2]
    refine congrArg Ideal.tanh (Finset.sum_congr rfl fun l _ => ?_)
    exact congrArg₂ (· * ·) (strip3_0 V c t _ l _ (by show 400 * t.val + (0 + 1 * (x 0).val) = _; omega))
      (congrArg _ (congrArg (ix2 l) (Fin.ext (by show (x 1).val = 0 + 1 * (x 1).val; omega))))
  · intro x
    refine (strip_apply _ _ x).trans ?_
    rw [View.ld_unit_zero zeros2, View.ld_unit_zero zeros2]
    refine congrArg Ideal.tanh (Finset.sum_congr rfl fun l _ => ?_)
    exact congrArg₂ (· * ·) (strip3_1 V c t _ l _ (by show 400 * t.val + (80 + 1 * (x 0).val) = _; omega))
      (congrArg _ (congrArg (ix2 l) (Fin.ext (by show (x 1).val = 0 + 1 * (x 1).val; omega))))
  · intro x
    refine (strip_apply _ _ x).trans ?_
    rw [View.ld_unit_zero zeros2, View.ld_unit_zero zeros2]
    refine congrArg Ideal.tanh (Finset.sum_congr rfl fun l _ => ?_)
    exact congrArg₂ (· * ·) (strip3_2 V c t _ l _ (by show 400 * t.val + (160 + 1 * (x 0).val) = _; omega))
      (congrArg _ (congrArg (ix2 l) (Fin.ext (by show (x 1).val = 0 + 1 * (x 1).val; omega))))
  · intro x
    refine (strip_apply _ _ x).trans ?_
    rw [View.ld_unit_zero zeros2, View.ld_unit_zero zeros2]
    refine congrArg Ideal.tanh (Finset.sum_congr rfl fun l _ => ?_)
    exact congrArg₂ (· * ·) (strip3_3 V c t _ l _ (by show 400 * t.val + (240 + 1 * (x 0).val) = _; omega))
      (congrArg _ (congrArg (ix2 l) (Fin.ext (by show (x 1).val = 0 + 1 * (x 1).val; omega))))
  · intro x
    refine (strip_apply _ _ x).trans ?_
    rw [View.ld_unit_zero zeros2, View.ld_unit_zero zeros2]
    refine congrArg Ideal.tanh (Finset.sum_congr rfl fun l _ => ?_)
    exact congrArg₂ (· * ·) (strip3_4 V c t _ l _ (by show 400 * t.val + (320 + 1 * (x 0).val) = _; omega))
      (congrArg _ (congrArg (ix2 l) (Fin.ext (by show (x 1).val = 0 + 1 * (x 1).val; omega))))

/-- Call 3's array after its run. -/
theorem final3 (c : Dev nD) : (dat3 V c).arrAt 6 cfg3.N = val3 V c := by
  have hN (t : Fin cfg3.N) (z : S400x16.Idx) : 400 * t.val + (z 0).val < 10000 := by
    have h0 : (z 0).val < 400 := (z 0).isLt
    have h1 : t.val < 25 := lt_of_lt_of_eq t.isLt N_3
    omega
  refine (dat3 V c).arrAt_eq_of_cover 6 _ (fun t _ => ?_) (fun i => ?_)
  · show (cfg3.win 6).cut (grid3.coords t) ((dat3 V c).after 6 t) = _
    rw [after3_6, block3 V c t (hN t)]
    have e := index3 t
    generalize val3 V c = G
    funext y
    show G (ix2 ⟨400 * t.val + ((cfg3.win 6).xinj (grid3.coords t) y 0).val, _⟩ ((cfg3.win 6).xinj (grid3.coords t) y 1)) = G (((cfg3.win 6).blk t).view.emb y)
    have hb0 : (((cfg3.win 6).blk t).view.emb y 0).val = win3_6.index t (0 : Fin 2) * 400 + 1 * (y 0).val := rfl
    have hb1 : (((cfg3.win 6).blk t).view.emb y 1).val = win3_6.index t (1 : Fin 2) * 16 + 1 * (y 1).val := rfl
    have hx0 : ((cfg3.win 6).xinj (grid3.coords t) y 0).val = (y 0).val := rfl
    have hx1 : ((cfg3.win 6).xinj (grid3.coords t) y 1).val = (y 1).val := rfl
    have e0 := e.2.1
    have e1 := e.2.2.1
    exact congrArg G (idx2_ext _ _
      (Eq.trans (by show 400 * t.val + ((cfg3.win 6).xinj (grid3.coords t) y 0).val = win3_6.index t (0 : Fin 2) * 400 + 1 * (y 0).val; rw [hx0, e0]; omega) hb0.symm)
      (Eq.trans (by show ((cfg3.win 6).xinj (grid3.coords t) y 1).val = win3_6.index t (1 : Fin 2) * 16 + 1 * (y 1).val; rw [hx1, e1]; omega) hb1.symm))
  · have h0 : (i 0).val < 10000 := (i 0).isLt
    have h1 : (i 1).val < 16 := (i 1).isLt
    have ht : (i 0).val / 400 < cfg3.N := lt_of_lt_of_eq (by omega) N_3.symm
    have e := index3 ⟨(i 0).val / 400, ht⟩
    have e0 : win3_6.index ⟨(i 0).val / 400, ht⟩ (0 : Fin 2) = (i 0).val / 400 := e.2.1
    have e1 : win3_6.index ⟨(i 0).val / 400, ht⟩ (1 : Fin 2) = 0 := e.2.2.1
    refine ⟨⟨(i 0).val / 400, ht⟩, e.1, ?_⟩
    show i ∈ ((View.whole (Pipeline.arrRef spec3 6)).slice (win3_6.rect ⟨(i 0).val / 400, ht⟩)).set
    rw [View.set_slice_whole, Rect.mem_set_unit]
    intro a
    match a with
    | ⟨0, _⟩ => show win3_6.index ⟨(i 0).val / 400, ht⟩ (0 : Fin 2) * 400 ≤ (i 0).val ∧ (i 0).val < win3_6.index ⟨(i 0).val / 400, ht⟩ (0 : Fin 2) * 400 + 400; omega
    | ⟨1, _⟩ => show win3_6.index ⟨(i 0).val / 400, ht⟩ (1 : Fin 2) * 16 ≤ (i 1).val ∧ (i 1).val < win3_6.index ⟨(i 0).val / 400, ht⟩ (1 : Fin 2) * 16 + 16; omega

/-! ## Call 4 -/

/-- Where call 4's windows stand at point `t`: strip `s` at row strip `5 t + s`, the output at block `t`. -/
theorem index4 : ∀ t : Fin cfg4.N, (cfg4.win 6).flush t = true ∧ win4_6.index t (0 : Fin 2) = t.val ∧ win4_6.index t (1 : Fin 2) = 0
    ∧ win4_0.index t (0 : Fin 2) = 5 * t.val + 0 ∧ win4_0.index t (1 : Fin 2) = 0
    ∧ win4_1.index t (0 : Fin 2) = 5 * t.val + 1 ∧ win4_1.index t (1 : Fin 2) = 0
    ∧ win4_2.index t (0 : Fin 2) = 5 * t.val + 2 ∧ win4_2.index t (1 : Fin 2) = 0
    ∧ win4_3.index t (0 : Fin 2) = 5 * t.val + 3 ∧ win4_3.index t (1 : Fin 2) = 0
    ∧ win4_4.index t (0 : Fin 2) = 5 * t.val + 4 ∧ win4_4.index t (1 : Fin 2) = 0
    ∧ win4_5.index t (0 : Fin 2) = 0 ∧ win4_5.index t (1 : Fin 2) = 0 :=
  (by decide +kernel : ∀ t : Fin grid4.N, _)

/-- Call 4's result. -/
def val4 (c : Dev nD) : Arr 10000 16 := tanhOf (mul (V c (Pipeline.arrRef spec4 0) : Arr 10000 10000) (V c (Pipeline.arrRef spec4 5) : Arr 10000 16))

theorem strip4_0 (c : Dev nD) (t : Fin cfg4.N) (q : Fin 80) (l : Fin 10000) (r : Fin 10000) (hr : r.val = 400 * t.val + 0 + q.val) :
    iblk4 V c 0 t (ix2 q l) = (V c (Pipeline.arrRef spec4 0) : Arr 10000 10000) (ix2 r l) := by
  have e := index4 t
  show V c (Pipeline.arrRef spec4 0) (((cfg4.win 0).blk t).view.emb (ix2 q l)) = _
  refine congrArg (V c (Pipeline.arrRef spec4 0)) (funext fun a => Fin.ext ?_)
  match a with
  | ⟨0, _⟩ => show win4_0.index t (0 : Fin 2) * 80 + 1 * q.val = r.val; omega
  | ⟨1, _⟩ => show win4_0.index t (1 : Fin 2) * 10000 + 1 * l.val = l.val; omega

theorem strip4_1 (c : Dev nD) (t : Fin cfg4.N) (q : Fin 80) (l : Fin 10000) (r : Fin 10000) (hr : r.val = 400 * t.val + 80 + q.val) :
    iblk4 V c 1 t (ix2 q l) = (V c (Pipeline.arrRef spec4 0) : Arr 10000 10000) (ix2 r l) := by
  have e := index4 t
  show V c (Pipeline.arrRef spec4 1) (((cfg4.win 1).blk t).view.emb (ix2 q l)) = _
  refine congrArg (V c (Pipeline.arrRef spec4 1)) (funext fun a => Fin.ext ?_)
  match a with
  | ⟨0, _⟩ => show win4_1.index t (0 : Fin 2) * 80 + 1 * q.val = r.val; omega
  | ⟨1, _⟩ => show win4_1.index t (1 : Fin 2) * 10000 + 1 * l.val = l.val; omega

theorem strip4_2 (c : Dev nD) (t : Fin cfg4.N) (q : Fin 80) (l : Fin 10000) (r : Fin 10000) (hr : r.val = 400 * t.val + 160 + q.val) :
    iblk4 V c 2 t (ix2 q l) = (V c (Pipeline.arrRef spec4 0) : Arr 10000 10000) (ix2 r l) := by
  have e := index4 t
  show V c (Pipeline.arrRef spec4 2) (((cfg4.win 2).blk t).view.emb (ix2 q l)) = _
  refine congrArg (V c (Pipeline.arrRef spec4 2)) (funext fun a => Fin.ext ?_)
  match a with
  | ⟨0, _⟩ => show win4_2.index t (0 : Fin 2) * 80 + 1 * q.val = r.val; omega
  | ⟨1, _⟩ => show win4_2.index t (1 : Fin 2) * 10000 + 1 * l.val = l.val; omega

theorem strip4_3 (c : Dev nD) (t : Fin cfg4.N) (q : Fin 80) (l : Fin 10000) (r : Fin 10000) (hr : r.val = 400 * t.val + 240 + q.val) :
    iblk4 V c 3 t (ix2 q l) = (V c (Pipeline.arrRef spec4 0) : Arr 10000 10000) (ix2 r l) := by
  have e := index4 t
  show V c (Pipeline.arrRef spec4 3) (((cfg4.win 3).blk t).view.emb (ix2 q l)) = _
  refine congrArg (V c (Pipeline.arrRef spec4 3)) (funext fun a => Fin.ext ?_)
  match a with
  | ⟨0, _⟩ => show win4_3.index t (0 : Fin 2) * 80 + 1 * q.val = r.val; omega
  | ⟨1, _⟩ => show win4_3.index t (1 : Fin 2) * 10000 + 1 * l.val = l.val; omega

theorem strip4_4 (c : Dev nD) (t : Fin cfg4.N) (q : Fin 80) (l : Fin 10000) (r : Fin 10000) (hr : r.val = 400 * t.val + 320 + q.val) :
    iblk4 V c 4 t (ix2 q l) = (V c (Pipeline.arrRef spec4 0) : Arr 10000 10000) (ix2 r l) := by
  have e := index4 t
  show V c (Pipeline.arrRef spec4 4) (((cfg4.win 4).blk t).view.emb (ix2 q l)) = _
  refine congrArg (V c (Pipeline.arrRef spec4 4)) (funext fun a => Fin.ext ?_)
  match a with
  | ⟨0, _⟩ => show win4_4.index t (0 : Fin 2) * 80 + 1 * q.val = r.val; omega
  | ⟨1, _⟩ => show win4_4.index t (1 : Fin 2) * 10000 + 1 * l.val = l.val; omega

theorem all4_5 (c : Dev nD) (t : Fin cfg4.N) : iblk4 V c 5 t = (V c (Pipeline.arrRef spec4 5) : Arr 10000 16) := by
  have e := index4 t
  funext y
  show V c (Pipeline.arrRef spec4 5) (((cfg4.win 5).blk t).view.emb y) = _
  refine congrArg (V c (Pipeline.arrRef spec4 5)) (funext fun a => Fin.ext ?_)
  match a with
  | ⟨0, _⟩ => show win4_5.index t (0 : Fin 2) * 10000 + 1 * (y 0).val = (y 0).val; omega
  | ⟨1, _⟩ => show win4_5.index t (1 : Fin 2) * 16 + 1 * (y 1).val = (y 1).val; omega

/-- What point `t` leaves in call 4's output block: rows `400 t …` of the result. -/
theorem block4 (c : Dev nD) (t : Fin cfg4.N) (hN : ∀ z : S400x16.Idx, 400 * t.val + (z 0).val < 10000) :
    out4 (iblk4 V c 0 t) (iblk4 V c 1 t) (iblk4 V c 2 t) (iblk4 V c 3 t) (iblk4 V c 4 t) (iblk4 V c 5 t)
      = fun z => val4 V c (ix2 ⟨400 * t.val + (z 0).val, hN z⟩ (z 1)) := by
  unfold out4
  rw [all4_5]
  refine stack5_eq _ _ _ _ _ _ ?_ ?_ ?_ ?_ ?_
  · intro x
    refine (strip_apply _ _ x).trans ?_
    rw [View.ld_unit_zero zeros2, View.ld_unit_zero zeros2]
    refine congrArg Ideal.tanh (Finset.sum_congr rfl fun l _ => ?_)
    exact congrArg₂ (· * ·) (strip4_0 V c t _ l _ (by show 400 * t.val + (0 + 1 * (x 0).val) = _; omega))
      (congrArg _ (congrArg (ix2 l) (Fin.ext (by show (x 1).val = 0 + 1 * (x 1).val; omega))))
  · intro x
    refine (strip_apply _ _ x).trans ?_
    rw [View.ld_unit_zero zeros2, View.ld_unit_zero zeros2]
    refine congrArg Ideal.tanh (Finset.sum_congr rfl fun l _ => ?_)
    exact congrArg₂ (· * ·) (strip4_1 V c t _ l _ (by show 400 * t.val + (80 + 1 * (x 0).val) = _; omega))
      (congrArg _ (congrArg (ix2 l) (Fin.ext (by show (x 1).val = 0 + 1 * (x 1).val; omega))))
  · intro x
    refine (strip_apply _ _ x).trans ?_
    rw [View.ld_unit_zero zeros2, View.ld_unit_zero zeros2]
    refine congrArg Ideal.tanh (Finset.sum_congr rfl fun l _ => ?_)
    exact congrArg₂ (· * ·) (strip4_2 V c t _ l _ (by show 400 * t.val + (160 + 1 * (x 0).val) = _; omega))
      (congrArg _ (congrArg (ix2 l) (Fin.ext (by show (x 1).val = 0 + 1 * (x 1).val; omega))))
  · intro x
    refine (strip_apply _ _ x).trans ?_
    rw [View.ld_unit_zero zeros2, View.ld_unit_zero zeros2]
    refine congrArg Ideal.tanh (Finset.sum_congr rfl fun l _ => ?_)
    exact congrArg₂ (· * ·) (strip4_3 V c t _ l _ (by show 400 * t.val + (240 + 1 * (x 0).val) = _; omega))
      (congrArg _ (congrArg (ix2 l) (Fin.ext (by show (x 1).val = 0 + 1 * (x 1).val; omega))))
  · intro x
    refine (strip_apply _ _ x).trans ?_
    rw [View.ld_unit_zero zeros2, View.ld_unit_zero zeros2]
    refine congrArg Ideal.tanh (Finset.sum_congr rfl fun l _ => ?_)
    exact congrArg₂ (· * ·) (strip4_4 V c t _ l _ (by show 400 * t.val + (320 + 1 * (x 0).val) = _; omega))
      (congrArg _ (congrArg (ix2 l) (Fin.ext (by show (x 1).val = 0 + 1 * (x 1).val; omega))))

/-- Call 4's array after its run. -/
theorem final4 (c : Dev nD) : (dat4 V c).arrAt 6 cfg4.N = val4 V c := by
  have hN (t : Fin cfg4.N) (z : S400x16.Idx) : 400 * t.val + (z 0).val < 10000 := by
    have h0 : (z 0).val < 400 := (z 0).isLt
    have h1 : t.val < 25 := lt_of_lt_of_eq t.isLt N_4
    omega
  refine (dat4 V c).arrAt_eq_of_cover 6 _ (fun t _ => ?_) (fun i => ?_)
  · show (cfg4.win 6).cut (grid4.coords t) ((dat4 V c).after 6 t) = _
    rw [after4_6, block4 V c t (hN t)]
    have e := index4 t
    generalize val4 V c = G
    funext y
    show G (ix2 ⟨400 * t.val + ((cfg4.win 6).xinj (grid4.coords t) y 0).val, _⟩ ((cfg4.win 6).xinj (grid4.coords t) y 1)) = G (((cfg4.win 6).blk t).view.emb y)
    have hb0 : (((cfg4.win 6).blk t).view.emb y 0).val = win4_6.index t (0 : Fin 2) * 400 + 1 * (y 0).val := rfl
    have hb1 : (((cfg4.win 6).blk t).view.emb y 1).val = win4_6.index t (1 : Fin 2) * 16 + 1 * (y 1).val := rfl
    have hx0 : ((cfg4.win 6).xinj (grid4.coords t) y 0).val = (y 0).val := rfl
    have hx1 : ((cfg4.win 6).xinj (grid4.coords t) y 1).val = (y 1).val := rfl
    have e0 := e.2.1
    have e1 := e.2.2.1
    exact congrArg G (idx2_ext _ _
      (Eq.trans (by show 400 * t.val + ((cfg4.win 6).xinj (grid4.coords t) y 0).val = win4_6.index t (0 : Fin 2) * 400 + 1 * (y 0).val; rw [hx0, e0]; omega) hb0.symm)
      (Eq.trans (by show ((cfg4.win 6).xinj (grid4.coords t) y 1).val = win4_6.index t (1 : Fin 2) * 16 + 1 * (y 1).val; rw [hx1, e1]; omega) hb1.symm))
  · have h0 : (i 0).val < 10000 := (i 0).isLt
    have h1 : (i 1).val < 16 := (i 1).isLt
    have ht : (i 0).val / 400 < cfg4.N := lt_of_lt_of_eq (by omega) N_4.symm
    have e := index4 ⟨(i 0).val / 400, ht⟩
    have e0 : win4_6.index ⟨(i 0).val / 400, ht⟩ (0 : Fin 2) = (i 0).val / 400 := e.2.1
    have e1 : win4_6.index ⟨(i 0).val / 400, ht⟩ (1 : Fin 2) = 0 := e.2.2.1
    refine ⟨⟨(i 0).val / 400, ht⟩, e.1, ?_⟩
    show i ∈ ((View.whole (Pipeline.arrRef spec4 6)).slice (win4_6.rect ⟨(i 0).val / 400, ht⟩)).set
    rw [View.set_slice_whole, Rect.mem_set_unit]
    intro a
    match a with
    | ⟨0, _⟩ => show win4_6.index ⟨(i 0).val / 400, ht⟩ (0 : Fin 2) * 400 ≤ (i 0).val ∧ (i 0).val < win4_6.index ⟨(i 0).val / 400, ht⟩ (0 : Fin 2) * 400 + 400; omega
    | ⟨1, _⟩ => show win4_6.index ⟨(i 0).val / 400, ht⟩ (1 : Fin 2) * 16 ≤ (i 1).val ∧ (i 1).val < win4_6.index ⟨(i 0).val / 400, ht⟩ (1 : Fin 2) * 16 + 16; omega

/-! ## Call 6 -/

/-- Where call 6's windows stand at point `t`: strip `s` at row strip `5 t + s`, the output at block `t`. -/
theorem index6 : ∀ t : Fin cfg6.N, (cfg6.win 6).flush t = true ∧ win6_6.index t (0 : Fin 2) = t.val ∧ win6_6.index t (1 : Fin 2) = 0
    ∧ win6_0.index t (0 : Fin 2) = 5 * t.val + 0 ∧ win6_0.index t (1 : Fin 2) = 0
    ∧ win6_1.index t (0 : Fin 2) = 5 * t.val + 1 ∧ win6_1.index t (1 : Fin 2) = 0
    ∧ win6_2.index t (0 : Fin 2) = 5 * t.val + 2 ∧ win6_2.index t (1 : Fin 2) = 0
    ∧ win6_3.index t (0 : Fin 2) = 5 * t.val + 3 ∧ win6_3.index t (1 : Fin 2) = 0
    ∧ win6_4.index t (0 : Fin 2) = 5 * t.val + 4 ∧ win6_4.index t (1 : Fin 2) = 0
    ∧ win6_5.index t (0 : Fin 2) = 0 ∧ win6_5.index t (1 : Fin 2) = 0 :=
  (by decide +kernel : ∀ t : Fin grid6.N, _)

/-- Call 6's result. -/
def val6 (c : Dev nD) : Arr 10000 16 := tanhOf (mul (V c (Pipeline.arrRef spec6 0) : Arr 10000 10000) (V c (Pipeline.arrRef spec6 5) : Arr 10000 16))

theorem strip6_0 (c : Dev nD) (t : Fin cfg6.N) (q : Fin 80) (l : Fin 10000) (r : Fin 10000) (hr : r.val = 400 * t.val + 0 + q.val) :
    iblk6 V c 0 t (ix2 q l) = (V c (Pipeline.arrRef spec6 0) : Arr 10000 10000) (ix2 r l) := by
  have e := index6 t
  show V c (Pipeline.arrRef spec6 0) (((cfg6.win 0).blk t).view.emb (ix2 q l)) = _
  refine congrArg (V c (Pipeline.arrRef spec6 0)) (funext fun a => Fin.ext ?_)
  match a with
  | ⟨0, _⟩ => show win6_0.index t (0 : Fin 2) * 80 + 1 * q.val = r.val; omega
  | ⟨1, _⟩ => show win6_0.index t (1 : Fin 2) * 10000 + 1 * l.val = l.val; omega

theorem strip6_1 (c : Dev nD) (t : Fin cfg6.N) (q : Fin 80) (l : Fin 10000) (r : Fin 10000) (hr : r.val = 400 * t.val + 80 + q.val) :
    iblk6 V c 1 t (ix2 q l) = (V c (Pipeline.arrRef spec6 0) : Arr 10000 10000) (ix2 r l) := by
  have e := index6 t
  show V c (Pipeline.arrRef spec6 1) (((cfg6.win 1).blk t).view.emb (ix2 q l)) = _
  refine congrArg (V c (Pipeline.arrRef spec6 1)) (funext fun a => Fin.ext ?_)
  match a with
  | ⟨0, _⟩ => show win6_1.index t (0 : Fin 2) * 80 + 1 * q.val = r.val; omega
  | ⟨1, _⟩ => show win6_1.index t (1 : Fin 2) * 10000 + 1 * l.val = l.val; omega

theorem strip6_2 (c : Dev nD) (t : Fin cfg6.N) (q : Fin 80) (l : Fin 10000) (r : Fin 10000) (hr : r.val = 400 * t.val + 160 + q.val) :
    iblk6 V c 2 t (ix2 q l) = (V c (Pipeline.arrRef spec6 0) : Arr 10000 10000) (ix2 r l) := by
  have e := index6 t
  show V c (Pipeline.arrRef spec6 2) (((cfg6.win 2).blk t).view.emb (ix2 q l)) = _
  refine congrArg (V c (Pipeline.arrRef spec6 2)) (funext fun a => Fin.ext ?_)
  match a with
  | ⟨0, _⟩ => show win6_2.index t (0 : Fin 2) * 80 + 1 * q.val = r.val; omega
  | ⟨1, _⟩ => show win6_2.index t (1 : Fin 2) * 10000 + 1 * l.val = l.val; omega

theorem strip6_3 (c : Dev nD) (t : Fin cfg6.N) (q : Fin 80) (l : Fin 10000) (r : Fin 10000) (hr : r.val = 400 * t.val + 240 + q.val) :
    iblk6 V c 3 t (ix2 q l) = (V c (Pipeline.arrRef spec6 0) : Arr 10000 10000) (ix2 r l) := by
  have e := index6 t
  show V c (Pipeline.arrRef spec6 3) (((cfg6.win 3).blk t).view.emb (ix2 q l)) = _
  refine congrArg (V c (Pipeline.arrRef spec6 3)) (funext fun a => Fin.ext ?_)
  match a with
  | ⟨0, _⟩ => show win6_3.index t (0 : Fin 2) * 80 + 1 * q.val = r.val; omega
  | ⟨1, _⟩ => show win6_3.index t (1 : Fin 2) * 10000 + 1 * l.val = l.val; omega

theorem strip6_4 (c : Dev nD) (t : Fin cfg6.N) (q : Fin 80) (l : Fin 10000) (r : Fin 10000) (hr : r.val = 400 * t.val + 320 + q.val) :
    iblk6 V c 4 t (ix2 q l) = (V c (Pipeline.arrRef spec6 0) : Arr 10000 10000) (ix2 r l) := by
  have e := index6 t
  show V c (Pipeline.arrRef spec6 4) (((cfg6.win 4).blk t).view.emb (ix2 q l)) = _
  refine congrArg (V c (Pipeline.arrRef spec6 4)) (funext fun a => Fin.ext ?_)
  match a with
  | ⟨0, _⟩ => show win6_4.index t (0 : Fin 2) * 80 + 1 * q.val = r.val; omega
  | ⟨1, _⟩ => show win6_4.index t (1 : Fin 2) * 10000 + 1 * l.val = l.val; omega

theorem all6_5 (c : Dev nD) (t : Fin cfg6.N) : iblk6 V c 5 t = (V c (Pipeline.arrRef spec6 5) : Arr 10000 16) := by
  have e := index6 t
  funext y
  show V c (Pipeline.arrRef spec6 5) (((cfg6.win 5).blk t).view.emb y) = _
  refine congrArg (V c (Pipeline.arrRef spec6 5)) (funext fun a => Fin.ext ?_)
  match a with
  | ⟨0, _⟩ => show win6_5.index t (0 : Fin 2) * 10000 + 1 * (y 0).val = (y 0).val; omega
  | ⟨1, _⟩ => show win6_5.index t (1 : Fin 2) * 16 + 1 * (y 1).val = (y 1).val; omega

/-- What point `t` leaves in call 6's output block: rows `400 t …` of the result. -/
theorem block6 (c : Dev nD) (t : Fin cfg6.N) (hN : ∀ z : S400x16.Idx, 400 * t.val + (z 0).val < 10000) :
    out6 (iblk6 V c 0 t) (iblk6 V c 1 t) (iblk6 V c 2 t) (iblk6 V c 3 t) (iblk6 V c 4 t) (iblk6 V c 5 t)
      = fun z => val6 V c (ix2 ⟨400 * t.val + (z 0).val, hN z⟩ (z 1)) := by
  unfold out6
  rw [all6_5]
  refine stack5_eq _ _ _ _ _ _ ?_ ?_ ?_ ?_ ?_
  · intro x
    refine (strip_apply _ _ x).trans ?_
    rw [View.ld_unit_zero zeros2, View.ld_unit_zero zeros2]
    refine congrArg Ideal.tanh (Finset.sum_congr rfl fun l _ => ?_)
    exact congrArg₂ (· * ·) (strip6_0 V c t _ l _ (by show 400 * t.val + (0 + 1 * (x 0).val) = _; omega))
      (congrArg _ (congrArg (ix2 l) (Fin.ext (by show (x 1).val = 0 + 1 * (x 1).val; omega))))
  · intro x
    refine (strip_apply _ _ x).trans ?_
    rw [View.ld_unit_zero zeros2, View.ld_unit_zero zeros2]
    refine congrArg Ideal.tanh (Finset.sum_congr rfl fun l _ => ?_)
    exact congrArg₂ (· * ·) (strip6_1 V c t _ l _ (by show 400 * t.val + (80 + 1 * (x 0).val) = _; omega))
      (congrArg _ (congrArg (ix2 l) (Fin.ext (by show (x 1).val = 0 + 1 * (x 1).val; omega))))
  · intro x
    refine (strip_apply _ _ x).trans ?_
    rw [View.ld_unit_zero zeros2, View.ld_unit_zero zeros2]
    refine congrArg Ideal.tanh (Finset.sum_congr rfl fun l _ => ?_)
    exact congrArg₂ (· * ·) (strip6_2 V c t _ l _ (by show 400 * t.val + (160 + 1 * (x 0).val) = _; omega))
      (congrArg _ (congrArg (ix2 l) (Fin.ext (by show (x 1).val = 0 + 1 * (x 1).val; omega))))
  · intro x
    refine (strip_apply _ _ x).trans ?_
    rw [View.ld_unit_zero zeros2, View.ld_unit_zero zeros2]
    refine congrArg Ideal.tanh (Finset.sum_congr rfl fun l _ => ?_)
    exact congrArg₂ (· * ·) (strip6_3 V c t _ l _ (by show 400 * t.val + (240 + 1 * (x 0).val) = _; omega))
      (congrArg _ (congrArg (ix2 l) (Fin.ext (by show (x 1).val = 0 + 1 * (x 1).val; omega))))
  · intro x
    refine (strip_apply _ _ x).trans ?_
    rw [View.ld_unit_zero zeros2, View.ld_unit_zero zeros2]
    refine congrArg Ideal.tanh (Finset.sum_congr rfl fun l _ => ?_)
    exact congrArg₂ (· * ·) (strip6_4 V c t _ l _ (by show 400 * t.val + (320 + 1 * (x 0).val) = _; omega))
      (congrArg _ (congrArg (ix2 l) (Fin.ext (by show (x 1).val = 0 + 1 * (x 1).val; omega))))

/-- Call 6's array after its run. -/
theorem final6 (c : Dev nD) : (dat6 V c).arrAt 6 cfg6.N = val6 V c := by
  have hN (t : Fin cfg6.N) (z : S400x16.Idx) : 400 * t.val + (z 0).val < 10000 := by
    have h0 : (z 0).val < 400 := (z 0).isLt
    have h1 : t.val < 25 := lt_of_lt_of_eq t.isLt N_6
    omega
  refine (dat6 V c).arrAt_eq_of_cover 6 _ (fun t _ => ?_) (fun i => ?_)
  · show (cfg6.win 6).cut (grid6.coords t) ((dat6 V c).after 6 t) = _
    rw [after6_6, block6 V c t (hN t)]
    have e := index6 t
    generalize val6 V c = G
    funext y
    show G (ix2 ⟨400 * t.val + ((cfg6.win 6).xinj (grid6.coords t) y 0).val, _⟩ ((cfg6.win 6).xinj (grid6.coords t) y 1)) = G (((cfg6.win 6).blk t).view.emb y)
    have hb0 : (((cfg6.win 6).blk t).view.emb y 0).val = win6_6.index t (0 : Fin 2) * 400 + 1 * (y 0).val := rfl
    have hb1 : (((cfg6.win 6).blk t).view.emb y 1).val = win6_6.index t (1 : Fin 2) * 16 + 1 * (y 1).val := rfl
    have hx0 : ((cfg6.win 6).xinj (grid6.coords t) y 0).val = (y 0).val := rfl
    have hx1 : ((cfg6.win 6).xinj (grid6.coords t) y 1).val = (y 1).val := rfl
    have e0 := e.2.1
    have e1 := e.2.2.1
    exact congrArg G (idx2_ext _ _
      (Eq.trans (by show 400 * t.val + ((cfg6.win 6).xinj (grid6.coords t) y 0).val = win6_6.index t (0 : Fin 2) * 400 + 1 * (y 0).val; rw [hx0, e0]; omega) hb0.symm)
      (Eq.trans (by show ((cfg6.win 6).xinj (grid6.coords t) y 1).val = win6_6.index t (1 : Fin 2) * 16 + 1 * (y 1).val; rw [hx1, e1]; omega) hb1.symm))
  · have h0 : (i 0).val < 10000 := (i 0).isLt
    have h1 : (i 1).val < 16 := (i 1).isLt
    have ht : (i 0).val / 400 < cfg6.N := lt_of_lt_of_eq (by omega) N_6.symm
    have e := index6 ⟨(i 0).val / 400, ht⟩
    have e0 : win6_6.index ⟨(i 0).val / 400, ht⟩ (0 : Fin 2) = (i 0).val / 400 := e.2.1
    have e1 : win6_6.index ⟨(i 0).val / 400, ht⟩ (1 : Fin 2) = 0 := e.2.2.1
    refine ⟨⟨(i 0).val / 400, ht⟩, e.1, ?_⟩
    show i ∈ ((View.whole (Pipeline.arrRef spec6 6)).slice (win6_6.rect ⟨(i 0).val / 400, ht⟩)).set
    rw [View.set_slice_whole, Rect.mem_set_unit]
    intro a
    match a with
    | ⟨0, _⟩ => show win6_6.index ⟨(i 0).val / 400, ht⟩ (0 : Fin 2) * 400 ≤ (i 0).val ∧ (i 0).val < win6_6.index ⟨(i 0).val / 400, ht⟩ (0 : Fin 2) * 400 + 400; omega
    | ⟨1, _⟩ => show win6_6.index ⟨(i 0).val / 400, ht⟩ (1 : Fin 2) * 16 ≤ (i 1).val ∧ (i 1).val < win6_6.index ⟨(i 0).val / 400, ht⟩ (1 : Fin 2) * 16 + 16; omega

end Cert.KernelIdeal.Calls

end
-- ==== Proof.KernelIdeal.LayerValues.lean ====
/-
What the two first-layer calls leave in their arrays, as matrices of extended reals.
-/
module

public import proofs.«01_k».proof.Proof.KernelIdeal.Values
public import proofs.«01_k».proof.Proof.Matrix
public import Idealize.ShloMosaic.Lib.Pipeline.Value
public import Idealize.ShloMosaic.Lib.Pipeline.ValueKit

@[expose] public section

set_option maxRecDepth 16384

noncomputable section

namespace Cert.KernelIdeal.Calls

open Idealize.ShloMosaic Idealize.ShloMosaic.TcCoe
open Idealize.SL Idealize.SL.RA Idealize.SL.Sem
open Idealize.ShloMosaic.Pipeline (Dat Cfg Window)
open Cert.KernelIdeal.Gen
open Cert.Maths

/-- A row of `tanh (P A) W`, the row of `P` given as a function. -/
theorem mul_tanh_row {u w : ℕ} (P : Arr 10000 10000) (A : Arr 10000 u) (W : Arr u w) (r : Fin 10000) (q q' : Fin w) (B : Fin 10000 → EReal)
    (hB : ∀ l, B l = P (ix2 r l)) (hq : q = q') :
    ∑ l : Fin u, Ideal.tanh (∑ t : Fin 10000, B t * A (ix2 t l)) * W (ix2 l q) = mul (tanhOf (mul P A)) W (ix2 r q') := by
  subst hq
  simp only [hB]
  rfl

variable (V : (c : Dev nD) → (b : Ref sig .tc) → Buf (Elt Ideal) ((c : Thread nD τ).loc b))

/-! ## Call 1 -/

/-- Where call 1's windows stand at point `t`: strip `s` at row strip `5 t + s`, the output at block `t`. -/
theorem index1 : ∀ t : Fin cfg1.N, (cfg1.win 8).flush t = true ∧ win1_8.index t (0 : Fin 2) = t.val ∧ win1_8.index t (1 : Fin 2) = 0
    ∧ win1_0.index t (0 : Fin 2) = 5 * t.val + 0 ∧ win1_0.index t (1 : Fin 2) = 0
    ∧ win1_1.index t (0 : Fin 2) = 5 * t.val + 1 ∧ win1_1.index t (1 : Fin 2) = 0
    ∧ win1_2.index t (0 : Fin 2) = 5 * t.val + 2 ∧ win1_2.index t (1 : Fin 2) = 0
    ∧ win1_3.index t (0 : Fin 2) = 5 * t.val + 3 ∧ win1_3.index t (1 : Fin 2) = 0
    ∧ win1_4.index t (0 : Fin 2) = 5 * t.val + 4 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Call 1's result. -/
def val1 (c : Dev nD) : Arr 10000 16 :=
  mul (tanhOf (mul (V c (Pipeline.arrRef spec1 0) : Arr 10000 10000) (mul (V c (Pipeline.arrRef spec1 5) : Arr 10000 256) (V c (Pipeline.arrRef spec1 6) : Arr 256 32))))
    (V c (Pipeline.arrRef spec1 7) : Arr 32 16)

theorem strip1_0 (c : Dev nD) (t : Fin cfg1.N) (q : Fin 80) (l : Fin 10000) (r : Fin 10000) (hr : r.val = 400 * t.val + 0 + q.val) :
    iblk1 V c 0 t (ix2 q l) = (V c (Pipeline.arrRef spec1 0) : Arr 10000 10000) (ix2 r l) := by
  have e := index1 t
  show V c (Pipeline.arrRef spec1 0) (((cfg1.win 0).blk t).view.emb (ix2 q l)) = _
  refine congrArg (V c (Pipeline.arrRef spec1 0)) (funext fun a => Fin.ext ?_)
  match a with
  | ⟨0, _⟩ => show win1_0.index t (0 : Fin 2) * 80 + 1 * q.val = r.val; omega
  | ⟨1, _⟩ => show win1_0.index t (1 : Fin 2) * 10000 + 1 * l.val = l.val; omega

theorem strip1_1 (c : Dev nD) (t : Fin cfg1.N) (q : Fin 80) (l : Fin 10000) (r : Fin 10000) (hr : r.val = 400 * t.val + 80 + q.val) :
    iblk1 V c 1 t (ix2 q l) = (V c (Pipeline.arrRef spec1 0) : Arr 10000 10000) (ix2 r l) := by
  have e := index1 t
  show V c (Pipeline.arrRef spec1 1) (((cfg1.win 1).blk t).view.emb (ix2 q l)) = _
  refine congrArg (V c (Pipeline.arrRef spec1 1)) (funext fun a => Fin.ext ?_)
  match a with
  | ⟨0, _⟩ => show win1_1.index t (0 : Fin 2) * 80 + 1 * q.val = r.val; omega
  | ⟨1, _⟩ => show win1_1.index t (1 : Fin 2) * 10000 + 1 * l.val = l.val; omega

theorem strip1_2 (c : Dev nD) (t : Fin cfg1.N) (q : Fin 80) (l : Fin 10000) (r : Fin 10000) (hr : r.val = 400 * t.val + 160 + q.val) :
    iblk1 V c 2 t (ix2 q l) = (V c (Pipeline.arrRef spec1 0) : Arr 10000 10000) (ix2 r l) := by
  have e := index1 t
  show V c (Pipeline.arrRef spec1 2) (((cfg1.win 2).blk t).view.emb (ix2 q l)) = _
  refine congrArg (V c (Pipeline.arrRef spec1 2)) (funext fun a => Fin.ext ?_)
  match a with
  | ⟨0, _⟩ => show win1_2.index t (0 : Fin 2) * 80 + 1 * q.val = r.val; omega
  | ⟨1, _⟩ => show win1_2.index t (1 : Fin 2) * 10000 + 1 * l.val = l.val; omega

theorem strip1_3 (c : Dev nD) (t : Fin cfg1.N) (q : Fin 80) (l : Fin 10000) (r : Fin 10000) (hr : r.val = 400 * t.val + 240 + q.val) :
    iblk1 V c 3 t (ix2 q l) = (V c (Pipeline.arrRef spec1 0) : Arr 10000 10000) (ix2 r l) := by
  have e := index1 t
  show V c (Pipeline.arrRef spec1 3) (((cfg1.win 3).blk t).view.emb (ix2 q l)) = _
  refine congrArg (V c (Pipeline.arrRef spec1 3)) (funext fun a => Fin.ext ?_)
  match a with
  | ⟨0, _⟩ => show win1_3.index t (0 : Fin 2) * 80 + 1 * q.val = r.val; omega
  | ⟨1, _⟩ => show win1_3.index t (1 : Fin 2) * 10000 + 1 * l.val = l.val; omega

theorem strip1_4 (c : Dev nD) (t : Fin cfg1.N) (q : Fin 80) (l : Fin 10000) (r : Fin 10000) (hr : r.val = 400 * t.val + 320 + q.val) :
    iblk1 V c 4 t (ix2 q l) = (V c (Pipeline.arrRef spec1 0) : Arr 10000 10000) (ix2 r l) := by
  have e := index1 t
  show V c (Pipeline.arrRef spec1 4) (((cfg1.win 4).blk t).view.emb (ix2 q l)) = _
  refine congrArg (V c (Pipeline.arrRef spec1 4)) (funext fun a => Fin.ext ?_)
  match a with
  | ⟨0, _⟩ => show win1_4.index t (0 : Fin 2) * 80 + 1 * q.val = r.val; omega
  | ⟨1, _⟩ => show win1_4.index t (1 : Fin 2) * 10000 + 1 * l.val = l.val; omega

theorem all1_5 (c : Dev nD) (t : Fin cfg1.N) : iblk1 V c 5 t = (V c (Pipeline.arrRef spec1 5) : Arr 10000 256) := by
  have e := index1 t
  funext y
  show V c (Pipeline.arrRef spec1 5) (((cfg1.win 5).blk t).view.emb y) = _
  refine congrArg (V c (Pipeline.arrRef spec1 5)) (funext fun a => Fin.ext ?_)
  match a with
  | ⟨0, _⟩ => show win1_5.index t (0 : Fin 2) * 10000 + 1 * (y 0).val = (y 0).val; omega
  | ⟨1, _⟩ => show win1_5.index t (1 : Fin 2) * 256 + 1 * (y 1).val = (y 1).val; omega

theorem all1_6 (c : Dev nD) (t : Fin cfg1.N) : iblk1 V c 6 t = (V c (Pipeline.arrRef spec1 6) : Arr 256 32) := by
  have e := index1 t
  funext y
  show V c (Pipeline.arrRef spec1 6) (((cfg1.win 6).blk t).view.emb y) = _
  refine congrArg (V c (Pipeline.arrRef spec1 6)) (funext fun a => Fin.ext ?_)
  match a with
  | ⟨0, _⟩ => show win1_6.index t (0 : Fin 2) * 256 + 1 * (y 0).val = (y 0).val; omega
  | ⟨1, _⟩ => show win1_6.index t (1 : Fin 2) * 32 + 1 * (y 1).val = (y 1).val; omega

theorem all1_7 (c : Dev nD) (t : Fin cfg1.N) : iblk1 V c 7 t = (V c (Pipeline.arrRef spec1 7) : Arr 32 16) := by
  have e := index1 t
  funext y
  show V c (Pipeline.arrRef spec1 7) (((cfg1.win 7).blk t).view.emb y) = _
  refine congrArg (V c (Pipeline.arrRef spec1 7)) (funext fun a => Fin.ext ?_)
  match a with
  | ⟨0, _⟩ => show win1_7.index t (0 : Fin 2) * 32 + 1 * (y 0).val = (y 0).val; omega
  | ⟨1, _⟩ => show win1_7.index t (1 : Fin 2) * 16 + 1 * (y 1).val = (y 1).val; omega

/-- One strip of call 1 at an index. -/
theorem strip1_apply (A : Vec Ideal S10000x32 .f32) (W : Vec Ideal S32x16 .f32) (B : Vec Ideal S80x10000 .f32) (x : S80x16.Idx) :
    k1_pay4 A W B x = ∑ l : Fin 32, Ideal.tanh (∑ t : Fin 10000, B (ix2 (x 0) t) * A (ix2 t l)) * W (ix2 l (x 1)) := by
  unfold_payloads
  pointwise

/-- The scratch buffer of call 1: the features times the first weights. -/
theorem scratch1_eq (c : Dev nD) : scratch1 V c = mul (V c (Pipeline.arrRef spec1 5) : Arr 10000 256) (V c (Pipeline.arrRef spec1 6) : Arr 256 32) := by
  unfold scratch1 fill1
  rw [View.canon_unit_zero zeros2, all1_5, all1_6, View.ld_unit_zero zeros2, View.ld_unit_zero zeros2]
  funext i
  unfold_payloads
  pointwise [mul]

/-- What point `t` leaves in call 1's output block: rows `400 t …` of the result. -/
theorem block1 (c : Dev nD) (t : Fin cfg1.N) (hN : ∀ z : S400x16.Idx, 400 * t.val + (z 0).val < 10000) :
    out1 (scratch1 V c) (iblk1 V c 0 t) (iblk1 V c 1 t) (iblk1 V c 2 t) (iblk1 V c 3 t) (iblk1 V c 4 t) (iblk1 V c 7 t)
      = fun z => val1 V c (ix2 ⟨400 * t.val + (z 0).val, hN z⟩ (z 1)) := by
  unfold out1
  rw [all1_7, scratch1_eq]
  refine stack5_eq _ _ _ _ _ _ ?_ ?_ ?_ ?_ ?_
  · intro x
    refine (strip1_apply _ _ _ x).trans ?_
    rw [View.ld_unit_zero zeros2, View.ld_unit_zero zeros2, View.ld_unit_zero zeros2]
    exact mul_tanh_row _ _ _ ⟨400 * t.val + (rOut0.emb x 0).val, hN (rOut0.emb x)⟩ (x 1) (rOut0.emb x 1) _ (fun l => strip1_0 V c t (x 0) l _ (by show 400 * t.val + (0 + 1 * (x 0).val) = _; omega))
      (Fin.ext (by show (x 1).val = 0 + 1 * (x 1).val; omega))
  · intro x
    refine (strip1_apply _ _ _ x).trans ?_
    rw [View.ld_unit_zero zeros2, View.ld_unit_zero zeros2, View.ld_unit_zero zeros2]
    exact mul_tanh_row _ _ _ ⟨400 * t.val + (rOut1.emb x 0).val, hN (rOut1.emb x)⟩ (x 1) (rOut1.emb x 1) _ (fun l => strip1_1 V c t (x 0) l _ (by show 400 * t.val + (80 + 1 * (x 0).val) = _; omega))
      (Fin.ext (by show (x 1).val = 0 + 1 * (x 1).val; omega))
  · intro x
    refine (strip1_apply _ _ _ x).trans ?_
    rw [View.ld_unit_zero zeros2, View.ld_unit_zero zeros2, View.ld_unit_zero zeros2]
    exact mul_tanh_row _ _ _ ⟨400 * t.val + (rOut2.emb x 0).val, hN (rOut2.emb x)⟩ (x 1) (rOut2.emb x 1) _ (fun l => strip1_2 V c t (x 0) l _ (by show 400 * t.val + (160 + 1 * (x 0).val) = _; omega))
      (Fin.ext (by show (x 1).val = 0 + 1 * (x 1).val; omega))
  · intro x
    refine (strip1_apply _ _ _ x).trans ?_
    rw [View.ld_unit_zero zeros2, View.ld_unit_zero zeros2, View.ld_unit_zero zeros2]
    exact mul_tanh_row _ _ _ ⟨400 * t.val + (rOut3.emb x 0).val, hN (rOut3.emb x)⟩ (x 1) (rOut3.emb x 1) _ (fun l => strip1_3 V c t (x 0) l _ (by show 400 * t.val + (240 + 1 * (x 0).val) = _; omega))
      (Fin.ext (by show (x 1).val = 0 + 1 * (x 1).val; omega))
  · intro x
    refine (strip1_apply _ _ _ x).trans ?_
    rw [View.ld_unit_zero zeros2, View.ld_unit_zero zeros2, View.ld_unit_zero zeros2]
    exact mul_tanh_row _ _ _ ⟨400 * t.val + (rOut4.emb x 0).val, hN (rOut4.emb x)⟩ (x 1) (rOut4.emb x 1) _ (fun l => strip1_4 V c t (x 0) l _ (by show 400 * t.val + (320 + 1 * (x 0).val) = _; omega))
      (Fin.ext (by show (x 1).val = 0 + 1 * (x 1).val; omega))

/-- Call 1's array after its run. -/
theorem final1 (c : Dev nD) : (dat1 V c).arrAt 8 cfg1.N = val1 V c := by
  have hN (t : Fin cfg1.N) (z : S400x16.Idx) : 400 * t.val + (z 0).val < 10000 := by
    have h0 : (z 0).val < 400 := (z 0).isLt
    have h1 : t.val < 25 := lt_of_lt_of_eq t.isLt N_1
    omega
  refine (dat1 V c).arrAt_eq_of_cover 8 _ (fun t _ => ?_) (fun i => ?_)
  · show (cfg1.win 8).cut (grid1.coords t) ((dat1 V c).after 8 t) = _
    rw [after1_8, block1 V c t (hN t)]
    have e := index1 t
    generalize val1 V c = G
    funext y
    show G (ix2 ⟨400 * t.val + ((cfg1.win 8).xinj (grid1.coords t) y 0).val, _⟩ ((cfg1.win 8).xinj (grid1.coords t) y 1)) = G (((cfg1.win 8).blk t).view.emb y)
    have hb0 : (((cfg1.win 8).blk t).view.emb y 0).val = win1_8.index t (0 : Fin 2) * 400 + 1 * (y 0).val := rfl
    have hb1 : (((cfg1.win 8).blk t).view.emb y 1).val = win1_8.index t (1 : Fin 2) * 16 + 1 * (y 1).val := rfl
    have hx0 : ((cfg1.win 8).xinj (grid1.coords t) y 0).val = (y 0).val := rfl
    have hx1 : ((cfg1.win 8).xinj (grid1.coords t) y 1).val = (y 1).val := rfl
    have e0 := e.2.1
    have e1 := e.2.2.1
    exact congrArg G (idx2_ext _ _
      (Eq.trans (by show 400 * t.val + ((cfg1.win 8).xinj (grid1.coords t) y 0).val = win1_8.index t (0 : Fin 2) * 400 + 1 * (y 0).val; rw [hx0, e0]; omega) hb0.symm)
      (Eq.trans (by show ((cfg1.win 8).xinj (grid1.coords t) y 1).val = win1_8.index t (1 : Fin 2) * 16 + 1 * (y 1).val; rw [hx1, e1]; omega) hb1.symm))
  · have h0 : (i 0).val < 10000 := (i 0).isLt
    have h1 : (i 1).val < 16 := (i 1).isLt
    have ht : (i 0).val / 400 < cfg1.N := lt_of_lt_of_eq (by omega) N_1.symm
    have e := index1 ⟨(i 0).val / 400, ht⟩
    have e0 : win1_8.index ⟨(i 0).val / 400, ht⟩ (0 : Fin 2) = (i 0).val / 400 := e.2.1
    have e1 : win1_8.index ⟨(i 0).val / 400, ht⟩ (1 : Fin 2) = 0 := e.2.2.1
    refine ⟨⟨(i 0).val / 400, ht⟩, e.1, ?_⟩
    show i ∈ ((View.whole (Pipeline.arrRef spec1 8)).slice (win1_8.rect ⟨(i 0).val / 400, ht⟩)).set
    rw [View.set_slice_whole, Rect.mem_set_unit]
    intro a
    match a with
    | ⟨0, _⟩ => show win1_8.index ⟨(i 0).val / 400, ht⟩ (0 : Fin 2) * 400 ≤ (i 0).val ∧ (i 0).val < win1_8.index ⟨(i 0).val / 400, ht⟩ (0 : Fin 2) * 400 + 400; omega
    | ⟨1, _⟩ => show win1_8.index ⟨(i 0).val / 400, ht⟩ (1 : Fin 2) * 16 ≤ (i 1).val ∧ (i 1).val < win1_8.index ⟨(i 0).val / 400, ht⟩ (1 : Fin 2) * 16 + 16; omega

/-! ## Call 2 -/

/-- Where call 2's windows stand at point `t`: strip `s` at row strip `5 t + s`, the output at block `t`. -/
theorem index2 : ∀ t : Fin cfg2.N, (cfg2.win 8).flush t = true ∧ win2_8.index t (0 : Fin 2) = t.val ∧ win2_8.index t (1 : Fin 2) = 0
    ∧ win2_0.index t (0 : Fin 2) = 5 * t.val + 0 ∧ win2_0.index t (1 : Fin 2) = 0
    ∧ win2_1.index t (0 : Fin 2) = 5 * t.val + 1 ∧ win2_1.index t (1 : Fin 2) = 0
    ∧ win2_2.index t (0 : Fin 2) = 5 * t.val + 2 ∧ win2_2.index t (1 : Fin 2) = 0
    ∧ win2_3.index t (0 : Fin 2) = 5 * t.val + 3 ∧ win2_3.index t (1 : Fin 2) = 0
    ∧ win2_4.index t (0 : Fin 2) = 5 * t.val + 4 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Call 2's result. -/
def val2 (c : Dev nD) : Arr 10000 16 :=
  mul (tanhOf (mul (V c (Pipeline.arrRef spec2 0) : Arr 10000 10000) (mul (V c (Pipeline.arrRef spec2 5) : Arr 10000 128) (V c (Pipeline.arrRef spec2 6) : Arr 128 16))))
    (V c (Pipeline.arrRef spec2 7) : Arr 16 16)

theorem strip2_0 (c : Dev nD) (t : Fin cfg2.N) (q : Fin 80) (l : Fin 10000) (r : Fin 10000) (hr : r.val = 400 * t.val + 0 + q.val) :
    iblk2 V c 0 t (ix2 q l) = (V c (Pipeline.arrRef spec2 0) : Arr 10000 10000) (ix2 r l) := by
  have e := index2 t
  show V c (Pipeline.arrRef spec2 0) (((cfg2.win 0).blk t).view.emb (ix2 q l)) = _
  refine congrArg (V c (Pipeline.arrRef spec2 0)) (funext fun a => Fin.ext ?_)
  match a with
  | ⟨0, _⟩ => show win2_0.index t (0 : Fin 2) * 80 + 1 * q.val = r.val; omega
  | ⟨1, _⟩ => show win2_0.index t (1 : Fin 2) * 10000 + 1 * l.val = l.val; omega

theorem strip2_1 (c : Dev nD) (t : Fin cfg2.N) (q : Fin 80) (l : Fin 10000) (r : Fin 10000) (hr : r.val = 400 * t.val + 80 + q.val) :
    iblk2 V c 1 t (ix2 q l) = (V c (Pipeline.arrRef spec2 0) : Arr 10000 10000) (ix2 r l) := by
  have e := index2 t
  show V c (Pipeline.arrRef spec2 1) (((cfg2.win 1).blk t).view.emb (ix2 q l)) = _
  refine congrArg (V c (Pipeline.arrRef spec2 1)) (funext fun a => Fin.ext ?_)
  match a with
  | ⟨0, _⟩ => show win2_1.index t (0 : Fin 2) * 80 + 1 * q.val = r.val; omega
  | ⟨1, _⟩ => show win2_1.index t (1 : Fin 2) * 10000 + 1 * l.val = l.val; omega

theorem strip2_2 (c : Dev nD) (t : Fin cfg2.N) (q : Fin 80) (l : Fin 10000) (r : Fin 10000) (hr : r.val = 400 * t.val + 160 + q.val) :
    iblk2 V c 2 t (ix2 q l) = (V c (Pipeline.arrRef spec2 0) : Arr 10000 10000) (ix2 r l) := by
  have e := index2 t
  show V c (Pipeline.arrRef spec2 2) (((cfg2.win 2).blk t).view.emb (ix2 q l)) = _
  refine congrArg (V c (Pipeline.arrRef spec2 2)) (funext fun a => Fin.ext ?_)
  match a with
  | ⟨0, _⟩ => show win2_2.index t (0 : Fin 2) * 80 + 1 * q.val = r.val; omega
  | ⟨1, _⟩ => show win2_2.index t (1 : Fin 2) * 10000 + 1 * l.val = l.val; omega

theorem strip2_3 (c : Dev nD) (t : Fin cfg2.N) (q : Fin 80) (l : Fin 10000) (r : Fin 10000) (hr : r.val = 400 * t.val + 240 + q.val) :
    iblk2 V c 3 t (ix2 q l) = (V c (Pipeline.arrRef spec2 0) : Arr 10000 10000) (ix2 r l) := by
  have e := index2 t
  show V c (Pipeline.arrRef spec2 3) (((cfg2.win 3).blk t).view.emb (ix2 q l)) = _
  refine congrArg (V c (Pipeline.arrRef spec2 3)) (funext fun a => Fin.ext ?_)
  match a with
  | ⟨0, _⟩ => show win2_3.index t (0 : Fin 2) * 80 + 1 * q.val = r.val; omega
  | ⟨1, _⟩ => show win2_3.index t (1 : Fin 2) * 10000 + 1 * l.val = l.val; omega

theorem strip2_4 (c : Dev nD) (t : Fin cfg2.N) (q : Fin 80) (l : Fin 10000) (r : Fin 10000) (hr : r.val = 400 * t.val + 320 + q.val) :
    iblk2 V c 4 t (ix2 q l) = (V c (Pipeline.arrRef spec2 0) : Arr 10000 10000) (ix2 r l) := by
  have e := index2 t
  show V c (Pipeline.arrRef spec2 4) (((cfg2.win 4).blk t).view.emb (ix2 q l)) = _
  refine congrArg (V c (Pipeline.arrRef spec2 4)) (funext fun a => Fin.ext ?_)
  match a with
  | ⟨0, _⟩ => show win2_4.index t (0 : Fin 2) * 80 + 1 * q.val = r.val; omega
  | ⟨1, _⟩ => show win2_4.index t (1 : Fin 2) * 10000 + 1 * l.val = l.val; omega

theorem all2_5 (c : Dev nD) (t : Fin cfg2.N) : iblk2 V c 5 t = (V c (Pipeline.arrRef spec2 5) : Arr 10000 128) := by
  have e := index2 t
  funext y
  show V c (Pipeline.arrRef spec2 5) (((cfg2.win 5).blk t).view.emb y) = _
  refine congrArg (V c (Pipeline.arrRef spec2 5)) (funext fun a => Fin.ext ?_)
  match a with
  | ⟨0, _⟩ => show win2_5.index t (0 : Fin 2) * 10000 + 1 * (y 0).val = (y 0).val; omega
  | ⟨1, _⟩ => show win2_5.index t (1 : Fin 2) * 128 + 1 * (y 1).val = (y 1).val; omega

theorem all2_6 (c : Dev nD) (t : Fin cfg2.N) : iblk2 V c 6 t = (V c (Pipeline.arrRef spec2 6) : Arr 128 16) := by
  have e := index2 t
  funext y
  show V c (Pipeline.arrRef spec2 6) (((cfg2.win 6).blk t).view.emb y) = _
  refine congrArg (V c (Pipeline.arrRef spec2 6)) (funext fun a => Fin.ext ?_)
  match a with
  | ⟨0, _⟩ => show win2_6.index t (0 : Fin 2) * 128 + 1 * (y 0).val = (y 0).val; omega
  | ⟨1, _⟩ => show win2_6.index t (1 : Fin 2) * 16 + 1 * (y 1).val = (y 1).val; omega

theorem all2_7 (c : Dev nD) (t : Fin cfg2.N) : iblk2 V c 7 t = (V c (Pipeline.arrRef spec2 7) : Arr 16 16) := by
  have e := index2 t
  funext y
  show V c (Pipeline.arrRef spec2 7) (((cfg2.win 7).blk t).view.emb y) = _
  refine congrArg (V c (Pipeline.arrRef spec2 7)) (funext fun a => Fin.ext ?_)
  match a with
  | ⟨0, _⟩ => show win2_7.index t (0 : Fin 2) * 16 + 1 * (y 0).val = (y 0).val; omega
  | ⟨1, _⟩ => show win2_7.index t (1 : Fin 2) * 16 + 1 * (y 1).val = (y 1).val; omega

/-- One strip of call 2 at an index. -/
theorem strip2_apply (A : Vec Ideal S10000x16 .f32) (W : Vec Ideal S16x16 .f32) (B : Vec Ideal S80x10000 .f32) (x : S80x16.Idx) :
    k2_pay4 A W B x = ∑ l : Fin 16, Ideal.tanh (∑ t : Fin 10000, B (ix2 (x 0) t) * A (ix2 t l)) * W (ix2 l (x 1)) := by
  unfold_payloads
  pointwise

/-- The scratch buffer of call 2: the features times the first weights. -/
theorem scratch2_eq (c : Dev nD) : scratch2 V c = mul (V c (Pipeline.arrRef spec2 5) : Arr 10000 128) (V c (Pipeline.arrRef spec2 6) : Arr 128 16) := by
  unfold scratch2 fill2
  rw [View.canon_unit_zero zeros2, all2_5, all2_6, View.ld_unit_zero zeros2, View.ld_unit_zero zeros2]
  funext i
  unfold_payloads
  pointwise [mul]

/-- What point `t` leaves in call 2's output block: rows `400 t …` of the result. -/
theorem block2 (c : Dev nD) (t : Fin cfg2.N) (hN : ∀ z : S400x16.Idx, 400 * t.val + (z 0).val < 10000) :
    out2 (scratch2 V c) (iblk2 V c 0 t) (iblk2 V c 1 t) (iblk2 V c 2 t) (iblk2 V c 3 t) (iblk2 V c 4 t) (iblk2 V c 7 t)
      = fun z => val2 V c (ix2 ⟨400 * t.val + (z 0).val, hN z⟩ (z 1)) := by
  unfold out2
  rw [all2_7, scratch2_eq]
  refine stack5_eq _ _ _ _ _ _ ?_ ?_ ?_ ?_ ?_
  · intro x
    refine (strip2_apply _ _ _ x).trans ?_
    rw [View.ld_unit_zero zeros2, View.ld_unit_zero zeros2, View.ld_unit_zero zeros2]
    exact mul_tanh_row _ _ _ ⟨400 * t.val + (rOut0.emb x 0).val, hN (rOut0.emb x)⟩ (x 1) (rOut0.emb x 1) _ (fun l => strip2_0 V c t (x 0) l _ (by show 400 * t.val + (0 + 1 * (x 0).val) = _; omega))
      (Fin.ext (by show (x 1).val = 0 + 1 * (x 1).val; omega))
  · intro x
    refine (strip2_apply _ _ _ x).trans ?_
    rw [View.ld_unit_zero zeros2, View.ld_unit_zero zeros2, View.ld_unit_zero zeros2]
    exact mul_tanh_row _ _ _ ⟨400 * t.val + (rOut1.emb x 0).val, hN (rOut1.emb x)⟩ (x 1) (rOut1.emb x 1) _ (fun l => strip2_1 V c t (x 0) l _ (by show 400 * t.val + (80 + 1 * (x 0).val) = _; omega))
      (Fin.ext (by show (x 1).val = 0 + 1 * (x 1).val; omega))
  · intro x
    refine (strip2_apply _ _ _ x).trans ?_
    rw [View.ld_unit_zero zeros2, View.ld_unit_zero zeros2, View.ld_unit_zero zeros2]
    exact mul_tanh_row _ _ _ ⟨400 * t.val + (rOut2.emb x 0).val, hN (rOut2.emb x)⟩ (x 1) (rOut2.emb x 1) _ (fun l => strip2_2 V c t (x 0) l _ (by show 400 * t.val + (160 + 1 * (x 0).val) = _; omega))
      (Fin.ext (by show (x 1).val = 0 + 1 * (x 1).val; omega))
  · intro x
    refine (strip2_apply _ _ _ x).trans ?_
    rw [View.ld_unit_zero zeros2, View.ld_unit_zero zeros2, View.ld_unit_zero zeros2]
    exact mul_tanh_row _ _ _ ⟨400 * t.val + (rOut3.emb x 0).val, hN (rOut3.emb x)⟩ (x 1) (rOut3.emb x 1) _ (fun l => strip2_3 V c t (x 0) l _ (by show 400 * t.val + (240 + 1 * (x 0).val) = _; omega))
      (Fin.ext (by show (x 1).val = 0 + 1 * (x 1).val; omega))
  · intro x
    refine (strip2_apply _ _ _ x).trans ?_
    rw [View.ld_unit_zero zeros2, View.ld_unit_zero zeros2, View.ld_unit_zero zeros2]
    exact mul_tanh_row _ _ _ ⟨400 * t.val + (rOut4.emb x 0).val, hN (rOut4.emb x)⟩ (x 1) (rOut4.emb x 1) _ (fun l => strip2_4 V c t (x 0) l _ (by show 400 * t.val + (320 + 1 * (x 0).val) = _; omega))
      (Fin.ext (by show (x 1).val = 0 + 1 * (x 1).val; omega))

/-- Call 2's array after its run. -/
theorem final2 (c : Dev nD) : (dat2 V c).arrAt 8 cfg2.N = val2 V c := by
  have hN (t : Fin cfg2.N) (z : S400x16.Idx) : 400 * t.val + (z 0).val < 10000 := by
    have h0 : (z 0).val < 400 := (z 0).isLt
    have h1 : t.val < 25 := lt_of_lt_of_eq t.isLt N_2
    omega
  refine (dat2 V c).arrAt_eq_of_cover 8 _ (fun t _ => ?_) (fun i => ?_)
  · show (cfg2.win 8).cut (grid2.coords t) ((dat2 V c).after 8 t) = _
    rw [after2_8, block2 V c t (hN t)]
    have e := index2 t
    generalize val2 V c = G
    funext y
    show G (ix2 ⟨400 * t.val + ((cfg2.win 8).xinj (grid2.coords t) y 0).val, _⟩ ((cfg2.win 8).xinj (grid2.coords t) y 1)) = G (((cfg2.win 8).blk t).view.emb y)
    have hb0 : (((cfg2.win 8).blk t).view.emb y 0).val = win2_8.index t (0 : Fin 2) * 400 + 1 * (y 0).val := rfl
    have hb1 : (((cfg2.win 8).blk t).view.emb y 1).val = win2_8.index t (1 : Fin 2) * 16 + 1 * (y 1).val := rfl
    have hx0 : ((cfg2.win 8).xinj (grid2.coords t) y 0).val = (y 0).val := rfl
    have hx1 : ((cfg2.win 8).xinj (grid2.coords t) y 1).val = (y 1).val := rfl
    have e0 := e.2.1
    have e1 := e.2.2.1
    exact congrArg G (idx2_ext _ _
      (Eq.trans (by show 400 * t.val + ((cfg2.win 8).xinj (grid2.coords t) y 0).val = win2_8.index t (0 : Fin 2) * 400 + 1 * (y 0).val; rw [hx0, e0]; omega) hb0.symm)
      (Eq.trans (by show ((cfg2.win 8).xinj (grid2.coords t) y 1).val = win2_8.index t (1 : Fin 2) * 16 + 1 * (y 1).val; rw [hx1, e1]; omega) hb1.symm))
  · have h0 : (i 0).val < 10000 := (i 0).isLt
    have h1 : (i 1).val < 16 := (i 1).isLt
    have ht : (i 0).val / 400 < cfg2.N := lt_of_lt_of_eq (by omega) N_2.symm
    have e := index2 ⟨(i 0).val / 400, ht⟩
    have e0 : win2_8.index ⟨(i 0).val / 400, ht⟩ (0 : Fin 2) = (i 0).val / 400 := e.2.1
    have e1 : win2_8.index ⟨(i 0).val / 400, ht⟩ (1 : Fin 2) = 0 := e.2.2.1
    refine ⟨⟨(i 0).val / 400, ht⟩, e.1, ?_⟩
    show i ∈ ((View.whole (Pipeline.arrRef spec2 8)).slice (win2_8.rect ⟨(i 0).val / 400, ht⟩)).set
    rw [View.set_slice_whole, Rect.mem_set_unit]
    intro a
    match a with
    | ⟨0, _⟩ => show win2_8.index ⟨(i 0).val / 400, ht⟩ (0 : Fin 2) * 400 ≤ (i 0).val ∧ (i 0).val < win2_8.index ⟨(i 0).val / 400, ht⟩ (0 : Fin 2) * 400 + 400; omega
    | ⟨1, _⟩ => show win2_8.index ⟨(i 0).val / 400, ht⟩ (1 : Fin 2) * 16 ≤ (i 1).val ∧ (i 1).val < win2_8.index ⟨(i 0).val / 400, ht⟩ (1 : Fin 2) * 16 + 16; omega

end Cert.KernelIdeal.Calls

end
-- ==== Proof.KernelIdeal.WholeValues.lean ====
/-
What the two calls without a grid leave in their arrays, as matrices of extended reals.
-/
module

public import proofs.«01_k».proof.Proof.KernelIdeal.Values
public import proofs.«01_k».proof.Proof.Matrix
public import Idealize.ShloMosaic.Lib.Pipeline.Value
public import Idealize.ShloMosaic.Lib.Pipeline.ValueKit

@[expose] public section

set_option maxRecDepth 16384

noncomputable section

namespace Cert.KernelIdeal.Calls

open Idealize.ShloMosaic Idealize.ShloMosaic.TcCoe
open Idealize.SL Idealize.SL.RA Idealize.SL.Sem
open Idealize.ShloMosaic.Pipeline (Dat Cfg Window)
open Cert.KernelIdeal.Gen
open Cert.Maths

variable (V : (c : Dev nD) → (b : Ref sig .tc) → Buf (Elt Ideal) ((c : Thread nD τ).loc b))

/-! ## Call 5 -/

/-- Every window of call 5 is its whole array. -/
theorem index5 : ∀ t : Fin cfg5.N, win5_0.index t (0 : Fin 2) = 0 ∧ win5_0.index t (1 : Fin 2) = 0 ∧ win5_1.index t (0 : Fin 2) = 0 ∧ win5_1.index t (1 : Fin 2) = 0 ∧ win5_2.index t (0 : Fin 2) = 0 ∧ win5_2.index t (1 : Fin 2) = 0 ∧ win5_3.index t (0 : Fin 2) = 0 ∧ win5_3.index t (1 : Fin 2) = 0 ∧ win5_4.index t (0 : Fin 2) = 0 ∧ win5_4.index t (1 : Fin 2) = 0 ∧ win5_5.index t (0 : Fin 2) = 0 ∧ win5_5.index t (1 : Fin 2) = 0 ∧ win5_6.index t (0 : Fin 2) = 0 ∧ win5_6.index t (1 : Fin 2) = 0 ∧ (cfg5.win 4).flush t = true ∧ (cfg5.win 5).flush t = true ∧ (cfg5.win 6).flush t = true :=
  (by decide +kernel : ∀ t : Fin grid5.N, _)

theorem all5_0 (c : Dev nD) (t : Fin cfg5.N) : iblk5 V c 0 t = (V c (Pipeline.arrRef spec5 0) : Arr 10000 16) := by
  have e := index5 t
  funext y
  show V c (Pipeline.arrRef spec5 0) (((cfg5.win 0).blk t).view.emb y) = _
  refine congrArg (V c (Pipeline.arrRef spec5 0)) (funext fun a => Fin.ext ?_)
  match a with
  | ⟨0, _⟩ => show win5_0.index t (0 : Fin 2) * 10000 + 1 * (y 0).val = (y 0).val; omega
  | ⟨1, _⟩ => show win5_0.index t (1 : Fin 2) * 16 + 1 * (y 1).val = (y 1).val; omega

theorem all5_1 (c : Dev nD) (t : Fin cfg5.N) : iblk5 V c 1 t = (V c (Pipeline.arrRef spec5 1) : Arr 10000 16) := by
  have e := index5 t
  funext y
  show V c (Pipeline.arrRef spec5 1) (((cfg5.win 1).blk t).view.emb y) = _
  refine congrArg (V c (Pipeline.arrRef spec5 1)) (funext fun a => Fin.ext ?_)
  match a with
  | ⟨0, _⟩ => show win5_1.index t (0 : Fin 2) * 10000 + 1 * (y 0).val = (y 0).val; omega
  | ⟨1, _⟩ => show win5_1.index t (1 : Fin 2) * 16 + 1 * (y 1).val = (y 1).val; omega

theorem all5_2 (c : Dev nD) (t : Fin cfg5.N) : iblk5 V c 2 t = (V c (Pipeline.arrRef spec5 2) : Arr 16 16) := by
  have e := index5 t
  funext y
  show V c (Pipeline.arrRef spec5 2) (((cfg5.win 2).blk t).view.emb y) = _
  refine congrArg (V c (Pipeline.arrRef spec5 2)) (funext fun a => Fin.ext ?_)
  match a with
  | ⟨0, _⟩ => show win5_2.index t (0 : Fin 2) * 16 + 1 * (y 0).val = (y 0).val; omega
  | ⟨1, _⟩ => show win5_2.index t (1 : Fin 2) * 16 + 1 * (y 1).val = (y 1).val; omega

theorem all5_3 (c : Dev nD) (t : Fin cfg5.N) : iblk5 V c 3 t = (V c (Pipeline.arrRef spec5 3) : Arr 16 16) := by
  have e := index5 t
  funext y
  show V c (Pipeline.arrRef spec5 3) (((cfg5.win 3).blk t).view.emb y) = _
  refine congrArg (V c (Pipeline.arrRef spec5 3)) (funext fun a => Fin.ext ?_)
  match a with
  | ⟨0, _⟩ => show win5_3.index t (0 : Fin 2) * 16 + 1 * (y 0).val = (y 0).val; omega
  | ⟨1, _⟩ => show win5_3.index t (1 : Fin 2) * 16 + 1 * (y 1).val = (y 1).val; omega

theorem ldWide (X : Vec Ideal S10000x16 .f32) : View.ld X rWide = X := View.ld_unit_zero zeros2 _ _
theorem ldSq (X : Vec Ideal S16x16 .f32) : View.ld X rSq = X := View.ld_unit_zero zeros2 _ _

theorem pay1_eq (A : Vec Ideal S10000x16 .f32) : k5_pay1 A A = centred A := by
  funext i
  unfold_payloads
  pointwise [centred]

theorem pay2_eq (A : Vec Ideal S10000x16 .f32) : k5_pay2 A A = centred A := pay1_eq A

theorem pay3_eq (A B : Vec Ideal S10000x16 .f32) (U W : Vec Ideal S16x16 .f32) :
    k5_pay3 A A B B U W = plus (mul (centred A) U) (mul (centred B) W) := by
  unfold k5_pay3
  rw [pay1_eq, pay2_eq]
  generalize centred A = X
  generalize centred B = Y
  funext i
  pointwise [plus, mul]

theorem block5_4 (c : Dev nD) (t : Fin cfg5.N) : out5_4 (iblk5 V c 0 t) (iblk5 V c 1 t) (iblk5 V c 2 t) (iblk5 V c 3 t) = centred (V c (Pipeline.arrRef spec5 0) : Arr 10000 16) := by
  unfold out5_4
  rw [View.canon_unit_zero zeros2]
  simp only [ldWide, ldSq]
  rw [pay1_eq, all5_0]

/-- Call 5's array 1 after its run. -/
theorem final5_4 (c : Dev nD) : (dat5 V c).arrAt 4 cfg5.N = centred (V c (Pipeline.arrRef spec5 0) : Arr 10000 16) := by
  refine (dat5 V c).arrAt_eq_of_cover 4 _ (fun t _ => ?_) (fun i => ?_)
  · show (cfg5.win 4).cut (grid5.coords t) ((dat5 V c).after 4 t) = _
    rw [after5_4, block5_4 V c t]
    have e := index5 t
    have e0 : win5_4.index t (0 : Fin 2) = 0 := e.2.2.2.2.2.2.2.2.1
    have e1 : win5_4.index t (1 : Fin 2) = 0 := e.2.2.2.2.2.2.2.2.2.1
    generalize centred (V c (Pipeline.arrRef spec5 0) : Arr 10000 16) = G
    funext y
    show G ((cfg5.win 4).xinj (grid5.coords t) y) = G (((cfg5.win 4).blk t).view.emb y)
    have hb0 : (((cfg5.win 4).blk t).view.emb y 0).val = win5_4.index t (0 : Fin 2) * 10000 + 1 * (y 0).val := rfl
    have hb1 : (((cfg5.win 4).blk t).view.emb y 1).val = win5_4.index t (1 : Fin 2) * 16 + 1 * (y 1).val := rfl
    have hx0 : ((cfg5.win 4).xinj (grid5.coords t) y 0).val = (y 0).val := rfl
    have hx1 : ((cfg5.win 4).xinj (grid5.coords t) y 1).val = (y 1).val := rfl
    exact congrArg G (idx2_ext _ _ (by rw [hx0]; refine Eq.trans ?_ hb0.symm; rw [e0]; omega) (by rw [hx1]; refine Eq.trans ?_ hb1.symm; rw [e1]; omega))
  · have ht : 0 < cfg5.N := by decide
    have e := index5 ⟨0, ht⟩
    refine ⟨⟨0, ht⟩, e.2.2.2.2.2.2.2.2.2.2.2.2.2.2.1, ?_⟩
    have h0 : (i 0).val < 10000 := (i 0).isLt
    have h1 : (i 1).val < 16 := (i 1).isLt
    show i ∈ ((View.whole (Pipeline.arrRef spec5 4)).slice (win5_4.rect ⟨0, ht⟩)).set
    rw [View.set_slice_whole, Rect.mem_set_unit]
    have e0 : win5_4.index ⟨0, ht⟩ (0 : Fin 2) = 0 := e.2.2.2.2.2.2.2.2.1
    have e1 : win5_4.index ⟨0, ht⟩ (1 : Fin 2) = 0 := e.2.2.2.2.2.2.2.2.2.1
    intro a
    match a with
    | ⟨0, _⟩ => show win5_4.index ⟨0, ht⟩ (0 : Fin 2) * 10000 ≤ (i 0).val ∧ (i 0).val < win5_4.index ⟨0, ht⟩ (0 : Fin 2) * 10000 + 10000; omega
    | ⟨1, _⟩ => show win5_4.index ⟨0, ht⟩ (1 : Fin 2) * 16 ≤ (i 1).val ∧ (i 1).val < win5_4.index ⟨0, ht⟩ (1 : Fin 2) * 16 + 16; omega

theorem block5_5 (c : Dev nD) (t : Fin cfg5.N) : out5_5 (iblk5 V c 0 t) (iblk5 V c 1 t) (iblk5 V c 2 t) (iblk5 V c 3 t) = centred (V c (Pipeline.arrRef spec5 1) : Arr 10000 16) := by
  unfold out5_5
  rw [View.canon_unit_zero zeros2]
  simp only [ldWide, ldSq]
  rw [pay2_eq, all5_1]

/-- Call 5's array 2 after its run. -/
theorem final5_5 (c : Dev nD) : (dat5 V c).arrAt 5 cfg5.N = centred (V c (Pipeline.arrRef spec5 1) : Arr 10000 16) := by
  refine (dat5 V c).arrAt_eq_of_cover 5 _ (fun t _ => ?_) (fun i => ?_)
  · show (cfg5.win 5).cut (grid5.coords t) ((dat5 V c).after 5 t) = _
    rw [after5_5, block5_5 V c t]
    have e := index5 t
    have e0 : win5_5.index t (0 : Fin 2) = 0 := e.2.2.2.2.2.2.2.2.2.2.1
    have e1 : win5_5.index t (1 : Fin 2) = 0 := e.2.2.2.2.2.2.2.2.2.2.2.1
    generalize centred (V c (Pipeline.arrRef spec5 1) : Arr 10000 16) = G
    funext y
    show G ((cfg5.win 5).xinj (grid5.coords t) y) = G (((cfg5.win 5).blk t).view.emb y)
    have hb0 : (((cfg5.win 5).blk t).view.emb y 0).val = win5_5.index t (0 : Fin 2) * 10000 + 1 * (y 0).val := rfl
    have hb1 : (((cfg5.win 5).blk t).view.emb y 1).val = win5_5.index t (1 : Fin 2) * 16 + 1 * (y 1).val := rfl
    have hx0 : ((cfg5.win 5).xinj (grid5.coords t) y 0).val = (y 0).val := rfl
    have hx1 : ((cfg5.win 5).xinj (grid5.coords t) y 1).val = (y 1).val := rfl
    exact congrArg G (idx2_ext _ _ (by rw [hx0]; refine Eq.trans ?_ hb0.symm; rw [e0]; omega) (by rw [hx1]; refine Eq.trans ?_ hb1.symm; rw [e1]; omega))
  · have ht : 0 < cfg5.N := by decide
    have e := index5 ⟨0, ht⟩
    refine ⟨⟨0, ht⟩, e.2.2.2.2.2.2.2.2.2.2.2.2.2.2.2.1, ?_⟩
    have h0 : (i 0).val < 10000 := (i 0).isLt
    have h1 : (i 1).val < 16 := (i 1).isLt
    show i ∈ ((View.whole (Pipeline.arrRef spec5 5)).slice (win5_5.rect ⟨0, ht⟩)).set
    rw [View.set_slice_whole, Rect.mem_set_unit]
    have e0 : win5_5.index ⟨0, ht⟩ (0 : Fin 2) = 0 := e.2.2.2.2.2.2.2.2.2.2.1
    have e1 : win5_5.index ⟨0, ht⟩ (1 : Fin 2) = 0 := e.2.2.2.2.2.2.2.2.2.2.2.1
    intro a
    match a with
    | ⟨0, _⟩ => show win5_5.index ⟨0, ht⟩ (0 : Fin 2) * 10000 ≤ (i 0).val ∧ (i 0).val < win5_5.index ⟨0, ht⟩ (0 : Fin 2) * 10000 + 10000; omega
    | ⟨1, _⟩ => show win5_5.index ⟨0, ht⟩ (1 : Fin 2) * 16 ≤ (i 1).val ∧ (i 1).val < win5_5.index ⟨0, ht⟩ (1 : Fin 2) * 16 + 16; omega

theorem block5_6 (c : Dev nD) (t : Fin cfg5.N) : out5_6 (iblk5 V c 0 t) (iblk5 V c 1 t) (iblk5 V c 2 t) (iblk5 V c 3 t) = plus (mul (centred (V c (Pipeline.arrRef spec5 0) : Arr 10000 16)) (V c (Pipeline.arrRef spec5 2) : Arr 16 16)) (mul (centred (V c (Pipeline.arrRef spec5 1) : Arr 10000 16)) (V c (Pipeline.arrRef spec5 3) : Arr 16 16)) := by
  unfold out5_6
  rw [View.canon_unit_zero zeros2]
  simp only [ldWide, ldSq]
  rw [pay3_eq, all5_0, all5_1, all5_2, all5_3]

/-- Call 5's array 3 after its run. -/
theorem final5_6 (c : Dev nD) : (dat5 V c).arrAt 6 cfg5.N = plus (mul (centred (V c (Pipeline.arrRef spec5 0) : Arr 10000 16)) (V c (Pipeline.arrRef spec5 2) : Arr 16 16)) (mul (centred (V c (Pipeline.arrRef spec5 1) : Arr 10000 16)) (V c (Pipeline.arrRef spec5 3) : Arr 16 16)) := by
  refine (dat5 V c).arrAt_eq_of_cover 6 _ (fun t _ => ?_) (fun i => ?_)
  · show (cfg5.win 6).cut (grid5.coords t) ((dat5 V c).after 6 t) = _
    rw [after5_6, block5_6 V c t]
    have e := index5 t
    have e0 : win5_6.index t (0 : Fin 2) = 0 := e.2.2.2.2.2.2.2.2.2.2.2.2.1
    have e1 : win5_6.index t (1 : Fin 2) = 0 := e.2.2.2.2.2.2.2.2.2.2.2.2.2.1
    generalize plus (mul (centred (V c (Pipeline.arrRef spec5 0) : Arr 10000 16)) (V c (Pipeline.arrRef spec5 2) : Arr 16 16)) (mul (centred (V c (Pipeline.arrRef spec5 1) : Arr 10000 16)) (V c (Pipeline.arrRef spec5 3) : Arr 16 16)) = G
    funext y
    show G ((cfg5.win 6).xinj (grid5.coords t) y) = G (((cfg5.win 6).blk t).view.emb y)
    have hb0 : (((cfg5.win 6).blk t).view.emb y 0).val = win5_6.index t (0 : Fin 2) * 10000 + 1 * (y 0).val := rfl
    have hb1 : (((cfg5.win 6).blk t).view.emb y 1).val = win5_6.index t (1 : Fin 2) * 16 + 1 * (y 1).val := rfl
    have hx0 : ((cfg5.win 6).xinj (grid5.coords t) y 0).val = (y 0).val := rfl
    have hx1 : ((cfg5.win 6).xinj (grid5.coords t) y 1).val = (y 1).val := rfl
    exact congrArg G (idx2_ext _ _ (by rw [hx0]; refine Eq.trans ?_ hb0.symm; rw [e0]; omega) (by rw [hx1]; refine Eq.trans ?_ hb1.symm; rw [e1]; omega))
  · have ht : 0 < cfg5.N := by decide
    have e := index5 ⟨0, ht⟩
    refine ⟨⟨0, ht⟩, e.2.2.2.2.2.2.2.2.2.2.2.2.2.2.2.2, ?_⟩
    have h0 : (i 0).val < 10000 := (i 0).isLt
    have h1 : (i 1).val < 16 := (i 1).isLt
    show i ∈ ((View.whole (Pipeline.arrRef spec5 6)).slice (win5_6.rect ⟨0, ht⟩)).set
    rw [View.set_slice_whole, Rect.mem_set_unit]
    have e0 : win5_6.index ⟨0, ht⟩ (0 : Fin 2) = 0 := e.2.2.2.2.2.2.2.2.2.2.2.2.1
    have e1 : win5_6.index ⟨0, ht⟩ (1 : Fin 2) = 0 := e.2.2.2.2.2.2.2.2.2.2.2.2.2.1
    intro a
    match a with
    | ⟨0, _⟩ => show win5_6.index ⟨0, ht⟩ (0 : Fin 2) * 10000 ≤ (i 0).val ∧ (i 0).val < win5_6.index ⟨0, ht⟩ (0 : Fin 2) * 10000 + 10000; omega
    | ⟨1, _⟩ => show win5_6.index ⟨0, ht⟩ (1 : Fin 2) * 16 ≤ (i 1).val ∧ (i 1).val < win5_6.index ⟨0, ht⟩ (1 : Fin 2) * 16 + 16; omega

/-! ## Call 0 -/

/-- Every window of call 0 is its whole array. -/
theorem index0 : ∀ t : Fin cfg0.N, win0_0.index t (0 : Fin 2) = 0 ∧ win0_0.index t (1 : Fin 2) = 0 ∧ win0_1.index t (0 : Fin 2) = 0 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = 0 ∧ win0_7.index t (0 : Fin 2) = 0 ∧ win0_7.index t (1 : Fin 2) = 0 ∧ win0_8.index t (0 : Fin 2) = 0 ∧ win0_8.index t (1 : Fin 2) = 0 ∧ win0_9.index t (0 : Fin 2) = 0 ∧ win0_9.index t (1 : Fin 2) = 0 ∧ win0_10.index t (0 : Fin 2) = 0 ∧ win0_10.index t (1 : Fin 2) = 0 ∧ win0_11.index t (0 : Fin 2) = 0 ∧ win0_11.index t (1 : Fin 2) = 0 ∧ (cfg0.win 6).flush t = true ∧ (cfg0.win 7).flush t = true ∧ (cfg0.win 8).flush t = true ∧ (cfg0.win 9).flush t = true ∧ (cfg0.win 10).flush t = true ∧ (cfg0.win 11).flush t = true :=
  (by decide +kernel : ∀ t : Fin grid0.N, _)

theorem all0_0 (c : Dev nD) (t : Fin cfg0.N) : iblk0 V c 0 t = (V c (Pipeline.arrRef spec0 0) : Arr 256 32) := by
  have e := index0 t
  funext y
  show V c (Pipeline.arrRef spec0 0) (((cfg0.win 0).blk t).view.emb y) = _
  refine congrArg (V c (Pipeline.arrRef spec0 0)) (funext fun a => Fin.ext ?_)
  match a with
  | ⟨0, _⟩ => show win0_0.index t (0 : Fin 2) * 256 + 1 * (y 0).val = (y 0).val; omega
  | ⟨1, _⟩ => show win0_0.index t (1 : Fin 2) * 32 + 1 * (y 1).val = (y 1).val; omega

theorem all0_1 (c : Dev nD) (t : Fin cfg0.N) : iblk0 V c 1 t = (V c (Pipeline.arrRef spec0 1) : Arr 32 16) := by
  have e := index0 t
  funext y
  show V c (Pipeline.arrRef spec0 1) (((cfg0.win 1).blk t).view.emb y) = _
  refine congrArg (V c (Pipeline.arrRef spec0 1)) (funext fun a => Fin.ext ?_)
  match a with
  | ⟨0, _⟩ => show win0_1.index t (0 : Fin 2) * 32 + 1 * (y 0).val = (y 0).val; omega
  | ⟨1, _⟩ => show win0_1.index t (1 : Fin 2) * 16 + 1 * (y 1).val = (y 1).val; omega

theorem all0_2 (c : Dev nD) (t : Fin cfg0.N) : iblk0 V c 2 t = (V c (Pipeline.arrRef spec0 2) : Arr 128 16) := by
  have e := index0 t
  funext y
  show V c (Pipeline.arrRef spec0 2) (((cfg0.win 2).blk t).view.emb y) = _
  refine congrArg (V c (Pipeline.arrRef spec0 2)) (funext fun a => Fin.ext ?_)
  match a with
  | ⟨0, _⟩ => show win0_2.index t (0 : Fin 2) * 128 + 1 * (y 0).val = (y 0).val; omega
  | ⟨1, _⟩ => show win0_2.index t (1 : Fin 2) * 16 + 1 * (y 1).val = (y 1).val; omega

theorem all0_3 (c : Dev nD) (t : Fin cfg0.N) : iblk0 V c 3 t = (V c (Pipeline.arrRef spec0 3) : Arr 16 16) := by
  have e := index0 t
  funext y
  show V c (Pipeline.arrRef spec0 3) (((cfg0.win 3).blk t).view.emb y) = _
  refine congrArg (V c (Pipeline.arrRef spec0 3)) (funext fun a => Fin.ext ?_)
  match a with
  | ⟨0, _⟩ => show win0_3.index t (0 : Fin 2) * 16 + 1 * (y 0).val = (y 0).val; omega
  | ⟨1, _⟩ => show win0_3.index t (1 : Fin 2) * 16 + 1 * (y 1).val = (y 1).val; omega

theorem all0_4 (c : Dev nD) (t : Fin cfg0.N) : iblk0 V c 4 t = (V c (Pipeline.arrRef spec0 4) : Arr 16 16) := by
  have e := index0 t
  funext y
  show V c (Pipeline.arrRef spec0 4) (((cfg0.win 4).blk t).view.emb y) = _
  refine congrArg (V c (Pipeline.arrRef spec0 4)) (funext fun a => Fin.ext ?_)
  match a with
  | ⟨0, _⟩ => show win0_4.index t (0 : Fin 2) * 16 + 1 * (y 0).val = (y 0).val; omega
  | ⟨1, _⟩ => show win0_4.index t (1 : Fin 2) * 16 + 1 * (y 1).val = (y 1).val; omega

theorem all0_5 (c : Dev nD) (t : Fin cfg0.N) : iblk0 V c 5 t = (V c (Pipeline.arrRef spec0 5) : Arr 16 16) := by
  have e := index0 t
  funext y
  show V c (Pipeline.arrRef spec0 5) (((cfg0.win 5).blk t).view.emb y) = _
  refine congrArg (V c (Pipeline.arrRef spec0 5)) (funext fun a => Fin.ext ?_)
  match a with
  | ⟨0, _⟩ => show win0_5.index t (0 : Fin 2) * 16 + 1 * (y 0).val = (y 0).val; omega
  | ⟨1, _⟩ => show win0_5.index t (1 : Fin 2) * 16 + 1 * (y 1).val = (y 1).val; omega

theorem block0_6 (c : Dev nD) (t : Fin cfg0.N) : out0_256x32 (iblk0 V c 0 t) = ortho256x32 (F := Ideal) (V c (Pipeline.arrRef spec0 0) : Arr 256 32) := by
  unfold out0_256x32
  rw [View.canon_unit_zero zeros2, View.ld_unit_zero zeros2, all0_0]

/-- Call 0's array 1 after its run. -/
theorem final0_6 (c : Dev nD) : (dat0 V c).arrAt 6 cfg0.N = ortho256x32 (F := Ideal) (V c (Pipeline.arrRef spec0 0) : Arr 256 32) := by
  refine (dat0 V c).arrAt_eq_of_cover 6 _ (fun t _ => ?_) (fun i => ?_)
  · show (cfg0.win 6).cut (grid0.coords t) ((dat0 V c).after 6 t) = _
    rw [after0_6, block0_6 V c t]
    have e := index0 t
    have e0 : win0_6.index t (0 : Fin 2) = 0 := e.2.2.2.2.2.2.2.2.2.2.2.2.1
    have e1 : win0_6.index t (1 : Fin 2) = 0 := e.2.2.2.2.2.2.2.2.2.2.2.2.2.1
    generalize ortho256x32 (F := Ideal) (V c (Pipeline.arrRef spec0 0) : Arr 256 32) = G
    funext y
    show G ((cfg0.win 6).xinj (grid0.coords t) y) = G (((cfg0.win 6).blk t).view.emb y)
    have hb0 : (((cfg0.win 6).blk t).view.emb y 0).val = win0_6.index t (0 : Fin 2) * 256 + 1 * (y 0).val := rfl
    have hb1 : (((cfg0.win 6).blk t).view.emb y 1).val = win0_6.index t (1 : Fin 2) * 32 + 1 * (y 1).val := rfl
    have hx0 : ((cfg0.win 6).xinj (grid0.coords t) y 0).val = (y 0).val := rfl
    have hx1 : ((cfg0.win 6).xinj (grid0.coords t) y 1).val = (y 1).val := rfl
    exact congrArg G (idx2_ext _ _ (by rw [hx0]; refine Eq.trans ?_ hb0.symm; rw [e0]; omega) (by rw [hx1]; refine Eq.trans ?_ hb1.symm; rw [e1]; omega))
  · have ht : 0 < cfg0.N := by decide
    have e := index0 ⟨0, ht⟩
    refine ⟨⟨0, ht⟩, e.2.2.2.2.2.2.2.2.2.2.2.2.2.2.2.2.2.2.2.2.2.2.2.2.1, ?_⟩
    have h0 : (i 0).val < 256 := (i 0).isLt
    have h1 : (i 1).val < 32 := (i 1).isLt
    show i ∈ ((View.whole (Pipeline.arrRef spec0 6)).slice (win0_6.rect ⟨0, ht⟩)).set
    rw [View.set_slice_whole, Rect.mem_set_unit]
    have e0 : win0_6.index ⟨0, ht⟩ (0 : Fin 2) = 0 := e.2.2.2.2.2.2.2.2.2.2.2.2.1
    have e1 : win0_6.index ⟨0, ht⟩ (1 : Fin 2) = 0 := e.2.2.2.2.2.2.2.2.2.2.2.2.2.1
    intro a
    match a with
    | ⟨0, _⟩ => show win0_6.index ⟨0, ht⟩ (0 : Fin 2) * 256 ≤ (i 0).val ∧ (i 0).val < win0_6.index ⟨0, ht⟩ (0 : Fin 2) * 256 + 256; omega
    | ⟨1, _⟩ => show win0_6.index ⟨0, ht⟩ (1 : Fin 2) * 32 ≤ (i 1).val ∧ (i 1).val < win0_6.index ⟨0, ht⟩ (1 : Fin 2) * 32 + 32; omega

theorem block0_7 (c : Dev nD) (t : Fin cfg0.N) : out0_32x16 (iblk0 V c 1 t) = ortho32x16 (F := Ideal) (V c (Pipeline.arrRef spec0 1) : Arr 32 16) := by
  unfold out0_32x16
  rw [View.canon_unit_zero zeros2, View.ld_unit_zero zeros2, all0_1]

/-- Call 0's array 2 after its run. -/
theorem final0_7 (c : Dev nD) : (dat0 V c).arrAt 7 cfg0.N = ortho32x16 (F := Ideal) (V c (Pipeline.arrRef spec0 1) : Arr 32 16) := by
  refine (dat0 V c).arrAt_eq_of_cover 7 _ (fun t _ => ?_) (fun i => ?_)
  · show (cfg0.win 7).cut (grid0.coords t) ((dat0 V c).after 7 t) = _
    rw [after0_7, block0_7 V c t]
    have e := index0 t
    have e0 : win0_7.index t (0 : Fin 2) = 0 := e.2.2.2.2.2.2.2.2.2.2.2.2.2.2.1
    have e1 : win0_7.index t (1 : Fin 2) = 0 := e.2.2.2.2.2.2.2.2.2.2.2.2.2.2.2.1
    generalize ortho32x16 (F := Ideal) (V c (Pipeline.arrRef spec0 1) : Arr 32 16) = G
    funext y
    show G ((cfg0.win 7).xinj (grid0.coords t) y) = G (((cfg0.win 7).blk t).view.emb y)
    have hb0 : (((cfg0.win 7).blk t).view.emb y 0).val = win0_7.index t (0 : Fin 2) * 32 + 1 * (y 0).val := rfl
    have hb1 : (((cfg0.win 7).blk t).view.emb y 1).val = win0_7.index t (1 : Fin 2) * 16 + 1 * (y 1).val := rfl
    have hx0 : ((cfg0.win 7).xinj (grid0.coords t) y 0).val = (y 0).val := rfl
    have hx1 : ((cfg0.win 7).xinj (grid0.coords t) y 1).val = (y 1).val := rfl
    exact congrArg G (idx2_ext _ _ (by rw [hx0]; refine Eq.trans ?_ hb0.symm; rw [e0]; omega) (by rw [hx1]; refine Eq.trans ?_ hb1.symm; rw [e1]; omega))
  · have ht : 0 < cfg0.N := by decide
    have e := index0 ⟨0, ht⟩
    refine ⟨⟨0, ht⟩, e.2.2.2.2.2.2.2.2.2.2.2.2.2.2.2.2.2.2.2.2.2.2.2.2.2.1, ?_⟩
    have h0 : (i 0).val < 32 := (i 0).isLt
    have h1 : (i 1).val < 16 := (i 1).isLt
    show i ∈ ((View.whole (Pipeline.arrRef spec0 7)).slice (win0_7.rect ⟨0, ht⟩)).set
    rw [View.set_slice_whole, Rect.mem_set_unit]
    have e0 : win0_7.index ⟨0, ht⟩ (0 : Fin 2) = 0 := e.2.2.2.2.2.2.2.2.2.2.2.2.2.2.1
    have e1 : win0_7.index ⟨0, ht⟩ (1 : Fin 2) = 0 := e.2.2.2.2.2.2.2.2.2.2.2.2.2.2.2.1
    intro a
    match a with
    | ⟨0, _⟩ => show win0_7.index ⟨0, ht⟩ (0 : Fin 2) * 32 ≤ (i 0).val ∧ (i 0).val < win0_7.index ⟨0, ht⟩ (0 : Fin 2) * 32 + 32; omega
    | ⟨1, _⟩ => show win0_7.index ⟨0, ht⟩ (1 : Fin 2) * 16 ≤ (i 1).val ∧ (i 1).val < win0_7.index ⟨0, ht⟩ (1 : Fin 2) * 16 + 16; omega

theorem block0_8 (c : Dev nD) (t : Fin cfg0.N) : out0_128x16 (iblk0 V c 2 t) = ortho128x16 (F := Ideal) (V c (Pipeline.arrRef spec0 2) : Arr 128 16) := by
  unfold out0_128x16
  rw [View.canon_unit_zero zeros2, View.ld_unit_zero zeros2, all0_2]

/-- Call 0's array 3 after its run. -/
theorem final0_8 (c : Dev nD) : (dat0 V c).arrAt 8 cfg0.N = ortho128x16 (F := Ideal) (V c (Pipeline.arrRef spec0 2) : Arr 128 16) := by
  refine (dat0 V c).arrAt_eq_of_cover 8 _ (fun t _ => ?_) (fun i => ?_)
  · show (cfg0.win 8).cut (grid0.coords t) ((dat0 V c).after 8 t) = _
    rw [after0_8, block0_8 V c t]
    have e := index0 t
    have e0 : win0_8.index t (0 : Fin 2) = 0 := e.2.2.2.2.2.2.2.2.2.2.2.2.2.2.2.2.1
    have e1 : win0_8.index t (1 : Fin 2) = 0 := e.2.2.2.2.2.2.2.2.2.2.2.2.2.2.2.2.2.1
    generalize ortho128x16 (F := Ideal) (V c (Pipeline.arrRef spec0 2) : Arr 128 16) = G
    funext y
    show G ((cfg0.win 8).xinj (grid0.coords t) y) = G (((cfg0.win 8).blk t).view.emb y)
    have hb0 : (((cfg0.win 8).blk t).view.emb y 0).val = win0_8.index t (0 : Fin 2) * 128 + 1 * (y 0).val := rfl
    have hb1 : (((cfg0.win 8).blk t).view.emb y 1).val = win0_8.index t (1 : Fin 2) * 16 + 1 * (y 1).val := rfl
    have hx0 : ((cfg0.win 8).xinj (grid0.coords t) y 0).val = (y 0).val := rfl
    have hx1 : ((cfg0.win 8).xinj (grid0.coords t) y 1).val = (y 1).val := rfl
    exact congrArg G (idx2_ext _ _ (by rw [hx0]; refine Eq.trans ?_ hb0.symm; rw [e0]; omega) (by rw [hx1]; refine Eq.trans ?_ hb1.symm; rw [e1]; omega))
  · have ht : 0 < cfg0.N := by decide
    have e := index0 ⟨0, ht⟩
    refine ⟨⟨0, ht⟩, e.2.2.2.2.2.2.2.2.2.2.2.2.2.2.2.2.2.2.2.2.2.2.2.2.2.2.1, ?_⟩
    have h0 : (i 0).val < 128 := (i 0).isLt
    have h1 : (i 1).val < 16 := (i 1).isLt
    show i ∈ ((View.whole (Pipeline.arrRef spec0 8)).slice (win0_8.rect ⟨0, ht⟩)).set
    rw [View.set_slice_whole, Rect.mem_set_unit]
    have e0 : win0_8.index ⟨0, ht⟩ (0 : Fin 2) = 0 := e.2.2.2.2.2.2.2.2.2.2.2.2.2.2.2.2.1
    have e1 : win0_8.index ⟨0, ht⟩ (1 : Fin 2) = 0 := e.2.2.2.2.2.2.2.2.2.2.2.2.2.2.2.2.2.1
    intro a
    match a with
    | ⟨0, _⟩ => show win0_8.index ⟨0, ht⟩ (0 : Fin 2) * 128 ≤ (i 0).val ∧ (i 0).val < win0_8.index ⟨0, ht⟩ (0 : Fin 2) * 128 + 128; omega
    | ⟨1, _⟩ => show win0_8.index ⟨0, ht⟩ (1 : Fin 2) * 16 ≤ (i 1).val ∧ (i 1).val < win0_8.index ⟨0, ht⟩ (1 : Fin 2) * 16 + 16; omega

theorem block0_9 (c : Dev nD) (t : Fin cfg0.N) : out0_16x16 (iblk0 V c 3 t) = ortho16x16 (F := Ideal) (V c (Pipeline.arrRef spec0 3) : Arr 16 16) := by
  unfold out0_16x16
  rw [View.canon_unit_zero zeros2, View.ld_unit_zero zeros2, all0_3]

/-- Call 0's array 4 after its run. -/
theorem final0_9 (c : Dev nD) : (dat0 V c).arrAt 9 cfg0.N = ortho16x16 (F := Ideal) (V c (Pipeline.arrRef spec0 3) : Arr 16 16) := by
  refine (dat0 V c).arrAt_eq_of_cover 9 _ (fun t _ => ?_) (fun i => ?_)
  · show (cfg0.win 9).cut (grid0.coords t) ((dat0 V c).after 9 t) = _
    rw [after0_9, block0_9 V c t]
    have e := index0 t
    have e0 : win0_9.index t (0 : Fin 2) = 0 := e.2.2.2.2.2.2.2.2.2.2.2.2.2.2.2.2.2.2.1
    have e1 : win0_9.index t (1 : Fin 2) = 0 := e.2.2.2.2.2.2.2.2.2.2.2.2.2.2.2.2.2.2.2.1
    generalize ortho16x16 (F := Ideal) (V c (Pipeline.arrRef spec0 3) : Arr 16 16) = G
    funext y
    show G ((cfg0.win 9).xinj (grid0.coords t) y) = G (((cfg0.win 9).blk t).view.emb y)
    have hb0 : (((cfg0.win 9).blk t).view.emb y 0).val = win0_9.index t (0 : Fin 2) * 16 + 1 * (y 0).val := rfl
    have hb1 : (((cfg0.win 9).blk t).view.emb y 1).val = win0_9.index t (1 : Fin 2) * 16 + 1 * (y 1).val := rfl
    have hx0 : ((cfg0.win 9).xinj (grid0.coords t) y 0).val = (y 0).val := rfl
    have hx1 : ((cfg0.win 9).xinj (grid0.coords t) y 1).val = (y 1).val := rfl
    exact congrArg G (idx2_ext _ _ (by rw [hx0]; refine Eq.trans ?_ hb0.symm; rw [e0]; omega) (by rw [hx1]; refine Eq.trans ?_ hb1.symm; rw [e1]; omega))
  · have ht : 0 < cfg0.N := by decide
    have e := index0 ⟨0, ht⟩
    refine ⟨⟨0, ht⟩, e.2.2.2.2.2.2.2.2.2.2.2.2.2.2.2.2.2.2.2.2.2.2.2.2.2.2.2.1, ?_⟩
    have h0 : (i 0).val < 16 := (i 0).isLt
    have h1 : (i 1).val < 16 := (i 1).isLt
    show i ∈ ((View.whole (Pipeline.arrRef spec0 9)).slice (win0_9.rect ⟨0, ht⟩)).set
    rw [View.set_slice_whole, Rect.mem_set_unit]
    have e0 : win0_9.index ⟨0, ht⟩ (0 : Fin 2) = 0 := e.2.2.2.2.2.2.2.2.2.2.2.2.2.2.2.2.2.2.1
    have e1 : win0_9.index ⟨0, ht⟩ (1 : Fin 2) = 0 := e.2.2.2.2.2.2.2.2.2.2.2.2.2.2.2.2.2.2.2.1
    intro a
    match a with
    | ⟨0, _⟩ => show win0_9.index ⟨0, ht⟩ (0 : Fin 2) * 16 ≤ (i 0).val ∧ (i 0).val < win0_9.index ⟨0, ht⟩ (0 : Fin 2) * 16 + 16; omega
    | ⟨1, _⟩ => show win0_9.index ⟨0, ht⟩ (1 : Fin 2) * 16 ≤ (i 1).val ∧ (i 1).val < win0_9.index ⟨0, ht⟩ (1 : Fin 2) * 16 + 16; omega

theorem block0_10 (c : Dev nD) (t : Fin cfg0.N) : out0_16x16 (iblk0 V c 4 t) = ortho16x16 (F := Ideal) (V c (Pipeline.arrRef spec0 4) : Arr 16 16) := by
  unfold out0_16x16
  rw [View.canon_unit_zero zeros2, View.ld_unit_zero zeros2, all0_4]

/-- Call 0's array 5 after its run. -/
theorem final0_10 (c : Dev nD) : (dat0 V c).arrAt 10 cfg0.N = ortho16x16 (F := Ideal) (V c (Pipeline.arrRef spec0 4) : Arr 16 16) := by
  refine (dat0 V c).arrAt_eq_of_cover 10 _ (fun t _ => ?_) (fun i => ?_)
  · show (cfg0.win 10).cut (grid0.coords t) ((dat0 V c).after 10 t) = _
    rw [after0_10, block0_10 V c t]
    have e := index0 t
    have e0 : win0_10.index t (0 : Fin 2) = 0 := e.2.2.2.2.2.2.2.2.2.2.2.2.2.2.2.2.2.2.2.2.1
    have e1 : win0_10.index t (1 : Fin 2) = 0 := e.2.2.2.2.2.2.2.2.2.2.2.2.2.2.2.2.2.2.2.2.2.1
    generalize ortho16x16 (F := Ideal) (V c (Pipeline.arrRef spec0 4) : Arr 16 16) = G
    funext y
    show G ((cfg0.win 10).xinj (grid0.coords t) y) = G (((cfg0.win 10).blk t).view.emb y)
    have hb0 : (((cfg0.win 10).blk t).view.emb y 0).val = win0_10.index t (0 : Fin 2) * 16 + 1 * (y 0).val := rfl
    have hb1 : (((cfg0.win 10).blk t).view.emb y 1).val = win0_10.index t (1 : Fin 2) * 16 + 1 * (y 1).val := rfl
    have hx0 : ((cfg0.win 10).xinj (grid0.coords t) y 0).val = (y 0).val := rfl
    have hx1 : ((cfg0.win 10).xinj (grid0.coords t) y 1).val = (y 1).val := rfl
    exact congrArg G (idx2_ext _ _ (by rw [hx0]; refine Eq.trans ?_ hb0.symm; rw [e0]; omega) (by rw [hx1]; refine Eq.trans ?_ hb1.symm; rw [e1]; omega))
  · have ht : 0 < cfg0.N := by decide
    have e := index0 ⟨0, ht⟩
    refine ⟨⟨0, ht⟩, e.2.2.2.2.2.2.2.2.2.2.2.2.2.2.2.2.2.2.2.2.2.2.2.2.2.2.2.2.1, ?_⟩
    have h0 : (i 0).val < 16 := (i 0).isLt
    have h1 : (i 1).val < 16 := (i 1).isLt
    show i ∈ ((View.whole (Pipeline.arrRef spec0 10)).slice (win0_10.rect ⟨0, ht⟩)).set
    rw [View.set_slice_whole, Rect.mem_set_unit]
    have e0 : win0_10.index ⟨0, ht⟩ (0 : Fin 2) = 0 := e.2.2.2.2.2.2.2.2.2.2.2.2.2.2.2.2.2.2.2.2.1
    have e1 : win0_10.index ⟨0, ht⟩ (1 : Fin 2) = 0 := e.2.2.2.2.2.2.2.2.2.2.2.2.2.2.2.2.2.2.2.2.2.1
    intro a
    match a with
    | ⟨0, _⟩ => show win0_10.index ⟨0, ht⟩ (0 : Fin 2) * 16 ≤ (i 0).val ∧ (i 0).val < win0_10.index ⟨0, ht⟩ (0 : Fin 2) * 16 + 16; omega
    | ⟨1, _⟩ => show win0_10.index ⟨0, ht⟩ (1 : Fin 2) * 16 ≤ (i 1).val ∧ (i 1).val < win0_10.index ⟨0, ht⟩ (1 : Fin 2) * 16 + 16; omega

theorem block0_11 (c : Dev nD) (t : Fin cfg0.N) : out0_16x16 (iblk0 V c 5 t) = ortho16x16 (F := Ideal) (V c (Pipeline.arrRef spec0 5) : Arr 16 16) := by
  unfold out0_16x16
  rw [View.canon_unit_zero zeros2, View.ld_unit_zero zeros2, all0_5]

/-- Call 0's array 6 after its run. -/
theorem final0_11 (c : Dev nD) : (dat0 V c).arrAt 11 cfg0.N = ortho16x16 (F := Ideal) (V c (Pipeline.arrRef spec0 5) : Arr 16 16) := by
  refine (dat0 V c).arrAt_eq_of_cover 11 _ (fun t _ => ?_) (fun i => ?_)
  · show (cfg0.win 11).cut (grid0.coords t) ((dat0 V c).after 11 t) = _
    rw [after0_11, block0_11 V c t]
    have e := index0 t
    have e0 : win0_11.index t (0 : Fin 2) = 0 := e.2.2.2.2.2.2.2.2.2.2.2.2.2.2.2.2.2.2.2.2.2.2.1
    have e1 : win0_11.index t (1 : Fin 2) = 0 := e.2.2.2.2.2.2.2.2.2.2.2.2.2.2.2.2.2.2.2.2.2.2.2.1
    generalize ortho16x16 (F := Ideal) (V c (Pipeline.arrRef spec0 5) : Arr 16 16) = G
    funext y
    show G ((cfg0.win 11).xinj (grid0.coords t) y) = G (((cfg0.win 11).blk t).view.emb y)
    have hb0 : (((cfg0.win 11).blk t).view.emb y 0).val = win0_11.index t (0 : Fin 2) * 16 + 1 * (y 0).val := rfl
    have hb1 : (((cfg0.win 11).blk t).view.emb y 1).val = win0_11.index t (1 : Fin 2) * 16 + 1 * (y 1).val := rfl
    have hx0 : ((cfg0.win 11).xinj (grid0.coords t) y 0).val = (y 0).val := rfl
    have hx1 : ((cfg0.win 11).xinj (grid0.coords t) y 1).val = (y 1).val := rfl
    exact congrArg G (idx2_ext _ _ (by rw [hx0]; refine Eq.trans ?_ hb0.symm; rw [e0]; omega) (by rw [hx1]; refine Eq.trans ?_ hb1.symm; rw [e1]; omega))
  · have ht : 0 < cfg0.N := by decide
    have e := index0 ⟨0, ht⟩
    refine ⟨⟨0, ht⟩, e.2.2.2.2.2.2.2.2.2.2.2.2.2.2.2.2.2.2.2.2.2.2.2.2.2.2.2.2.2, ?_⟩
    have h0 : (i 0).val < 16 := (i 0).isLt
    have h1 : (i 1).val < 16 := (i 1).isLt
    show i ∈ ((View.whole (Pipeline.arrRef spec0 11)).slice (win0_11.rect ⟨0, ht⟩)).set
    rw [View.set_slice_whole, Rect.mem_set_unit]
    have e0 : win0_11.index ⟨0, ht⟩ (0 : Fin 2) = 0 := e.2.2.2.2.2.2.2.2.2.2.2.2.2.2.2.2.2.2.2.2.2.2.1
    have e1 : win0_11.index ⟨0, ht⟩ (1 : Fin 2) = 0 := e.2.2.2.2.2.2.2.2.2.2.2.2.2.2.2.2.2.2.2.2.2.2.2.1
    intro a
    match a with
    | ⟨0, _⟩ => show win0_11.index ⟨0, ht⟩ (0 : Fin 2) * 16 ≤ (i 0).val ∧ (i 0).val < win0_11.index ⟨0, ht⟩ (0 : Fin 2) * 16 + 16; omega
    | ⟨1, _⟩ => show win0_11.index ⟨0, ht⟩ (1 : Fin 2) * 16 ≤ (i 1).val ∧ (i 1).val < win0_11.index ⟨0, ht⟩ (1 : Fin 2) * 16 + 16; omega

end Cert.KernelIdeal.Calls

end
-- ==== Proof.KernelIdeal.Results.lean ====
/-
The contents of the three result arrays after the whole run, of the arguments.
-/
module

public import proofs.«01_k».proof.Proof.KernelIdeal.LayerValues
public import proofs.«01_k».proof.Proof.KernelIdeal.WholeValues

@[expose] public section

set_option maxRecDepth 16384

noncomputable section

namespace Cert.KernelIdeal.Calls

open Idealize.ShloMosaic Idealize.ShloMosaic.TcCoe
open Idealize.SL Idealize.SL.RA Idealize.SL.Sem
open Idealize.ShloMosaic.Pipeline (Dat Cfg Window)
open Cert.KernelIdeal.Gen
open Cert.Maths

variable (m : (ℓ : Loc nD τ sig) → Buf (Elt Ideal) ℓ) (ρ : Dev nD → PrngReg) (c : Dev nD)

/-- An argument, as launched. -/
abbrev arg (a : Ref sig .tc) : Buf (Elt Ideal) ((c : Thread nD τ).loc a) := m ((c : Thread nD τ).loc a)

/-! ## The six weights made orthonormal -/

theorem at_v0_0 : (W1 m ρ c (Proc.devRef .tc main_v0_0) : Arr 256 32) = ortho256x32 (F := Ideal) (arg m c main_arg5 : Arr 256 32) :=
  (W1_arr m ρ c 6).trans (final0_6 (V0 m ρ) c)

theorem at_v0_1 : (W1 m ρ c (Proc.devRef .tc main_v0_1) : Arr 32 16) = ortho32x16 (F := Ideal) (arg m c main_arg6 : Arr 32 16) :=
  (W1_arr m ρ c 7).trans (final0_7 (V0 m ρ) c)

theorem at_v0_2 : (W1 m ρ c (Proc.devRef .tc main_v0_2) : Arr 128 16) = ortho128x16 (F := Ideal) (arg m c main_arg7 : Arr 128 16) :=
  (W1_arr m ρ c 8).trans (final0_8 (V0 m ρ) c)

theorem at_v0_3 : (W1 m ρ c (Proc.devRef .tc main_v0_3) : Arr 16 16) = ortho16x16 (F := Ideal) (arg m c main_arg8 : Arr 16 16) :=
  (W1_arr m ρ c 9).trans (final0_9 (V0 m ρ) c)

theorem at_v0_4 : (W1 m ρ c (Proc.devRef .tc main_v0_4) : Arr 16 16) = ortho16x16 (F := Ideal) (arg m c main_arg9 : Arr 16 16) :=
  (W1_arr m ρ c 10).trans (final0_10 (V0 m ρ) c)

theorem at_v0_5 : (W1 m ρ c (Proc.devRef .tc main_v0_5) : Arr 16 16) = ortho16x16 (F := Ideal) (arg m c main_arg10 : Arr 16 16) :=
  (W1_arr m ρ c 11).trans (final0_11 (V0 m ρ) c)

/-! ## The first layers -/

theorem at_v1 : (W2 m ρ c (Proc.devRef .tc main_v1) : Arr 10000 16) = mul (tanhOf (mul (arg m c main_arg2 : Arr 10000 10000) (mul (arg m c main_arg0 : Arr 10000 256) (ortho256x32 (F := Ideal) (arg m c main_arg5 : Arr 256 32))))) (ortho32x16 (F := Ideal) (arg m c main_arg6 : Arr 32 16)) := by
  refine (W2_arr m ρ c 8).trans ((final1 (V1 m ρ) c).trans ?_)
  have h0 : (V1 m ρ c (Pipeline.arrRef spec1 0) : Arr 10000 10000) = arg m c main_arg2 := W1_args m ρ c main_arg2 (by decide)
  have h5 : (V1 m ρ c (Pipeline.arrRef spec1 5) : Arr 10000 256) = arg m c main_arg0 := W1_args m ρ c main_arg0 (by decide)
  have h6 : (V1 m ρ c (Pipeline.arrRef spec1 6) : Arr 256 32) = ortho256x32 (F := Ideal) (arg m c main_arg5 : Arr 256 32) := at_v0_0 m ρ c
  have h7 : (V1 m ρ c (Pipeline.arrRef spec1 7) : Arr 32 16) = ortho32x16 (F := Ideal) (arg m c main_arg6 : Arr 32 16) := at_v0_1 m ρ c
  unfold val1
  rw [h0, h5, h6, h7]

theorem at_v0_2_kept : (W2 m ρ c (Proc.devRef .tc main_v0_2) : Arr 128 16) = ortho128x16 (F := Ideal) (arg m c main_arg7 : Arr 128 16) :=
  (W2_of m ρ c main_v0_2 (by decide +kernel)).trans (at_v0_2 m ρ c)

theorem at_v0_3_kept : (W2 m ρ c (Proc.devRef .tc main_v0_3) : Arr 16 16) = ortho16x16 (F := Ideal) (arg m c main_arg8 : Arr 16 16) :=
  (W2_of m ρ c main_v0_3 (by decide +kernel)).trans (at_v0_3 m ρ c)

theorem at_v2 : (W3 m ρ c (Proc.devRef .tc main_v2) : Arr 10000 16) = mul (tanhOf (mul (arg m c main_arg3 : Arr 10000 10000) (mul (arg m c main_arg1 : Arr 10000 128) (ortho128x16 (F := Ideal) (arg m c main_arg7 : Arr 128 16))))) (ortho16x16 (F := Ideal) (arg m c main_arg8 : Arr 16 16)) := by
  refine (W3_arr m ρ c 8).trans ((final2 (V2 m ρ) c).trans ?_)
  have h0 : (V2 m ρ c (Pipeline.arrRef spec2 0) : Arr 10000 10000) = arg m c main_arg3 := W2_args m ρ c main_arg3 (by decide)
  have h5 : (V2 m ρ c (Pipeline.arrRef spec2 5) : Arr 10000 128) = arg m c main_arg1 := W2_args m ρ c main_arg1 (by decide)
  have h6 : (V2 m ρ c (Pipeline.arrRef spec2 6) : Arr 128 16) = ortho128x16 (F := Ideal) (arg m c main_arg7 : Arr 128 16) := at_v0_2_kept m ρ c
  have h7 : (V2 m ρ c (Pipeline.arrRef spec2 7) : Arr 16 16) = ortho16x16 (F := Ideal) (arg m c main_arg8 : Arr 16 16) := at_v0_3_kept m ρ c
  unfold val2
  rw [h0, h5, h6, h7]

/-! ## The second layers -/

theorem at_v1_kept : (W3 m ρ c (Proc.devRef .tc main_v1) : Arr 10000 16) = mul (tanhOf (mul (arg m c main_arg2 : Arr 10000 10000) (mul (arg m c main_arg0 : Arr 10000 256) (ortho256x32 (F := Ideal) (arg m c main_arg5 : Arr 256 32))))) (ortho32x16 (F := Ideal) (arg m c main_arg6 : Arr 32 16)) :=
  (W3_of m ρ c main_v1 (by decide +kernel)).trans (at_v1 m ρ c)

theorem at_v2_kept : (W4 m ρ c (Proc.devRef .tc main_v2) : Arr 10000 16) = mul (tanhOf (mul (arg m c main_arg3 : Arr 10000 10000) (mul (arg m c main_arg1 : Arr 10000 128) (ortho128x16 (F := Ideal) (arg m c main_arg7 : Arr 128 16))))) (ortho16x16 (F := Ideal) (arg m c main_arg8 : Arr 16 16)) :=
  (W4_of m ρ c main_v2 (by decide +kernel)).trans (at_v2 m ρ c)

theorem at_v3 : (W4 m ρ c (Proc.devRef .tc main_v3) : Arr 10000 16) = layers (arg m c main_arg0 : Arr 10000 256) (arg m c main_arg2 : Arr 10000 10000) (ortho256x32 (F := Ideal) (arg m c main_arg5 : Arr 256 32)) (ortho32x16 (F := Ideal) (arg m c main_arg6 : Arr 32 16)) := by
  refine (W4_arr m ρ c 6).trans ((final3 (V3 m ρ) c).trans ?_)
  have h0 : (V3 m ρ c (Pipeline.arrRef spec3 0) : Arr 10000 10000) = arg m c main_arg2 := W3_args m ρ c main_arg2 (by decide)
  have h5 : (V3 m ρ c (Pipeline.arrRef spec3 5) : Arr 10000 16) = mul (tanhOf (mul (arg m c main_arg2 : Arr 10000 10000) (mul (arg m c main_arg0 : Arr 10000 256) (ortho256x32 (F := Ideal) (arg m c main_arg5 : Arr 256 32))))) (ortho32x16 (F := Ideal) (arg m c main_arg6 : Arr 32 16)) := at_v1_kept m ρ c
  unfold val3
  rw [h0, h5]
  rfl

theorem at_v4 : (W5 m ρ c (Proc.devRef .tc main_v4) : Arr 10000 16) = layers (arg m c main_arg1 : Arr 10000 128) (arg m c main_arg3 : Arr 10000 10000) (ortho128x16 (F := Ideal) (arg m c main_arg7 : Arr 128 16)) (ortho16x16 (F := Ideal) (arg m c main_arg8 : Arr 16 16)) := by
  refine (W5_arr m ρ c 6).trans ((final4 (V4 m ρ) c).trans ?_)
  have h0 : (V4 m ρ c (Pipeline.arrRef spec4 0) : Arr 10000 10000) = arg m c main_arg3 := W4_args m ρ c main_arg3 (by decide)
  have h5 : (V4 m ρ c (Pipeline.arrRef spec4 5) : Arr 10000 16) = mul (tanhOf (mul (arg m c main_arg3 : Arr 10000 10000) (mul (arg m c main_arg1 : Arr 10000 128) (ortho128x16 (F := Ideal) (arg m c main_arg7 : Arr 128 16))))) (ortho16x16 (F := Ideal) (arg m c main_arg8 : Arr 16 16)) := at_v2_kept m ρ c
  unfold val4
  rw [h0, h5]
  rfl

/-! ## The fused layer -/

theorem at_v3_kept : (W5 m ρ c (Proc.devRef .tc main_v3) : Arr 10000 16) = layers (arg m c main_arg0 : Arr 10000 256) (arg m c main_arg2 : Arr 10000 10000) (ortho256x32 (F := Ideal) (arg m c main_arg5 : Arr 256 32)) (ortho32x16 (F := Ideal) (arg m c main_arg6 : Arr 32 16)) :=
  (W5_of m ρ c main_v3 (by decide +kernel)).trans (at_v3 m ρ c)

theorem at_v0_4_kept : (W5 m ρ c (Proc.devRef .tc main_v0_4) : Arr 16 16) = ortho16x16 (F := Ideal) (arg m c main_arg9 : Arr 16 16) :=
  (W5_of m ρ c main_v0_4 (by decide +kernel)).trans ((W4_of m ρ c main_v0_4 (by decide +kernel)).trans ((W3_of m ρ c main_v0_4 (by decide +kernel)).trans ((W2_of m ρ c main_v0_4 (by decide +kernel)).trans (at_v0_4 m ρ c))))

theorem at_v0_5_kept : (W5 m ρ c (Proc.devRef .tc main_v0_5) : Arr 16 16) = ortho16x16 (F := Ideal) (arg m c main_arg10 : Arr 16 16) :=
  (W5_of m ρ c main_v0_5 (by decide +kernel)).trans ((W4_of m ρ c main_v0_5 (by decide +kernel)).trans ((W3_of m ρ c main_v0_5 (by decide +kernel)).trans ((W2_of m ρ c main_v0_5 (by decide +kernel)).trans (at_v0_5 m ρ c))))

theorem at_v5_0 : (W6 m ρ c (Proc.devRef .tc main_v5_0) : Arr 10000 16) = centred (layers (arg m c main_arg0 : Arr 10000 256) (arg m c main_arg2 : Arr 10000 10000) (ortho256x32 (F := Ideal) (arg m c main_arg5 : Arr 256 32)) (ortho32x16 (F := Ideal) (arg m c main_arg6 : Arr 32 16))) := by
  refine (W6_arr m ρ c 4).trans ((final5_4 (V5 m ρ) c).trans ?_)
  have h0 : (V5 m ρ c (Pipeline.arrRef spec5 0) : Arr 10000 16) = layers (arg m c main_arg0 : Arr 10000 256) (arg m c main_arg2 : Arr 10000 10000) (ortho256x32 (F := Ideal) (arg m c main_arg5 : Arr 256 32)) (ortho32x16 (F := Ideal) (arg m c main_arg6 : Arr 32 16)) := at_v3_kept m ρ c
  have h1 : (V5 m ρ c (Pipeline.arrRef spec5 1) : Arr 10000 16) = layers (arg m c main_arg1 : Arr 10000 128) (arg m c main_arg3 : Arr 10000 10000) (ortho128x16 (F := Ideal) (arg m c main_arg7 : Arr 128 16)) (ortho16x16 (F := Ideal) (arg m c main_arg8 : Arr 16 16)) := at_v4 m ρ c
  rw [h0]

theorem at_v5_1 : (W6 m ρ c (Proc.devRef .tc main_v5_1) : Arr 10000 16) = centred (layers (arg m c main_arg1 : Arr 10000 128) (arg m c main_arg3 : Arr 10000 10000) (ortho128x16 (F := Ideal) (arg m c main_arg7 : Arr 128 16)) (ortho16x16 (F := Ideal) (arg m c main_arg8 : Arr 16 16))) := by
  refine (W6_arr m ρ c 5).trans ((final5_5 (V5 m ρ) c).trans ?_)
  have h0 : (V5 m ρ c (Pipeline.arrRef spec5 0) : Arr 10000 16) = layers (arg m c main_arg0 : Arr 10000 256) (arg m c main_arg2 : Arr 10000 10000) (ortho256x32 (F := Ideal) (arg m c main_arg5 : Arr 256 32)) (ortho32x16 (F := Ideal) (arg m c main_arg6 : Arr 32 16)) := at_v3_kept m ρ c
  have h1 : (V5 m ρ c (Pipeline.arrRef spec5 1) : Arr 10000 16) = layers (arg m c main_arg1 : Arr 10000 128) (arg m c main_arg3 : Arr 10000 10000) (ortho128x16 (F := Ideal) (arg m c main_arg7 : Arr 128 16)) (ortho16x16 (F := Ideal) (arg m c main_arg8 : Arr 16 16)) := at_v4 m ρ c
  rw [h1]

theorem at_v5_2 : (W6 m ρ c (Proc.devRef .tc main_v5_2) : Arr 10000 16) = plus (mul (centred (layers (arg m c main_arg0 : Arr 10000 256) (arg m c main_arg2 : Arr 10000 10000) (ortho256x32 (F := Ideal) (arg m c main_arg5 : Arr 256 32)) (ortho32x16 (F := Ideal) (arg m c main_arg6 : Arr 32 16)))) (ortho16x16 (F := Ideal) (arg m c main_arg9 : Arr 16 16))) (mul (centred (layers (arg m c main_arg1 : Arr 10000 128) (arg m c main_arg3 : Arr 10000 10000) (ortho128x16 (F := Ideal) (arg m c main_arg7 : Arr 128 16)) (ortho16x16 (F := Ideal) (arg m c main_arg8 : Arr 16 16)))) (ortho16x16 (F := Ideal) (arg m c main_arg10 : Arr 16 16))) := by
  refine (W6_arr m ρ c 6).trans ((final5_6 (V5 m ρ) c).trans ?_)
  have h0 : (V5 m ρ c (Pipeline.arrRef spec5 0) : Arr 10000 16) = layers (arg m c main_arg0 : Arr 10000 256) (arg m c main_arg2 : Arr 10000 10000) (ortho256x32 (F := Ideal) (arg m c main_arg5 : Arr 256 32)) (ortho32x16 (F := Ideal) (arg m c main_arg6 : Arr 32 16)) := at_v3_kept m ρ c
  have h1 : (V5 m ρ c (Pipeline.arrRef spec5 1) : Arr 10000 16) = layers (arg m c main_arg1 : Arr 10000 128) (arg m c main_arg3 : Arr 10000 10000) (ortho128x16 (F := Ideal) (arg m c main_arg7 : Arr 128 16)) (ortho16x16 (F := Ideal) (arg m c main_arg8 : Arr 16 16)) := at_v4 m ρ c
  have h2 : (V5 m ρ c (Pipeline.arrRef spec5 2) : Arr 16 16) = ortho16x16 (F := Ideal) (arg m c main_arg9 : Arr 16 16) := at_v0_4_kept m ρ c
  have h3 : (V5 m ρ c (Pipeline.arrRef spec5 3) : Arr 16 16) = ortho16x16 (F := Ideal) (arg m c main_arg10 : Arr 16 16) := at_v0_5_kept m ρ c
  rw [h0, h1, h2, h3]

/-! ## The results -/

theorem end_v5_0 : (W7 m ρ c (Proc.devRef .tc main_v5_0) : Arr 10000 16) = centred (layers (arg m c main_arg0 : Arr 10000 256) (arg m c main_arg2 : Arr 10000 10000) (ortho256x32 (F := Ideal) (arg m c main_arg5 : Arr 256 32)) (ortho32x16 (F := Ideal) (arg m c main_arg6 : Arr 32 16))) :=
  (W7_of m ρ c main_v5_0 (by decide +kernel)).trans (at_v5_0 m ρ c)

theorem end_v5_1 : (W7 m ρ c (Proc.devRef .tc main_v5_1) : Arr 10000 16) = centred (layers (arg m c main_arg1 : Arr 10000 128) (arg m c main_arg3 : Arr 10000 10000) (ortho128x16 (F := Ideal) (arg m c main_arg7 : Arr 128 16)) (ortho16x16 (F := Ideal) (arg m c main_arg8 : Arr 16 16))) :=
  (W7_of m ρ c main_v5_1 (by decide +kernel)).trans (at_v5_1 m ρ c)

theorem end_v6 : (W7 m ρ c (Proc.devRef .tc main_v6) : Arr 10000 16) = tanhOf (mul (arg m c main_arg4 : Arr 10000 10000) (plus (mul (centred (layers (arg m c main_arg0 : Arr 10000 256) (arg m c main_arg2 : Arr 10000 10000) (ortho256x32 (F := Ideal) (arg m c main_arg5 : Arr 256 32)) (ortho32x16 (F := Ideal) (arg m c main_arg6 : Arr 32 16)))) (ortho16x16 (F := Ideal) (arg m c main_arg9 : Arr 16 16))) (mul (centred (layers (arg m c main_arg1 : Arr 10000 128) (arg m c main_arg3 : Arr 10000 10000) (ortho128x16 (F := Ideal) (arg m c main_arg7 : Arr 128 16)) (ortho16x16 (F := Ideal) (arg m c main_arg8 : Arr 16 16)))) (ortho16x16 (F := Ideal) (arg m c main_arg10 : Arr 16 16))))) := by
  refine (W7_arr m ρ c 6).trans ((final6 (V6 m ρ) c).trans ?_)
  have h0 : (V6 m ρ c (Pipeline.arrRef spec6 0) : Arr 10000 10000) = arg m c main_arg4 := W6_args m ρ c main_arg4 (by decide)
  have h5 : (V6 m ρ c (Pipeline.arrRef spec6 5) : Arr 10000 16) = plus (mul (centred (layers (arg m c main_arg0 : Arr 10000 256) (arg m c main_arg2 : Arr 10000 10000) (ortho256x32 (F := Ideal) (arg m c main_arg5 : Arr 256 32)) (ortho32x16 (F := Ideal) (arg m c main_arg6 : Arr 32 16)))) (ortho16x16 (F := Ideal) (arg m c main_arg9 : Arr 16 16))) (mul (centred (layers (arg m c main_arg1 : Arr 10000 128) (arg m c main_arg3 : Arr 10000 10000) (ortho128x16 (F := Ideal) (arg m c main_arg7 : Arr 128 16)) (ortho16x16 (F := Ideal) (arg m c main_arg8 : Arr 16 16)))) (ortho16x16 (F := Ideal) (arg m c main_arg10 : Arr 16 16))) := at_v5_2 m ρ c
  unfold val6
  rw [h0, h5]

end Cert.KernelIdeal.Calls

end
-- ==== Proof.Cholesky.lean ====
/-
The lower triangular factor of a positive definite matrix and the inverse of that factor: they exist, a
partial product leaves one product in column `j`, and Newton's rounds started at the diagonal reach the inverse.
-/
module

public import Mathlib.LinearAlgebra.Matrix.Block
public import Mathlib.LinearAlgebra.Matrix.NonsingularInverse
public import Mathlib.Analysis.Real.Sqrt
public import Mathlib.Algebra.BigOperators.Field
public import Mathlib.Tactic.Ring
public import Mathlib.Tactic.FieldSimp
public import Mathlib.Tactic.Linarith
public import Mathlib.Tactic.NoncommRing

@[expose] public section

noncomputable section

namespace Cert.Maths

open scoped BigOperators Matrix

/-- `C` is the lower triangular factor of `G` with a positive diagonal, `Y` its inverse; side 32. -/
structure Factor (G C Y : ℕ → ℕ → ℝ) : Prop where
  /-- Above the diagonal there is nothing. -/
  tri : ∀ i k, i < k → C i k = 0
  /-- The diagonal is positive. -/
  pos : ∀ i, i < 32 → 0 < C i i
  /-- The product with the transpose. -/
  gram : ∀ i, i < 32 → ∀ j, j < 32 → ∑ k ∈ Finset.range 32, C i k * C j k = G i j
  /-- The inverse. -/
  inv : ∀ i, i < 32 → ∀ t, t < 32 → ∑ k ∈ Finset.range 32, C i k * Y k t = if i = t then 1 else 0

/-- A finite square as a function of two numbers. -/
def ext (A : Matrix (Fin 32) (Fin 32) ℝ) (i j : ℕ) : ℝ :=
  if h : i < 32 ∧ j < 32 then A ⟨i, h.1⟩ ⟨j, h.2⟩ else 0

theorem ext_fin (A : Matrix (Fin 32) (Fin 32) ℝ) (i j : Fin 32) : ext A i j = A i j := by
  simp [ext, i.2, j.2]

/-- The quadratic form of a square. -/
def quad {n : ℕ} (S : Matrix (Fin n) (Fin n) ℝ) (x : Fin n → ℝ) : ℝ := ∑ i, ∑ j, x i * S i j * x j

/-- A symmetric matrix with a positive quadratic form. -/
def Positive {n : ℕ} (S : Matrix (Fin n) (Fin n) ℝ) : Prop :=
  (∀ i j, S i j = S j i) ∧ ∀ x : Fin n → ℝ, x ≠ 0 → 0 < quad S x

/-- What is left of a square when its first row and column are cleared. -/
def schur {n : ℕ} (S : Matrix (Fin (n + 1)) (Fin (n + 1)) ℝ) : Matrix (Fin n) (Fin n) ℝ :=
  fun i j => S i.succ j.succ - S 0 i.succ * S 0 j.succ / S 0 0

/-- The corner of a positive matrix is positive. -/
theorem Positive.corner {n : ℕ} {S : Matrix (Fin (n + 1)) (Fin (n + 1)) ℝ} (h : Positive S) : 0 < S 0 0 := by
  have h1 := h.2 (Pi.single 0 1) (by
    intro h0
    have := congrFun h0 0
    simp at this)
  simpa [quad, Pi.single_apply] using h1

/-- Clearing the first row and column keeps a matrix positive. -/
theorem Positive.schur {n : ℕ} {S : Matrix (Fin (n + 1)) (Fin (n + 1)) ℝ} (h : Positive S) :
    Positive (Cert.Maths.schur S) := by
  have h0 := h.corner
  refine ⟨fun i j => ?_, fun x hx => ?_⟩
  · unfold Cert.Maths.schur
    rw [h.1 i.succ j.succ, mul_comm (S 0 i.succ)]
  · set s : ℝ := ∑ j, S 0 j.succ * x j with hs
    have h1 := h.2 (Fin.cons (-s / S 0 0) x) (by
      intro h2
      apply hx
      funext i
      have := congrFun h2 i.succ
      simpa using this)
    have h2 : quad S (Fin.cons (-s / S 0 0) x) =
        (-s / S 0 0) * S 0 0 * (-s / S 0 0) + (-s / S 0 0) * s + (s * (-s / S 0 0) + ∑ i, ∑ j, x i * S i.succ j.succ * x j) := by
      unfold quad
      rw [Fin.sum_univ_succ]
      congr 1
      · rw [Fin.sum_univ_succ]
        simp only [Fin.cons_zero, Fin.cons_succ]
        congr 1
        rw [hs, Finset.mul_sum]
        exact Finset.sum_congr rfl fun j _ => by ring
      · rw [hs, Finset.sum_mul, ← Finset.sum_add_distrib]
        refine Finset.sum_congr rfl fun i _ => ?_
        rw [Fin.sum_univ_succ]
        simp only [Fin.cons_zero, Fin.cons_succ]
        rw [h.1 i.succ 0]
        ring
    have h3 : quad (Cert.Maths.schur S) x = ∑ i, ∑ j, x i * S i.succ j.succ * x j - s * s / S 0 0 := by
      have : s * s / S 0 0 = ∑ i, ∑ j, x i * (S 0 i.succ * S 0 j.succ / S 0 0) * x j := by
        rw [hs, Finset.sum_mul_sum, Finset.sum_div]
        refine Finset.sum_congr rfl fun i _ => ?_
        rw [Finset.sum_div]
        exact Finset.sum_congr rfl fun j _ => by ring
      rw [this, ← Finset.sum_sub_distrib]
      unfold quad Cert.Maths.schur
      refine Finset.sum_congr rfl fun i _ => ?_
      rw [← Finset.sum_sub_distrib]
      exact Finset.sum_congr rfl fun j _ => by ring
    rw [h2] at h1
    rw [h3]
    have h4 : (-s / S 0 0) * S 0 0 * (-s / S 0 0) + (-s / S 0 0) * s + s * (-s / S 0 0) = - (s * s / S 0 0) := by
      have := h0.ne'
      field_simp
      ring
    linarith

/-- A positive matrix is the product of a lower triangular matrix of positive diagonal with its transpose. -/
theorem exists_root : ∀ {n : ℕ} (S : Matrix (Fin n) (Fin n) ℝ), Positive S →
    ∃ C : Matrix (Fin n) (Fin n) ℝ, (∀ i j, i < j → C i j = 0) ∧ (∀ i, 0 < C i i) ∧
      ∀ i j, ∑ k, C i k * C j k = S i j := by
  intro n
  induction n with
  | zero => exact fun S _ => ⟨S, fun i => i.elim0, fun i => i.elim0, fun i => i.elim0⟩
  | succ n ih =>
    intro S h
    obtain ⟨D, htri, hpos, hmul⟩ := ih _ h.schur
    have h0 := h.corner
    have hr := Real.sqrt_pos.2 h0
    have hrr := Real.mul_self_sqrt h0.le
    set r := Real.sqrt (S 0 0) with hrdef
    refine ⟨fun i => Fin.cons (S 0 i / r) (Fin.cases (fun _ => 0) (fun i' => D i') i), ?_, ?_, ?_⟩
    · intro i j hij
      induction j using Fin.cases with
      | zero => exact absurd hij (Fin.not_lt_zero _)
      | succ j =>
        induction i using Fin.cases with
        | zero => simp
        | succ i => simpa using htri i j (Fin.succ_lt_succ_iff.1 hij)
    · intro i
      induction i using Fin.cases with
      | zero =>
        simp only [Fin.cons_zero]
        exact div_pos h0 hr
      | succ i => simpa using hpos i
    · intro i j
      rw [Fin.sum_univ_succ]
      simp only [Fin.cons_zero, Fin.cons_succ]
      have hq : ∀ a b : ℝ, a / r * (b / r) = a * b / S 0 0 := by
        intro a b
        rw [div_mul_div_comm, hrr]
      rw [hq]
      induction i using Fin.cases with
      | zero =>
        simp only [Fin.cases_zero, zero_mul, Finset.sum_const_zero, add_zero]
        field_simp
      | succ i =>
        induction j using Fin.cases with
        | zero =>
          simp only [Fin.cases_zero, mul_zero, Finset.sum_const_zero, add_zero]
          rw [h.1 i.succ 0]
          field_simp
        | succ j =>
          simp only [Fin.cases_succ]
          rw [hmul i j]
          unfold Cert.Maths.schur
          ring

/-- The factor of a positive definite matrix of side 32 and the factor's inverse. -/
theorem exists_factor (S : Matrix (Fin 32) (Fin 32) ℝ) (hS : Positive S) :
    ∃ C Y, Factor (ext S) C Y := by
  obtain ⟨C, htri, hpos, hmul⟩ := exists_root S hS
  have hL : C.BlockTriangular OrderDual.toDual := fun i j hij => htri i j hij
  have hdet : IsUnit C.det := by
    rw [Matrix.det_of_lowerTriangular _ hL]
    exact (Finset.prod_ne_zero_iff.2 fun i _ => (hpos i).ne').isUnit
  refine ⟨ext C, ext C⁻¹, ?_, ?_, ?_, ?_⟩
  · intro i k hik
    unfold ext
    split
    · exact htri _ _ hik
    · rfl
  · intro i hi
    have := ext_fin C ⟨i, hi⟩ ⟨i, hi⟩
    simp only at this
    rw [this]
    exact hpos _
  · intro i hi j hj
    rw [← Fin.sum_univ_eq_sum_range (fun k => ext C i k * ext C j k) 32]
    have h1 := hmul ⟨i, hi⟩ ⟨j, hj⟩
    rw [ext_fin S ⟨i, hi⟩ ⟨j, hj⟩, ← h1]
    refine Finset.sum_congr rfl fun k _ => ?_
    rw [ext_fin C ⟨i, hi⟩ k, ext_fin C ⟨j, hj⟩ k]
  · intro i hi t ht
    rw [← Fin.sum_univ_eq_sum_range (fun k => ext C i k * ext C⁻¹ k t) 32]
    have h1 := congrFun (congrFun (Matrix.mul_nonsing_inv C hdet) ⟨i, hi⟩) ⟨t, ht⟩
    rw [Matrix.mul_apply, Matrix.one_apply] at h1
    simp only [Fin.mk.injEq] at h1
    rw [← h1]
    refine Finset.sum_congr rfl fun k _ => ?_
    rw [ext_fin C ⟨i, hi⟩ k, ext_fin C⁻¹ k ⟨t, ht⟩]

variable {G C Y : ℕ → ℕ → ℝ}

/-- A sum against a row of the factor stops at the diagonal. -/
theorem Factor.cut (h : Factor G C Y) (j n : ℕ) (hj : j < n) (f : ℕ → ℝ) :
    ∑ k ∈ Finset.range n, C j k * f k = ∑ k ∈ Finset.range j, C j k * f k + C j j * f j := by
  rw [← Finset.sum_range_succ]
  symm
  apply Finset.sum_subset (Finset.range_mono hj)
  intro k _ hk
  rw [Finset.mem_range, not_lt] at hk
  rw [h.tri j k hk, zero_mul]

/-- `G` less the first `j` products leaves one product in column `j`. -/
theorem Factor.rest (h : Factor G C Y) (i j : ℕ) (hi : i < 32) (hj : j < 32) :
    G i j - ∑ k ∈ Finset.range j, C i k * C j k = C i j * C j j := by
  have h1 := h.cut j 32 hj (fun k => C i k)
  have h2 := h.gram i hi j hj
  have h3 : ∀ n, ∑ k ∈ Finset.range n, C i k * C j k = ∑ k ∈ Finset.range n, C j k * C i k :=
    fun n => Finset.sum_congr rfl fun k _ => mul_comm _ _
  rw [h3] at h2 ⊢
  rw [← h2, h1]
  ring

/-- Row `j` of the inverse from the rows before it. -/
theorem Factor.row (h : Factor G C Y) (j t : ℕ) (hj : j < 32) (ht : t < 32) :
    ((if j = t then 1 else 0) - ∑ k ∈ Finset.range j, C j k * Y k t) / C j j = Y j t := by
  have h1 := h.cut j 32 hj (fun k => Y k t)
  rw [h.inv j hj t ht] at h1
  rw [h1]
  have := (h.pos j hj).ne'
  field_simp
  ring

/-- The inverse of a leading block. -/
theorem Factor.block (h : Factor G C Y) (n i t : ℕ) (hn : n ≤ 32) (hi : i < n) (ht : t < n) :
    ∑ k ∈ Finset.range n, C i k * Y k t = if i = t then 1 else 0 := by
  rw [h.cut i n hi (fun k => Y k t), ← h.cut i 32 (by omega) (fun k => Y k t)]
  exact h.inv i (by omega) t (by omega)

/-- One Newton round towards the inverse of `L`. -/
def round {n : ℕ} (L X : Matrix (Fin n) (Fin n) ℝ) : Matrix (Fin n) (Fin n) ℝ := X * (2 • 1 - L * X)

/-- The reciprocals of the diagonal. -/
def first {n : ℕ} (L : Matrix (Fin n) (Fin n) ℝ) : Matrix (Fin n) (Fin n) ℝ := Matrix.diagonal fun i => 1 / L i i

/-- A Newton round squares the defect. -/
theorem defect {n : ℕ} (L X : Matrix (Fin n) (Fin n) ℝ) : 1 - L * round L X = (1 - L * X) * (1 - L * X) := by
  unfold round
  rw [two_smul]
  noncomm_ring

/-- The powers of a strictly lower triangular matrix move below the diagonal. -/
theorem pow_below {n : ℕ} (E : Matrix (Fin n) (Fin n) ℝ) (hE : ∀ i j : Fin n, i ≤ j → E i j = 0) (p : ℕ) :
    ∀ i j : Fin n, (i : ℕ) < j + p → (E ^ p) i j = 0 := by
  induction p with
  | zero =>
    intro i j hij
    rw [pow_zero, Matrix.one_apply, if_neg]
    rintro rfl
    omega
  | succ p ih =>
    intro i j hij
    rw [pow_succ, Matrix.mul_apply]
    refine Finset.sum_eq_zero fun k _ => ?_
    by_cases hk : (i : ℕ) < k + p
    · rw [ih i k hk, zero_mul]
    · rw [hE k j (by rw [Fin.le_def]; omega), mul_zero]

/-- Five rounds from the diagonal's reciprocals reach the inverse of a lower triangular matrix. -/
theorem five_rounds {n : ℕ} (hn : n ≤ 32) (L : Matrix (Fin n) (Fin n) ℝ) (htri : ∀ i j, i < j → L i j = 0)
    (hd : ∀ i, L i i ≠ 0) :
    L * round L (round L (round L (round L (round L (first L))))) = 1 := by
  have hE : ∀ i j : Fin n, i ≤ j → (1 - L * first L) i j = 0 := by
    intro i j hij
    rw [Matrix.sub_apply, first, Matrix.mul_diagonal, Matrix.one_apply]
    rcases hij.lt_or_eq with h | h
    · rw [if_neg h.ne, htri i j h, zero_mul, sub_zero]
    · subst h
      rw [if_pos rfl, mul_one_div, div_self (hd i), sub_self]
  have h32 : (1 - L * first L) ^ 32 = 0 := by
    ext i j
    exact pow_below _ hE 32 i j (by omega)
  have : 1 - L * round L (round L (round L (round L (round L (first L))))) = 0 := by
    rw [defect, defect, defect, defect, defect, ← h32]
    noncomm_ring
  exact (sub_eq_zero.1 this).symm

/-- The leading block of the factor, as a matrix. -/
def lead (n : ℕ) (A : ℕ → ℕ → ℝ) : Matrix (Fin n) (Fin n) ℝ := fun i j => A i j

/-- Five rounds on a leading block of the factor give the leading block of the inverse. -/
theorem Factor.newton (h : Factor G C Y) (n : ℕ) (hn : n ≤ 32) :
    round (lead n C) (round (lead n C) (round (lead n C) (round (lead n C) (round (lead n C) (first (lead n C)))))) =
      lead n Y := by
  have h1 := five_rounds hn (lead n C) (fun i j hij => h.tri i j hij) (fun i => (h.pos i (by omega)).ne')
  have h2 : lead n C * lead n Y = 1 := by
    ext i t
    rw [Matrix.mul_apply, Matrix.one_apply]
    have := h.block n i t hn i.2 t.2
    rw [← Fin.sum_univ_eq_sum_range (fun k => C i k * Y k t) n] at this
    simp only [Fin.val_inj] at this
    exact this
  rw [← Matrix.inv_eq_right_inv h1, Matrix.inv_eq_right_inv h2]

end Cert.Maths
-- ==== Proof.Scalars.lean ====
/-
Masks by row and column number, and sums, quotients and roots of real numbers among the extended reals.
-/
module

public import proofs.«01_k».proof.Proof.Matrix
public import proofs.«01_k».proof.Proof.Cholesky

@[expose] public section

noncomputable section

namespace Cert.Maths

open Idealize.ShloMosaic
open scoped BigOperators

theorem ofNat_inj {a b : ℕ} (ha : a < 32) (hb : b < 32) : BitVec.ofNat 32 a = BitVec.ofNat 32 b ↔ a = b := by
  constructor
  · intro h
    have := congrArg BitVec.toNat h
    simp only [BitVec.toNat_ofNat] at this
    omega
  · exact fun h => h ▸ rfl

/-- A choice by equality of two numbers below 32. -/
theorem sel_eq {α : Type} {a b : ℕ} (ha : a < 32) (hb : b < 32) (x y : α) :
    Scalar.select (IntOp.cmpi .eq (BitVec.ofNat 32 a) (BitVec.ofNat 32 b)) x y = if a = b then x else y := by
  by_cases h : a = b
  · subst h
    simp [Scalar.select, IntOp.cmpi]
  · have : BitVec.ofNat 32 a ≠ BitVec.ofNat 32 b := fun h' => h ((ofNat_inj ha hb).1 h')
    simp [Scalar.select, IntOp.cmpi, beq_eq_false_iff_ne.2 this, h]

/-- A choice by order of two numbers below 32. -/
theorem sel_ge {α : Type} {a b : ℕ} (ha : a < 32) (hb : b < 32) (x y : α) :
    Scalar.select (IntOp.cmpi .sge (BitVec.ofNat 32 a) (BitVec.ofNat 32 b)) x y = if b ≤ a then x else y := by
  have h : (BitVec.ofNat 32 b).sle (BitVec.ofNat 32 a) = decide (b ≤ a) := by
    rw [BitVec.sle_eq_decide]
    congr 1
    rw [BitVec.toInt_ofNat', BitVec.toInt_ofNat', eq_iff_iff]
    have h1 : ((b : ℕ) : ℤ).bmod (2 ^ 32) = b := Int.bmod_eq_of_le (by omega) (by omega)
    have h2 : ((a : ℕ) : ℤ).bmod (2 ^ 32) = a := Int.bmod_eq_of_le (by omega) (by omega)
    rw [h1, h2]
    omega
  by_cases hab : b ≤ a
  · simp [Scalar.select, IntOp.cmpi, h, hab]
  · simp [Scalar.select, IntOp.cmpi, h, hab]

/-- A choice by two equalities of numbers below 32. -/
theorem sel_and {α : Type} {a b c d : ℕ} (ha : a < 32) (hb : b < 32) (hc : c < 32) (hd : d < 32) (x y : α) :
    Scalar.select (IntOp.andi (IntOp.cmpi .eq (BitVec.ofNat 32 a) (BitVec.ofNat 32 b))
      (IntOp.cmpi .eq (BitVec.ofNat 32 c) (BitVec.ofNat 32 d))) x y = if a = b ∧ c = d then x else y := by
  have h1 : (BitVec.ofNat 32 a == BitVec.ofNat 32 b) = decide (a = b) := by
    rw [Bool.eq_iff_iff, beq_iff_eq, decide_eq_true_iff, ofNat_inj ha hb]
  have h2 : (BitVec.ofNat 32 c == BitVec.ofNat 32 d) = decide (c = d) := by
    rw [Bool.eq_iff_iff, beq_iff_eq, decide_eq_true_iff, ofNat_inj hc hd]
  by_cases h3 : a = b <;> by_cases h4 : c = d <;>
    simp [Scalar.select, IntOp.cmpi, IntOp.andi, h1, h2, h3, h4]

/-- A finite sum of reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A quotient of reals. -/
theorem coe_div (x : ℝ) {y : ℝ} (h : y ≠ 0) : Ideal.div (x : EReal) (y : EReal) = ((x / y : ℝ) : EReal) := by
  rw [Ideal.div_coe h, ← EReal.coe_mul, mul_one_div]

/-- The root of a square. -/
theorem coe_sqrt_sq {x : ℝ} (h : 0 < x) : Ideal.sqrt ((x * x : ℝ) : EReal) = (x : EReal) := by
  rw [Ideal.sqrt_coe, if_neg (not_lt.2 (mul_self_nonneg x)), Real.sqrt_mul_self h.le]

/-- The reciprocal root of a square. -/
theorem coe_rsqrt_sq {x : ℝ} (h : 0 < x) : Ideal.rsqrt ((x * x : ℝ) : EReal) = ((1 / x : ℝ) : EReal) := by
  rw [Ideal.rsqrt_coe, if_neg (not_lt.2 (mul_self_nonneg x)), if_neg (mul_pos h h).ne', Real.sqrt_mul_self h.le, one_div]

/-- A sum over the first numbers of a list, cut off by a test. -/
theorem sum_cut (n j : ℕ) (hj : j ≤ n) (f : ℕ → ℝ) :
    ∑ k : Fin n, (if (k : ℕ) < j then f k else 0) = ∑ k ∈ Finset.range j, f k := by
  rw [Fin.sum_univ_eq_sum_range (fun k => if k < j then f k else 0) n, ← Finset.sum_filter]
  congr 1
  ext k
  simp only [Finset.mem_filter, Finset.mem_range]
  omega

/-! ## The constants -/

theorem bits_half : Ideal.ofBits .f32 0x3F000000#32 = ((1 / 2 : ℝ) : EReal) := by
  simp [Ideal.ofBits, Ideal.ieee, -EReal.coe_mul]; norm_num

theorem bits_three_halves : Ideal.ofBits .f32 0x3FC00000#32 = ((3 / 2 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_one : Ideal.ofBits .f32 0x3F800000#32 = ((1 : ℝ) : EReal) := by
  rw [Ideal.ofBits_one_f32]; norm_cast

/-- The small diagonal term is a positive real. -/
theorem bits_small : ∃ e : ℝ, 0 < e ∧ Ideal.ofBits .f32 0x38D1B717#32 = (e : EReal) := by
  refine ⟨13743895 * (2 : ℝ) ^ (-37 : ℤ), by positivity, ?_⟩
  simp [Ideal.ofBits, Ideal.ieee, -EReal.coe_mul]

end Cert.Maths
-- ==== Proof.KernelIdeal.OrthoValues.lean ====
/-
The kernel's normalisation of a weight: its factorisation finds the Gram matrix's factor, its Newton rounds the
inverse of the factor.
-/
module

public import proofs.«01_k».proof.Proof.KernelIdeal.Ortho
public import proofs.«01_k».proof.Proof.Scalars
public import Idealize.ShloMosaic.Lib.Pipeline.Value
public import Idealize.ShloMosaic.Lib.Pipeline.ValueKit

@[expose] public section

set_option maxRecDepth 16384

noncomputable section

namespace Cert.KernelIdeal.Calls

open Idealize.ShloMosaic Idealize.ShloMosaic.TcCoe
open Idealize.SL Idealize.SL.RA Idealize.SL.Sem
open Idealize.ShloMosaic.Pipeline (Dat Cfg Window)
open Cert.KernelIdeal.Gen
open Cert.Maths

/-- The loop's counter is the trip's number. -/
theorem trip_number (k : ℕ) : Scf.iv 0#32 1#32 k = BitVec.ofNat 32 k := by
  rw [Scf.iv, BitVec.zero_add, BitVec.mul_one]

/-- The refinement keeps an exact reciprocal root. -/
theorem refine_root {c : ℝ} (h : 0 < c) : refine (F := Ideal) ((c * c : ℝ) : EReal) ((1 / c : ℝ) : EReal) = ((1 / c : ℝ) : EReal) := by
  change ((1 / c : ℝ) : EReal) * (Ideal.ofBits .f32 0x3FC00000#32 -
    Ideal.ofBits .f32 0x3F000000#32 * ((c * c : ℝ) : EReal) * ((1 / c : ℝ) : EReal) * ((1 / c : ℝ) : EReal)) = _
  rw [bits_half, bits_three_halves]
  simp only [← EReal.coe_mul, ← EReal.coe_sub]
  congr 1
  field_simp
  ring

/-- The reciprocal root of a square. -/
theorem invRoot_sq {c : ℝ} (h : 0 < c) : invRoot (F := Ideal) ((c * c : ℝ) : EReal) = ((1 / c : ℝ) : EReal) := by
  have h1 : Scalar.rsqrt (F := Ideal) (φ := .f32) ((c * c : ℝ) : EReal) = ((1 / c : ℝ) : EReal) := coe_rsqrt_sq h
  unfold invRoot
  rw [h1, refine_root h, refine_root h]

/-- An array of extended reals holds a real matrix. -/
def IsReal {a b : ℕ} (A : Arr a b) (X : Matrix (Fin a) (Fin b) ℝ) : Prop := ∀ i t, A (ix2 i t) = ((X i t : ℝ) : EReal)

/-! ## Side 32 -/

theorem pivot32_apply (A : Arr 32 32) (j : ℕ) (hj : j < 32) :
    pivot32 (F := Ideal) rowIx32 colIx32 A (BitVec.ofNat 32 j) = invRoot (F := Ideal) (A (ix2 ⟨j, hj⟩ ⟨j, hj⟩)) := by
  unfold pivot32 rowIx32 colIx32
  congr 1
  pointwise
  have h : ∀ x y : Fin 32, ((x : ℕ) = j ∧ (y : ℕ) = j) ↔ (x = ⟨j, hj⟩ ∧ y = ⟨j, hj⟩) := by
    intro x y
    rw [Fin.ext_iff, Fin.ext_iff]
  simp only [sel_and (lt_of_lt_of_le (Fin.isLt _) (by decide : 32 ≤ 32)) (lt_of_lt_of_le hj (by decide : 32 ≤ 32))
    (lt_of_lt_of_le (Fin.isLt _) (by decide : 32 ≤ 32)) (lt_of_lt_of_le hj (by decide : 32 ≤ 32)), h]
  rw [Finset.sum_eq_single (⟨j, hj⟩ : Fin 32), Finset.sum_eq_single (⟨j, hj⟩ : Fin 32)]
  · simp
  · intro y _ hy
    rw [if_neg (fun h => hy h.2)]
  · intro h; exact absurd (Finset.mem_univ _) h
  · intro x _ hx
    exact Finset.sum_eq_zero fun y _ => by rw [if_neg (fun h => hx h.1)]
  · intro h; exact absurd (Finset.mem_univ _) h

theorem colOf32_apply (A : Arr 32 32) (j : ℕ) (hj : j < 32) (i : Fin 32) :
    colOf32 (F := Ideal) rowIx32 colIx32 A (BitVec.ofNat 32 j) (ix2 i 0) =
      if j ≤ (i : ℕ) then A (ix2 i ⟨j, hj⟩) * invRoot (F := Ideal) (A (ix2 ⟨j, hj⟩ ⟨j, hj⟩)) else 0 := by
  unfold colOf32
  rw [pivot32_apply A j hj]
  generalize invRoot (F := Ideal) (A (ix2 ⟨j, hj⟩ ⟨j, hj⟩)) = p
  unfold colIx32
  pointwise
  simp only [sel_eq (lt_of_lt_of_le (Fin.isLt _) (by decide : 32 ≤ 32)) (lt_of_lt_of_le hj (by decide : 32 ≤ 32)),
    sel_ge (lt_of_lt_of_le (Fin.isLt _) (by decide : 32 ≤ 32)) (lt_of_lt_of_le hj (by decide : 32 ≤ 32)), ← Fin.ext_iff (b := ⟨j, hj⟩)]
  rw [Finset.sum_ite_eq' Finset.univ (⟨j, hj⟩ : Fin 32), if_pos (Finset.mem_univ _)]

theorem rowOf32_apply (A : Arr 32 32) (j : ℕ) (hj : j < 32) (t : Fin 32) :
    rowOf32 (F := Ideal) rowIx32 colIx32 A (BitVec.ofNat 32 j) (ix2 0 t) =
      if j ≤ (t : ℕ) then A (ix2 ⟨j, hj⟩ t) * invRoot (F := Ideal) (A (ix2 ⟨j, hj⟩ ⟨j, hj⟩)) else 0 := by
  unfold rowOf32
  rw [pivot32_apply A j hj]
  generalize invRoot (F := Ideal) (A (ix2 ⟨j, hj⟩ ⟨j, hj⟩)) = p
  unfold rowIx32
  pointwise
  simp only [sel_eq (lt_of_lt_of_le (Fin.isLt _) (by decide : 32 ≤ 32)) (lt_of_lt_of_le hj (by decide : 32 ≤ 32)),
    sel_ge (lt_of_lt_of_le (Fin.isLt _) (by decide : 32 ≤ 32)) (lt_of_lt_of_le hj (by decide : 32 ≤ 32)), ← Fin.ext_iff (b := ⟨j, hj⟩)]
  rw [Finset.sum_ite_eq' Finset.univ (⟨j, hj⟩ : Fin 32), if_pos (Finset.mem_univ _)]

theorem next32_apply (R C : IVec S32x32 32) (A : Arr 32 32) (j : BitVec 32) (i t : Fin 32) :
    next32 (F := Ideal) R C A j (ix2 i t) = A (ix2 i t) - colOf32 (F := Ideal) R C A j (ix2 i 0) * rowOf32 (F := Ideal) R C A j (ix2 0 t) := by
  unfold next32
  generalize colOf32 (F := Ideal) R C A j = p
  generalize rowOf32 (F := Ideal) R C A j = q
  pointwise

theorem put32_apply (R : IVec S32x32 32) (A L : Arr 32 32) (j : ℕ) (hj : j < 32) (i t : Fin 32) :
    put32 (F := Ideal) R colIx32 A L (BitVec.ofNat 32 j) (ix2 i t) =
      if (t : ℕ) = j then colOf32 (F := Ideal) R colIx32 A (BitVec.ofNat 32 j) (ix2 i 0) else L (ix2 i t) := by
  unfold put32
  generalize colOf32 (F := Ideal) R colIx32 A (BitVec.ofNat 32 j) = p
  unfold colIx32
  pointwise
  simp only [sel_eq (lt_of_lt_of_le (Fin.isLt _) (by decide : 32 ≤ 32)) hj]

section
variable {G C Y : ℕ → ℕ → ℝ}

/-- The remainder and the factor before trip `k`, for the trips within the side. -/
theorem chol32_value (hF : Factor G C Y) (A : Arr 32 32) (hA : IsReal A (lead 32 G)) : ∀ k, k ≤ 32 →
    IsReal (chol32 (F := Ideal) rowIx32 colIx32 A k).1 (fun i t => G i t - ∑ p ∈ Finset.range k, C i p * C t p) ∧
    IsReal (chol32 (F := Ideal) rowIx32 colIx32 A k).2 (fun i t => if (t : ℕ) < k then C i t else 0)
  | 0, _ => by
    refine ⟨fun i t => ?_, fun i t => ?_⟩
    · rw [chol32]
      dsimp only
      rw [hA i t]
      simp [lead]
    · rw [chol32]
      pointwise
      simp
  | k + 1, hk => by
    obtain ⟨h1, h2⟩ := chol32_value hF A hA k (by omega)
    generalize hs : chol32 (F := Ideal) rowIx32 colIx32 A k = s at h1 h2
    have hkn : k < 32 := by omega
    have hk32 : k < 32 := by omega
    have hpos := hF.pos k hk32
    have hsym : ∀ a b, a < 32 → b < 32 → G a b = G b a := by
      intro a b ha hb
      rw [← hF.gram a ha b hb, ← hF.gram b hb a ha]
      exact Finset.sum_congr rfl fun p _ => mul_comm _ _
    have hcol : ∀ i : Fin 32, s.1 (ix2 i ⟨k, hkn⟩) = ((C i k * C k k : ℝ) : EReal) := by
      intro i
      rw [h1 i ⟨k, hkn⟩]
      congr 1
      exact hF.rest i k (by omega) hk32
    have hrow : ∀ t : Fin 32, s.1 (ix2 ⟨k, hkn⟩ t) = ((C t k * C k k : ℝ) : EReal) := by
      intro t
      rw [h1 ⟨k, hkn⟩ t]
      congr 1
      change G k t - ∑ p ∈ Finset.range k, C k p * C t p = _
      rw [hsym k t hk32 (by omega), ← hF.rest t k (by omega) hk32]
      congr 1
      exact Finset.sum_congr rfl fun p _ => mul_comm _ _
    have hroot : invRoot (F := Ideal) (s.1 (ix2 ⟨k, hkn⟩ ⟨k, hkn⟩)) = ((1 / C k k : ℝ) : EReal) := by
      rw [hcol]
      exact invRoot_sq hpos
    have hscale : ∀ a : ℝ, a * C k k * (1 / C k k) = a := by
      intro a
      field_simp
    have hc : ∀ i : Fin 32, colOf32 (F := Ideal) rowIx32 colIx32 s.1 (BitVec.ofNat 32 k) (ix2 i 0) = ((C i k : ℝ) : EReal) := by
      intro i
      rw [colOf32_apply s.1 k hkn i, hroot, hcol i, ← EReal.coe_mul, hscale]
      by_cases hi : k ≤ (i : ℕ)
      · rw [if_pos hi]
      · rw [if_neg hi, hF.tri i k (by omega), EReal.coe_zero]
    have hr : ∀ t : Fin 32, rowOf32 (F := Ideal) rowIx32 colIx32 s.1 (BitVec.ofNat 32 k) (ix2 0 t) = ((C t k : ℝ) : EReal) := by
      intro t
      rw [rowOf32_apply s.1 k hkn t, hroot, hrow t, ← EReal.coe_mul, hscale]
      by_cases hi : k ≤ (t : ℕ)
      · rw [if_pos hi]
      · rw [if_neg hi, hF.tri t k (by omega), EReal.coe_zero]
    rw [chol32, hs, trip32, trip_number]
    dsimp only
    refine ⟨fun i t => ?_, fun i t => ?_⟩
    · rw [next32_apply, hc, hr, h1 i t, ← EReal.coe_mul, ← EReal.coe_sub]
      dsimp only
      rw [Finset.sum_range_succ]
      congr 1
      ring
    · rw [put32_apply _ _ _ k hk32, hc, h2 i t]
      dsimp only
      by_cases ht : (t : ℕ) = k
      · rw [if_pos ht, if_pos (by omega), ht]
      · rw [if_neg ht]
        by_cases ht' : (t : ℕ) < k
        · rw [if_pos ht', if_pos (by omega)]
        · rw [if_neg ht', if_neg (by omega)]

/-- The trips past the side leave the factor alone. -/
theorem chol32_after (A : Arr 32 32) : ∀ p, 32 + p ≤ 32 → ∀ i t : Fin 32,
    (chol32 (F := Ideal) rowIx32 colIx32 A (32 + p)).2 (ix2 i t) = (chol32 (F := Ideal) rowIx32 colIx32 A 32).2 (ix2 i t)
  | 0, _ => fun _ _ => rfl
  | p + 1, hp => by
    intro i t
    rw [← chol32_after A p (by omega) i t]
    rw [show 32 + (p + 1) = (32 + p) + 1 from rfl]
    generalize hk : 32 + p = k
    rw [chol32, trip32, trip_number]
    dsimp only
    rw [put32_apply _ _ _ k (by omega), if_neg (by omega)]

/-- The factor of a Gram matrix. -/
theorem factor32_value (hF : Factor G C Y) (A : Arr 32 32) (hA : IsReal A (lead 32 G)) :
    IsReal (factor32 (F := Ideal) A) (lead 32 C) := by
  intro i t
  unfold factor32
  have h := chol32_after A (32 - 32) (by decide) i t
  rw [show 32 + (32 - 32) = 32 from rfl] at h
  rw [h, (chol32_value hF A hA 32 le_rfl).2 i t]
  exact congrArg _ (if_pos t.2)

end

theorem mm32_value (A B : Arr 32 32) (X Z : Matrix (Fin 32) (Fin 32) ℝ) (hA : IsReal A X) (hB : IsReal B Z) :
    IsReal (mm32 (F := Ideal) A B) (X * Z) := by
  intro i t
  have h : mm32 (F := Ideal) A B (ix2 i t) = ∑ k : Fin 32, A (ix2 i k) * B (ix2 k t) := by
    unfold mm32
    pointwise
  rw [h, Matrix.mul_apply, ← coe_sum]
  exact Finset.sum_congr rfl fun k _ => by rw [hA, hB, EReal.coe_mul]

theorem diag32_apply (a b : BitVec 32) (i t : Fin 32) :
    diag32 (F := Ideal) a b (ix2 i t) = if i = t then Ideal.ofBits .f32 a else Ideal.ofBits .f32 b := by
  unfold diag32 rowIx32 colIx32
  pointwise
  simp only [sel_eq (lt_of_lt_of_le (Fin.isLt i) (by decide : 32 ≤ 32)) (lt_of_lt_of_le (Fin.isLt t) (by decide : 32 ≤ 32)), Fin.ext_iff]

theorem newton32_value (L X : Arr 32 32) (M Z : Matrix (Fin 32) (Fin 32) ℝ) (hL : IsReal L M) (hX : IsReal X Z) :
    IsReal (newton32 (F := Ideal) L X) (Maths.round M Z) := by
  unfold newton32 Maths.round
  refine mm32_value _ _ _ _ hX fun i t => ?_
  have h : subf (F := Ideal) (φ := .f32) (diag32 (F := Ideal) 0x40000000#32 0x00000000#32) (mm32 (F := Ideal) L X) (ix2 i t) =
      diag32 (F := Ideal) 0x40000000#32 0x00000000#32 (ix2 i t) - mm32 (F := Ideal) L X (ix2 i t) := rfl
  rw [h, mm32_value L X M Z hL hX i t, diag32_apply, bits_two, Ideal.ofBits_zero_f32, Matrix.sub_apply, Matrix.smul_apply, Matrix.one_apply]
  by_cases hit : i = t
  · rw [if_pos hit, if_pos hit, ← EReal.coe_sub]
    norm_num
  · rw [if_neg hit, if_neg hit, ← EReal.coe_zero, ← EReal.coe_sub]
    norm_num

theorem diagOf32_apply (L : Arr 32 32) (i t : Fin 32) :
    diagOf32 (F := Ideal) L (ix2 i t) = if i = t then L (ix2 i t) else Ideal.ofBits .f32 0x3F800000#32 := by
  unfold diagOf32 rowIx32 colIx32
  pointwise
  simp only [sel_eq (lt_of_lt_of_le (Fin.isLt i) (by decide : 32 ≤ 32)) (lt_of_lt_of_le (Fin.isLt t) (by decide : 32 ≤ 32)), Fin.ext_iff]

theorem recip32_value (D X : Arr 32 32) (i t : Fin 32) (d : ℝ) (hd : d ≠ 0) (hD : D (ix2 i t) = (d : EReal))
    (hX : X (ix2 i t) = ((1 / d : ℝ) : EReal)) : recip32 (F := Ideal) D X (ix2 i t) = ((1 / d : ℝ) : EReal) := by
  have h : recip32 (F := Ideal) D X (ix2 i t) = X (ix2 i t) * (Ideal.ofBits .f32 0x40000000#32 - D (ix2 i t) * X (ix2 i t)) := rfl
  rw [h, hD, hX, bits_two, ← EReal.coe_mul, ← EReal.coe_sub, ← EReal.coe_mul]
  congr 1
  field_simp
  ring

theorem start32_value (L : Arr 32 32) (M : Matrix (Fin 32) (Fin 32) ℝ) (hL : IsReal L M) (hd : ∀ i, M i i ≠ 0) :
    IsReal (start32 (F := Ideal) L) (first M) := by
  intro i t
  have h : ∀ R : Arr 32 32, select (cmpi .eq rowIx32 colIx32) R (broadcast S32x32 (Scalar.ofBits (F := Ideal) .f32 0x00000000#32)) (ix2 i t) =
      if i = t then R (ix2 i t) else 0 := by
    intro R
    unfold rowIx32 colIx32
    pointwise
    simp only [sel_eq (lt_of_lt_of_le (Fin.isLt i) (by decide : 32 ≤ 32)) (lt_of_lt_of_le (Fin.isLt t) (by decide : 32 ≤ 32)), Fin.ext_iff]
  unfold start32
  rw [h, first, Matrix.diagonal_apply]
  by_cases hit : i = t
  · subst hit
    rw [if_pos rfl, if_pos rfl]
    have hD : diagOf32 (F := Ideal) L (ix2 i i) = ((M i i : ℝ) : EReal) := by
      rw [diagOf32_apply, if_pos rfl, hL]
    refine recip32_value _ _ i i (M i i) (hd i) hD (recip32_value _ _ i i (M i i) (hd i) hD ?_)
    have h2 : divf (F := Ideal) (φ := .f32) (broadcast S32x32 (Scalar.ofBits (F := Ideal) .f32 0x3F800000#32)) (diagOf32 (F := Ideal) L) (ix2 i i) =
      Ideal.div (Ideal.ofBits .f32 0x3F800000#32) (diagOf32 (F := Ideal) L (ix2 i i)) := rfl
    rw [h2, hD, bits_one, coe_div _ (hd i)]
  · rw [if_neg hit, if_neg hit, EReal.coe_zero]

/-- The Newton rounds reach the inverse of the factor. -/
theorem inv32_value {G C Y : ℕ → ℕ → ℝ} (hF : Factor G C Y) (L : Arr 32 32) (hL : IsReal L (lead 32 C)) :
    IsReal (inv32 (F := Ideal) L) (lead 32 Y) := by
  rw [← hF.newton 32 (by decide)]
  unfold inv32
  have hd : ∀ i : Fin 32, lead 32 C i i ≠ 0 := fun i => (hF.pos i (by omega)).ne'
  exact newton32_value _ _ _ _ hL (newton32_value _ _ _ _ hL (newton32_value _ _ _ _ hL (newton32_value _ _ _ _ hL
    (newton32_value _ _ _ _ hL (start32_value L _ hL hd)))))

/-! ## Side 16 -/

theorem pivot16_apply (A : Arr 16 16) (j : ℕ) (hj : j < 16) :
    pivot16 (F := Ideal) rowIx16 colIx16 A (BitVec.ofNat 32 j) = invRoot (F := Ideal) (A (ix2 ⟨j, hj⟩ ⟨j, hj⟩)) := by
  unfold pivot16 rowIx16 colIx16
  congr 1
  pointwise
  have h : ∀ x y : Fin 16, ((x : ℕ) = j ∧ (y : ℕ) = j) ↔ (x = ⟨j, hj⟩ ∧ y = ⟨j, hj⟩) := by
    intro x y
    rw [Fin.ext_iff, Fin.ext_iff]
  simp only [sel_and (lt_of_lt_of_le (Fin.isLt _) (by decide : 16 ≤ 32)) (lt_of_lt_of_le hj (by decide : 16 ≤ 32))
    (lt_of_lt_of_le (Fin.isLt _) (by decide : 16 ≤ 32)) (lt_of_lt_of_le hj (by decide : 16 ≤ 32)), h]
  rw [Finset.sum_eq_single (⟨j, hj⟩ : Fin 16), Finset.sum_eq_single (⟨j, hj⟩ : Fin 16)]
  · simp
  · intro y _ hy
    rw [if_neg (fun h => hy h.2)]
  · intro h; exact absurd (Finset.mem_univ _) h
  · intro x _ hx
    exact Finset.sum_eq_zero fun y _ => by rw [if_neg (fun h => hx h.1)]
  · intro h; exact absurd (Finset.mem_univ _) h

theorem colOf16_apply (A : Arr 16 16) (j : ℕ) (hj : j < 16) (i : Fin 16) :
    colOf16 (F := Ideal) rowIx16 colIx16 A (BitVec.ofNat 32 j) (ix2 i 0) =
      if j ≤ (i : ℕ) then A (ix2 i ⟨j, hj⟩) * invRoot (F := Ideal) (A (ix2 ⟨j, hj⟩ ⟨j, hj⟩)) else 0 := by
  unfold colOf16
  rw [pivot16_apply A j hj]
  generalize invRoot (F := Ideal) (A (ix2 ⟨j, hj⟩ ⟨j, hj⟩)) = p
  unfold colIx16
  pointwise
  simp only [sel_eq (lt_of_lt_of_le (Fin.isLt _) (by decide : 16 ≤ 32)) (lt_of_lt_of_le hj (by decide : 16 ≤ 32)),
    sel_ge (lt_of_lt_of_le (Fin.isLt _) (by decide : 16 ≤ 32)) (lt_of_lt_of_le hj (by decide : 16 ≤ 32)), ← Fin.ext_iff (b := ⟨j, hj⟩)]
  rw [Finset.sum_ite_eq' Finset.univ (⟨j, hj⟩ : Fin 16), if_pos (Finset.mem_univ _)]

theorem rowOf16_apply (A : Arr 16 16) (j : ℕ) (hj : j < 16) (t : Fin 16) :
    rowOf16 (F := Ideal) rowIx16 colIx16 A (BitVec.ofNat 32 j) (ix2 0 t) =
      if j ≤ (t : ℕ) then A (ix2 ⟨j, hj⟩ t) * invRoot (F := Ideal) (A (ix2 ⟨j, hj⟩ ⟨j, hj⟩)) else 0 := by
  unfold rowOf16
  rw [pivot16_apply A j hj]
  generalize invRoot (F := Ideal) (A (ix2 ⟨j, hj⟩ ⟨j, hj⟩)) = p
  unfold rowIx16
  pointwise
  simp only [sel_eq (lt_of_lt_of_le (Fin.isLt _) (by decide : 16 ≤ 32)) (lt_of_lt_of_le hj (by decide : 16 ≤ 32)),
    sel_ge (lt_of_lt_of_le (Fin.isLt _) (by decide : 16 ≤ 32)) (lt_of_lt_of_le hj (by decide : 16 ≤ 32)), ← Fin.ext_iff (b := ⟨j, hj⟩)]
  rw [Finset.sum_ite_eq' Finset.univ (⟨j, hj⟩ : Fin 16), if_pos (Finset.mem_univ _)]

theorem next16_apply (R C : IVec S16x16 32) (A : Arr 16 16) (j : BitVec 32) (i t : Fin 16) :
    next16 (F := Ideal) R C A j (ix2 i t) = A (ix2 i t) - colOf16 (F := Ideal) R C A j (ix2 i 0) * rowOf16 (F := Ideal) R C A j (ix2 0 t) := by
  unfold next16
  generalize colOf16 (F := Ideal) R C A j = p
  generalize rowOf16 (F := Ideal) R C A j = q
  pointwise

theorem put16_apply (R : IVec S16x16 32) (A L : Arr 16 16) (j : ℕ) (hj : j < 32) (i t : Fin 16) :
    put16 (F := Ideal) R colIx16 A L (BitVec.ofNat 32 j) (ix2 i t) =
      if (t : ℕ) = j then colOf16 (F := Ideal) R colIx16 A (BitVec.ofNat 32 j) (ix2 i 0) else L (ix2 i t) := by
  unfold put16
  generalize colOf16 (F := Ideal) R colIx16 A (BitVec.ofNat 32 j) = p
  unfold colIx16
  pointwise
  simp only [sel_eq (lt_of_lt_of_le (Fin.isLt _) (by decide : 16 ≤ 32)) hj]

section
variable {G C Y : ℕ → ℕ → ℝ}

/-- The remainder and the factor before trip `k`, for the trips within the side. -/
theorem chol16_value (hF : Factor G C Y) (A : Arr 16 16) (hA : IsReal A (lead 16 G)) : ∀ k, k ≤ 16 →
    IsReal (chol16 (F := Ideal) rowIx16 colIx16 A k).1 (fun i t => G i t - ∑ p ∈ Finset.range k, C i p * C t p) ∧
    IsReal (chol16 (F := Ideal) rowIx16 colIx16 A k).2 (fun i t => if (t : ℕ) < k then C i t else 0)
  | 0, _ => by
    refine ⟨fun i t => ?_, fun i t => ?_⟩
    · rw [chol16]
      dsimp only
      rw [hA i t]
      simp [lead]
    · rw [chol16]
      pointwise
      simp
  | k + 1, hk => by
    obtain ⟨h1, h2⟩ := chol16_value hF A hA k (by omega)
    generalize hs : chol16 (F := Ideal) rowIx16 colIx16 A k = s at h1 h2
    have hkn : k < 16 := by omega
    have hk32 : k < 32 := by omega
    have hpos := hF.pos k hk32
    have hsym : ∀ a b, a < 32 → b < 32 → G a b = G b a := by
      intro a b ha hb
      rw [← hF.gram a ha b hb, ← hF.gram b hb a ha]
      exact Finset.sum_congr rfl fun p _ => mul_comm _ _
    have hcol : ∀ i : Fin 16, s.1 (ix2 i ⟨k, hkn⟩) = ((C i k * C k k : ℝ) : EReal) := by
      intro i
      rw [h1 i ⟨k, hkn⟩]
      congr 1
      exact hF.rest i k (by omega) hk32
    have hrow : ∀ t : Fin 16, s.1 (ix2 ⟨k, hkn⟩ t) = ((C t k * C k k : ℝ) : EReal) := by
      intro t
      rw [h1 ⟨k, hkn⟩ t]
      congr 1
      change G k t - ∑ p ∈ Finset.range k, C k p * C t p = _
      rw [hsym k t hk32 (by omega), ← hF.rest t k (by omega) hk32]
      congr 1
      exact Finset.sum_congr rfl fun p _ => mul_comm _ _
    have hroot : invRoot (F := Ideal) (s.1 (ix2 ⟨k, hkn⟩ ⟨k, hkn⟩)) = ((1 / C k k : ℝ) : EReal) := by
      rw [hcol]
      exact invRoot_sq hpos
    have hscale : ∀ a : ℝ, a * C k k * (1 / C k k) = a := by
      intro a
      field_simp
    have hc : ∀ i : Fin 16, colOf16 (F := Ideal) rowIx16 colIx16 s.1 (BitVec.ofNat 32 k) (ix2 i 0) = ((C i k : ℝ) : EReal) := by
      intro i
      rw [colOf16_apply s.1 k hkn i, hroot, hcol i, ← EReal.coe_mul, hscale]
      by_cases hi : k ≤ (i : ℕ)
      · rw [if_pos hi]
      · rw [if_neg hi, hF.tri i k (by omega), EReal.coe_zero]
    have hr : ∀ t : Fin 16, rowOf16 (F := Ideal) rowIx16 colIx16 s.1 (BitVec.ofNat 32 k) (ix2 0 t) = ((C t k : ℝ) : EReal) := by
      intro t
      rw [rowOf16_apply s.1 k hkn t, hroot, hrow t, ← EReal.coe_mul, hscale]
      by_cases hi : k ≤ (t : ℕ)
      · rw [if_pos hi]
      · rw [if_neg hi, hF.tri t k (by omega), EReal.coe_zero]
    rw [chol16, hs, trip16, trip_number]
    dsimp only
    refine ⟨fun i t => ?_, fun i t => ?_⟩
    · rw [next16_apply, hc, hr, h1 i t, ← EReal.coe_mul, ← EReal.coe_sub]
      dsimp only
      rw [Finset.sum_range_succ]
      congr 1
      ring
    · rw [put16_apply _ _ _ k hk32, hc, h2 i t]
      dsimp only
      by_cases ht : (t : ℕ) = k
      · rw [if_pos ht, if_pos (by omega), ht]
      · rw [if_neg ht]
        by_cases ht' : (t : ℕ) < k
        · rw [if_pos ht', if_pos (by omega)]
        · rw [if_neg ht', if_neg (by omega)]

/-- The trips past the side leave the factor alone. -/
theorem chol16_after (A : Arr 16 16) : ∀ p, 16 + p ≤ 32 → ∀ i t : Fin 16,
    (chol16 (F := Ideal) rowIx16 colIx16 A (16 + p)).2 (ix2 i t) = (chol16 (F := Ideal) rowIx16 colIx16 A 16).2 (ix2 i t)
  | 0, _ => fun _ _ => rfl
  | p + 1, hp => by
    intro i t
    rw [← chol16_after A p (by omega) i t]
    rw [show 16 + (p + 1) = (16 + p) + 1 from rfl]
    generalize hk : 16 + p = k
    rw [chol16, trip16, trip_number]
    dsimp only
    rw [put16_apply _ _ _ k (by omega), if_neg (by omega)]

/-- The factor of a Gram matrix. -/
theorem factor16_value (hF : Factor G C Y) (A : Arr 16 16) (hA : IsReal A (lead 16 G)) :
    IsReal (factor16 (F := Ideal) A) (lead 16 C) := by
  intro i t
  unfold factor16
  have h := chol16_after A (32 - 16) (by decide) i t
  rw [show 16 + (32 - 16) = 32 from rfl] at h
  rw [h, (chol16_value hF A hA 16 le_rfl).2 i t]
  exact congrArg _ (if_pos t.2)

end

theorem mm16_value (A B : Arr 16 16) (X Z : Matrix (Fin 16) (Fin 16) ℝ) (hA : IsReal A X) (hB : IsReal B Z) :
    IsReal (mm16 (F := Ideal) A B) (X * Z) := by
  intro i t
  have h : mm16 (F := Ideal) A B (ix2 i t) = ∑ k : Fin 16, A (ix2 i k) * B (ix2 k t) := by
    unfold mm16
    pointwise
  rw [h, Matrix.mul_apply, ← coe_sum]
  exact Finset.sum_congr rfl fun k _ => by rw [hA, hB, EReal.coe_mul]

theorem diag16_apply (a b : BitVec 32) (i t : Fin 16) :
    diag16 (F := Ideal) a b (ix2 i t) = if i = t then Ideal.ofBits .f32 a else Ideal.ofBits .f32 b := by
  unfold diag16 rowIx16 colIx16
  pointwise
  simp only [sel_eq (lt_of_lt_of_le (Fin.isLt i) (by decide : 16 ≤ 32)) (lt_of_lt_of_le (Fin.isLt t) (by decide : 16 ≤ 32)), Fin.ext_iff]

theorem newton16_value (L X : Arr 16 16) (M Z : Matrix (Fin 16) (Fin 16) ℝ) (hL : IsReal L M) (hX : IsReal X Z) :
    IsReal (newton16 (F := Ideal) L X) (Maths.round M Z) := by
  unfold newton16 Maths.round
  refine mm16_value _ _ _ _ hX fun i t => ?_
  have h : subf (F := Ideal) (φ := .f32) (diag16 (F := Ideal) 0x40000000#32 0x00000000#32) (mm16 (F := Ideal) L X) (ix2 i t) =
      diag16 (F := Ideal) 0x40000000#32 0x00000000#32 (ix2 i t) - mm16 (F := Ideal) L X (ix2 i t) := rfl
  rw [h, mm16_value L X M Z hL hX i t, diag16_apply, bits_two, Ideal.ofBits_zero_f32, Matrix.sub_apply, Matrix.smul_apply, Matrix.one_apply]
  by_cases hit : i = t
  · rw [if_pos hit, if_pos hit, ← EReal.coe_sub]
    norm_num
  · rw [if_neg hit, if_neg hit, ← EReal.coe_zero, ← EReal.coe_sub]
    norm_num

theorem diagOf16_apply (L : Arr 16 16) (i t : Fin 16) :
    diagOf16 (F := Ideal) L (ix2 i t) = if i = t then L (ix2 i t) else Ideal.ofBits .f32 0x3F800000#32 := by
  unfold diagOf16 rowIx16 colIx16
  pointwise
  simp only [sel_eq (lt_of_lt_of_le (Fin.isLt i) (by decide : 16 ≤ 32)) (lt_of_lt_of_le (Fin.isLt t) (by decide : 16 ≤ 32)), Fin.ext_iff]

theorem recip16_value (D X : Arr 16 16) (i t : Fin 16) (d : ℝ) (hd : d ≠ 0) (hD : D (ix2 i t) = (d : EReal))
    (hX : X (ix2 i t) = ((1 / d : ℝ) : EReal)) : recip16 (F := Ideal) D X (ix2 i t) = ((1 / d : ℝ) : EReal) := by
  have h : recip16 (F := Ideal) D X (ix2 i t) = X (ix2 i t) * (Ideal.ofBits .f32 0x40000000#32 - D (ix2 i t) * X (ix2 i t)) := rfl
  rw [h, hD, hX, bits_two, ← EReal.coe_mul, ← EReal.coe_sub, ← EReal.coe_mul]
  congr 1
  field_simp
  ring

theorem start16_value (L : Arr 16 16) (M : Matrix (Fin 16) (Fin 16) ℝ) (hL : IsReal L M) (hd : ∀ i, M i i ≠ 0) :
    IsReal (start16 (F := Ideal) L) (first M) := by
  intro i t
  have h : ∀ R : Arr 16 16, select (cmpi .eq rowIx16 colIx16) R (broadcast S16x16 (Scalar.ofBits (F := Ideal) .f32 0x00000000#32)) (ix2 i t) =
      if i = t then R (ix2 i t) else 0 := by
    intro R
    unfold rowIx16 colIx16
    pointwise
    simp only [sel_eq (lt_of_lt_of_le (Fin.isLt i) (by decide : 16 ≤ 32)) (lt_of_lt_of_le (Fin.isLt t) (by decide : 16 ≤ 32)), Fin.ext_iff]
  unfold start16
  rw [h, first, Matrix.diagonal_apply]
  by_cases hit : i = t
  · subst hit
    rw [if_pos rfl, if_pos rfl]
    have hD : diagOf16 (F := Ideal) L (ix2 i i) = ((M i i : ℝ) : EReal) := by
      rw [diagOf16_apply, if_pos rfl, hL]
    refine recip16_value _ _ i i (M i i) (hd i) hD (recip16_value _ _ i i (M i i) (hd i) hD ?_)
    have h2 : divf (F := Ideal) (φ := .f32) (broadcast S16x16 (Scalar.ofBits (F := Ideal) .f32 0x3F800000#32)) (diagOf16 (F := Ideal) L) (ix2 i i) =
      Ideal.div (Ideal.ofBits .f32 0x3F800000#32) (diagOf16 (F := Ideal) L (ix2 i i)) := rfl
    rw [h2, hD, bits_one, coe_div _ (hd i)]
  · rw [if_neg hit, if_neg hit, EReal.coe_zero]

/-- The Newton rounds reach the inverse of the factor. -/
theorem inv16_value {G C Y : ℕ → ℕ → ℝ} (hF : Factor G C Y) (L : Arr 16 16) (hL : IsReal L (lead 16 C)) :
    IsReal (inv16 (F := Ideal) L) (lead 16 Y) := by
  rw [← hF.newton 16 (by decide)]
  unfold inv16
  have hd : ∀ i : Fin 16, lead 16 C i i ≠ 0 := fun i => (hF.pos i (by omega)).ne'
  exact newton16_value _ _ _ _ hL (newton16_value _ _ _ _ hL (newton16_value _ _ _ _ hL (newton16_value _ _ _ _ hL
    (newton16_value _ _ _ _ hL (start16_value L _ hL hd)))))

theorem gram256x32_apply (w : Arr 256 32) (i t : Fin 32) :
    gram256x32 (F := Ideal) w (ix2 i t) = ∑ s : Fin 256, w (ix2 s i) * w (ix2 s t) + Ideal.ofBits .f32 0x38D1B717#32 * (if i = t then 1 else 0) := by
  have h := diag32_apply 0x3F800000#32 0x00000000#32 i t
  rw [Ideal.ofBits_one_f32, Ideal.ofBits_zero_f32] at h
  rw [← h]
  unfold gram256x32 round256x32
  generalize diag32 (F := Ideal) 0x3F800000#32 0x00000000#32 = D
  pointwise

/-- The normalised weight: its product with the transpose of the leading block of the factor's inverse. -/
theorem ortho256x32_value {G C Y : ℕ → ℕ → ℝ} (hF : Factor G C Y) (w : Arr 256 32) (hG : IsReal (gram256x32 (F := Ideal) w) (lead 32 G)) :
    ortho256x32 (F := Ideal) w = mul w fun i => ((Y (i 1).val (i 0).val : ℝ) : EReal) := by
  have h := inv32_value hF _ (factor32_value hF _ hG)
  unfold ortho256x32 turned32 round256x32
  generalize inv32 (F := Ideal) (factor32 (F := Ideal) (gram256x32 (F := Ideal) w)) = X at h
  funext i
  pointwise [mul]
  refine Finset.sum_congr rfl fun k _ => ?_
  congr 1
  exact h (i 1) k

theorem gram32x16_apply (w : Arr 32 16) (i t : Fin 16) :
    gram32x16 (F := Ideal) w (ix2 i t) = ∑ s : Fin 32, w (ix2 s i) * w (ix2 s t) + Ideal.ofBits .f32 0x38D1B717#32 * (if i = t then 1 else 0) := by
  have h := diag16_apply 0x3F800000#32 0x00000000#32 i t
  rw [Ideal.ofBits_one_f32, Ideal.ofBits_zero_f32] at h
  rw [← h]
  unfold gram32x16 round32x16
  generalize diag16 (F := Ideal) 0x3F800000#32 0x00000000#32 = D
  pointwise

/-- The normalised weight: its product with the transpose of the leading block of the factor's inverse. -/
theorem ortho32x16_value {G C Y : ℕ → ℕ → ℝ} (hF : Factor G C Y) (w : Arr 32 16) (hG : IsReal (gram32x16 (F := Ideal) w) (lead 16 G)) :
    ortho32x16 (F := Ideal) w = mul w fun i => ((Y (i 1).val (i 0).val : ℝ) : EReal) := by
  have h := inv16_value hF _ (factor16_value hF _ hG)
  unfold ortho32x16 turned16 round32x16
  generalize inv16 (F := Ideal) (factor16 (F := Ideal) (gram32x16 (F := Ideal) w)) = X at h
  funext i
  pointwise [mul]
  refine Finset.sum_congr rfl fun k _ => ?_
  congr 1
  exact h (i 1) k

theorem gram128x16_apply (w : Arr 128 16) (i t : Fin 16) :
    gram128x16 (F := Ideal) w (ix2 i t) = ∑ s : Fin 128, w (ix2 s i) * w (ix2 s t) + Ideal.ofBits .f32 0x38D1B717#32 * (if i = t then 1 else 0) := by
  have h := diag16_apply 0x3F800000#32 0x00000000#32 i t
  rw [Ideal.ofBits_one_f32, Ideal.ofBits_zero_f32] at h
  rw [← h]
  unfold gram128x16 round128x16
  generalize diag16 (F := Ideal) 0x3F800000#32 0x00000000#32 = D
  pointwise

/-- The normalised weight: its product with the transpose of the leading block of the factor's inverse. -/
theorem ortho128x16_value {G C Y : ℕ → ℕ → ℝ} (hF : Factor G C Y) (w : Arr 128 16) (hG : IsReal (gram128x16 (F := Ideal) w) (lead 16 G)) :
    ortho128x16 (F := Ideal) w = mul w fun i => ((Y (i 1).val (i 0).val : ℝ) : EReal) := by
  have h := inv16_value hF _ (factor16_value hF _ hG)
  unfold ortho128x16 turned16 round128x16
  generalize inv16 (F := Ideal) (factor16 (F := Ideal) (gram128x16 (F := Ideal) w)) = X at h
  funext i
  pointwise [mul]
  refine Finset.sum_congr rfl fun k _ => ?_
  congr 1
  exact h (i 1) k

theorem gram16x16_apply (w : Arr 16 16) (i t : Fin 16) :
    gram16x16 (F := Ideal) w (ix2 i t) = ∑ s : Fin 16, w (ix2 s i) * w (ix2 s t) + Ideal.ofBits .f32 0x38D1B717#32 * (if i = t then 1 else 0) := by
  have h := diag16_apply 0x3F800000#32 0x00000000#32 i t
  rw [Ideal.ofBits_one_f32, Ideal.ofBits_zero_f32] at h
  rw [← h]
  unfold gram16x16 round16x16
  generalize diag16 (F := Ideal) 0x3F800000#32 0x00000000#32 = D
  pointwise

/-- The normalised weight: its product with the transpose of the leading block of the factor's inverse. -/
theorem ortho16x16_value {G C Y : ℕ → ℕ → ℝ} (hF : Factor G C Y) (w : Arr 16 16) (hG : IsReal (gram16x16 (F := Ideal) w) (lead 16 G)) :
    ortho16x16 (F := Ideal) w = mul w fun i => ((Y (i 1).val (i 0).val : ℝ) : EReal) := by
  have h := inv16_value hF _ (factor16_value hF _ hG)
  unfold ortho16x16 turned16 round16x16
  generalize inv16 (F := Ideal) (factor16 (F := Ideal) (gram16x16 (F := Ideal) w)) = X at h
  funext i
  pointwise [mul]
  refine Finset.sum_congr rfl fun k _ => ?_
  congr 1
  exact h (i 1) k

end Cert.KernelIdeal.Calls
-- ==== Proof.ReferenceIdeal.Steps.lean ====
/-
One trip of the reference's loop, read at one weight's entries.
-/
module

public import proofs.«01_k».proof.Proof.Gen.ReferenceIdeal.Run
public import proofs.«01_k».proof.Proof.Scalars

@[expose] public section

set_option maxRecDepth 16384

noncomputable section

namespace Cert.ReferenceIdeal.Loop

open Idealize.ShloMosaic Idealize.ShloMosaic.TcCoe
open Idealize.SL Idealize.SL.RA Idealize.SL.Sem
open Cert.ReferenceIdeal.Gen Cert.ReferenceIdeal.Value
open Cert.Maths

/-- The contents trip `j` starts from: the three tables of numbers and the counter. -/
structure At (j : ℕ) (V : Valuation τ sig (Elt Ideal)) : Prop where
  rows : (V (Proc.devRef .tc main_v40_0) : IVec S32x1 32) = fun i => BitVec.ofNat 32 (i 0).val
  cols : (V (Proc.devRef .tc main_v40_1) : IVec S1x32 32) = fun i => BitVec.ofNat 32 (i 1).val
  nums : (V (Proc.devRef .tc main_v40_3) : IVec S32 32) = fun i => BitVec.ofNat 32 (i 0).val
  count : (V (Proc.devRef .tc main_v40_5) : IVec S_ 32) = fun _ => BitVec.ofNat 32 j

/-- Six squares of side 32. -/
abbrev Box := S6x32x32.Idx → EReal

/-- The Gram matrices. -/
def gramOf (V : Valuation τ sig (Elt Ideal)) : Box := V (Proc.devRef .tc main_v40_2)
/-- The factors so far. -/
def lowOf (V : Valuation τ sig (Elt Ideal)) : Box := V (Proc.devRef .tc main_v40_6)
/-- The inverses so far. -/
def invOf (V : Valuation τ sig (Elt Ideal)) : Box := V (Proc.devRef .tc main_v40_7)

variable {V : Valuation τ sig (Elt Ideal)} {j : ℕ}

/-- Row `j` of the factor so far. -/
def rowOf (V : Valuation τ sig (Elt Ideal)) : Arr 6 32 := res_main_while0b_v99 V
/-- Column `j` of the Gram matrix less the products so far. -/
def restOf (V : Valuation τ sig (Elt Ideal)) : Arr 6 32 := res_main_while0b_v106 V
/-- The pivot's root. -/
def rootOf (V : Valuation τ sig (Elt Ideal)) : S6.Idx → EReal := res_main_while0b_v112 V

theorem row_apply (h : At j V) (hj : j < 32) (b : Fin 6) (k : Fin 32) :
    rowOf V (ix2 b k) = lowOf V (ix3 b ⟨j, hj⟩ k) := by
  unfold rowOf res_main_while0b_v99
  rw [h.rows, h.count]
  simp only [id_eq]
  change _ = lowOf V _
  rw [show (V (Proc.devRef .tc main_v40_6) : FVec Ideal S6x32x32 .f32) = lowOf V from rfl]
  generalize lowOf V = L
  pointwise
  simp only [sel_eq (Fin.isLt _) hj, ← Fin.ext_iff (b := ⟨j, hj⟩)]
  rw [Finset.sum_ite_eq' Finset.univ (⟨j, hj⟩ : Fin 32), if_pos (Finset.mem_univ _)]

theorem rest_apply (h : At j V) (hj : j < 32) (b : Fin 6) (i : Fin 32) :
    restOf V (ix2 b i) = gramOf V (ix3 b i ⟨j, hj⟩) - ∑ k : Fin 32, lowOf V (ix3 b i k) * rowOf V (ix2 b k) := by
  unfold restOf res_main_while0b_v106
  rw [h.cols, h.count]
  simp only [id_eq]
  rw [show (V (Proc.devRef .tc main_v40_6) : FVec Ideal S6x32x32 .f32) = lowOf V from rfl,
    show (V (Proc.devRef .tc main_v40_2) : FVec Ideal S6x32x32 .f32) = gramOf V from rfl,
    show (res_main_while0b_v99 V : FVec Ideal S6x32 .f32) = rowOf V from rfl]
  generalize lowOf V = L
  generalize gramOf V = G
  generalize rowOf V = R
  pointwise
  simp only [sel_eq (Fin.isLt _) hj, ← Fin.ext_iff (b := ⟨j, hj⟩)]
  rw [Finset.sum_ite_eq' Finset.univ (⟨j, hj⟩ : Fin 32), if_pos (Finset.mem_univ _)]

theorem root_apply (h : At j V) (hj : j < 32) (b : Fin 6) :
    rootOf V (ix1 b) = Ideal.sqrt (restOf V (ix2 b ⟨j, hj⟩)) := by
  unfold rootOf res_main_while0b_v112
  rw [h.nums, h.count]
  simp only [id_eq]
  rw [show (res_main_while0b_v106 V : FVec Ideal S6x32 .f32) = restOf V from rfl]
  generalize restOf V = R
  pointwise
  simp only [sel_eq (Fin.isLt _) hj, ← Fin.ext_iff (b := ⟨j, hj⟩)]
  rw [Finset.sum_ite_eq' Finset.univ (⟨j, hj⟩ : Fin 32), if_pos (Finset.mem_univ _)]

theorem low_step (h : At j V) (hj : j < 32) (b : Fin 6) (i k : Fin 32) :
    lowOf (STEP V) (ix3 b i k) = if (k : ℕ) = j then
      (if j ≤ (i : ℕ) then Ideal.div (restOf V (ix2 b i)) (rootOf V (ix1 b)) else 0) else lowOf V (ix3 b i k) := by
  unfold lowOf
  rw [STEP_main_v40_6]
  unfold step_main_v40_6
  rw [h.cols, h.nums, h.count]
  simp only [id_eq]
  rw [show (V (Proc.devRef .tc main_v40_6) : FVec Ideal S6x32x32 .f32) = lowOf V from rfl,
    show (res_main_while0b_v106 V : FVec Ideal S6x32 .f32) = restOf V from rfl,
    show (res_main_while0b_v112 V : FVec Ideal S6 .f32) = rootOf V from rfl]
  generalize lowOf V = L
  generalize restOf V = R
  generalize rootOf V = P
  pointwise
  simp only [sel_eq (Fin.isLt _) hj, sel_ge (Fin.isLt _) hj]

theorem inv_step (h : At j V) (hj : j < 32) (b : Fin 6) (i t : Fin 32) :
    invOf (STEP V) (ix3 b i t) = if (i : ℕ) = j then
      Ideal.div ((if (t : ℕ) = j then 1 else 0) - ∑ k : Fin 32, rowOf V (ix2 b k) * invOf V (ix3 b k t)) (rootOf V (ix1 b))
      else invOf V (ix3 b i t) := by
  unfold invOf
  rw [STEP_main_v40_7]
  unfold step_main_v40_7
  rw [h.rows, h.nums, h.count]
  simp only [id_eq]
  rw [show (V (Proc.devRef .tc main_v40_7) : FVec Ideal S6x32x32 .f32) = invOf V from rfl,
    show (res_main_while0b_v99 V : FVec Ideal S6x32 .f32) = rowOf V from rfl,
    show (res_main_while0b_v112 V : FVec Ideal S6 .f32) = rootOf V from rfl]
  generalize invOf V = L
  generalize rowOf V = R
  generalize rootOf V = P
  pointwise
  simp only [sel_eq (Fin.isLt _) hj]

end Cert.ReferenceIdeal.Loop
-- ==== Proof.ReferenceIdeal.Entry.lean ====
/-
What the reference holds when its loop starts: the tables of numbers, the empty squares and the six Gram matrices.
-/
module

public import proofs.«01_k».proof.Proof.ReferenceIdeal.Steps

@[expose] public section

set_option maxRecDepth 16384

noncomputable section

namespace Cert.ReferenceIdeal.Loop

open Idealize.ShloMosaic Idealize.ShloMosaic.TcCoe
open Idealize.SL Idealize.SL.RA Idealize.SL.Sem
open Cert.ReferenceIdeal.Gen Cert.ReferenceIdeal.Value
open Cert.Maths Idealize.ShloMosaic.StableHlo

variable (m : (ℓ : Loc nD τ sig) → Buf (Elt Ideal) ℓ) (c : Dev nD)

theorem entry_rows : (entryContents preI m c (Proc.devRef .tc main_v40_0) : IVec S32x1 32) = fun i => BitVec.ofNat 32 (i 0).val := by
  simp only [entryContents, afterL_cons, afterL_nil]
  after_reads_simp
  simp only [id_eq]
  funext i
  pointwise

theorem entry_cols : (entryContents preI m c (Proc.devRef .tc main_v40_1) : IVec S1x32 32) = fun i => BitVec.ofNat 32 (i 1).val := by
  simp only [entryContents, afterL_cons, afterL_nil]
  after_reads_simp
  simp only [id_eq]
  funext i
  pointwise

theorem entry_nums : (entryContents preI m c (Proc.devRef .tc main_v40_3) : IVec S32 32) = fun i => BitVec.ofNat 32 (i 0).val := by
  simp only [entryContents, afterL_cons, afterL_nil]
  after_reads_simp
  simp only [id_eq]
  funext i
  pointwise

theorem entry_count : (entryContents preI m c (Proc.devRef .tc main_v40_5) : IVec S_ 32) = fun _ => BitVec.ofNat 32 0 := by
  simp only [entryContents, afterL_cons, afterL_nil]
  after_reads_simp
  rfl

theorem entry_low : lowOf (entryContents preI m c) = fun _ => 0 := by
  unfold lowOf
  simp only [entryContents, afterL_cons, afterL_nil]
  after_reads_simp
  simp only [id_eq]
  funext i
  pointwise

theorem entry_inv : invOf (entryContents preI m c) = fun _ => 0 := by
  unfold invOf
  simp only [entryContents, afterL_cons, afterL_nil]
  after_reads_simp
  simp only [id_eq]
  funext i
  pointwise

/-- Six squares one behind the other. -/
def stack6 (x0 x1 x2 x3 x4 x5 : S1x32x32.Idx → EReal) : Box :=
  concatenate S6x32x32 0 [⟨S1x32x32, x0⟩, ⟨S1x32x32, x1⟩, ⟨S1x32x32, x2⟩, ⟨S1x32x32, x3⟩, ⟨S1x32x32, x4⟩, ⟨S1x32x32, x5⟩] concatenates_S1x32x32_S1x32x32_S1x32x32_S1x32x32_S1x32x32_S1x32x32_S6x32x32_d0

theorem stack6_apply (x0 x1 x2 x3 x4 x5 : S1x32x32.Idx → EReal) (b : Fin 6) (i k : Fin 32) :
    stack6 x0 x1 x2 x3 x4 x5 (ix3 b i k) = (![x0, x1, x2, x3, x4, x5] b) (ix3 0 i k) := by
  fin_vals b with hb
  all_goals
    unfold stack6
    obtain rfl := Fin.ext (a := b) (b := ⟨_, by decide⟩) hb
    pointwise
    try rfl

/-- The small diagonal term. -/
def small : Box :=
  broadcastInDim S6x32x32 ![0, 1, 2] bcast_S1x32x32_S6x32x32_0_1_2
    (broadcastInDim S1x32x32 ![1, 2] bcast_S32x32_S1x32x32_1_2
      (mulf (F := Ideal) (φ := .f32) (broadcastInDim S32x32 ![] bcast_S_S32x32 (constant S_ .f32 0x38D1B717#32))
        (uitofp .f32
          (cmpi .eq (addi (iotaInDim S32x32 32 0) (broadcastInDim S32x32 ![] bcast_S_S32x32 (constantI S_ 32 0#32)))
            (iotaInDim S32x32 32 1)))))

theorem small_apply (b : Fin 6) (i k : Fin 32) :
    small (ix3 b i k) = Ideal.ofBits .f32 0x38D1B717#32 * (if i = k then 1 else 0) := by
  unfold small
  pointwise
  congr 1
  by_cases h : i = k
  · subst h
    rw [if_pos rfl]
    have : IntOp.cmpi CmpIPredicate.eq (IntOp.addi (BitVec.ofNat 32 ↑i) 0#32) (BitVec.ofNat 32 ↑i) = 1#1 := by
      simp [IntOp.cmpi, IntOp.addi]
    rw [this]
    simp [FloatOps.uitofp]
  · rw [if_neg h]
    have h1 : ¬ (i : ℕ) = (k : ℕ) := fun h' => h (Fin.ext h')
    have : IntOp.cmpi CmpIPredicate.eq (IntOp.addi (BitVec.ofNat 32 ↑i) 0#32) (BitVec.ofNat 32 ↑k) = 0#1 := by
      rw [IntOp.addi, BitVec.add_zero, IntOp.cmpi,
        beq_eq_false_iff_ne.2 (fun h' => h1 ((ofNat_inj i.2 k.2).1 h'))]
      rfl
    rw [this]
    simp [FloatOps.uitofp]

theorem zero_word : FloatOps.sitofp (F := Ideal) FTy.f32 0#32 = (0 : EReal) := by
  simp [FloatOps.sitofp]

/-- The Gram matrix of a 256 x 32 weight, padded to side 32. -/
def padded256x32 (w : Arr 256 32) : S1x32x32.Idx → EReal :=
  broadcastInDim S1x32x32 ![1, 2] bcast_S32x32_S1x32x32_1_2
    (pad S32x32 ![0, 0] ![0, 0] ![0, 0]
      (Host.dotGeneral (F := Ideal) (φ₁ := .f32) (φ₂ := .f32) dot_S32x256_S256x32_S32x32_1_0_0_1_n_n none (transpose S32x256 [1, 0] w transposes_S256x32_S32x256_1_0) w)
      (sitofp (F := Ideal) .f32 (constantI S_ 32 0#32)) pads_S32x32_S32x32_000_000 h_S_)

theorem padded256x32_apply (w : Arr 256 32) (i k : Fin 32) :
    padded256x32 w (ix3 0 i k) = if h : (i : ℕ) < 32 ∧ (k : ℕ) < 32 then ∑ s : Fin 256, w (ix2 s ⟨i, h.1⟩) * w (ix2 s ⟨k, h.2⟩) else 0 := by
  unfold padded256x32
  pointwise

/-- The Gram matrix of a 32 x 16 weight, padded to side 32. -/
def padded32x16 (w : Arr 32 16) : S1x32x32.Idx → EReal :=
  broadcastInDim S1x32x32 ![1, 2] bcast_S32x32_S1x32x32_1_2
    (pad S32x32 ![0, 0] ![16, 16] ![0, 0]
      (Host.dotGeneral (F := Ideal) (φ₁ := .f32) (φ₂ := .f32) dot_S16x32_S32x16_S16x16_1_0_0_1_n_n none (transpose S16x32 [1, 0] w transposes_S32x16_S16x32_1_0) w)
      (sitofp (F := Ideal) .f32 (constantI S_ 32 0#32)) pads_S16x16_S32x32_0160_0160 h_S_)

theorem padded32x16_apply (w : Arr 32 16) (i k : Fin 32) :
    padded32x16 w (ix3 0 i k) = if h : (i : ℕ) < 16 ∧ (k : ℕ) < 16 then ∑ s : Fin 32, w (ix2 s ⟨i, h.1⟩) * w (ix2 s ⟨k, h.2⟩) else 0 := by
  unfold padded32x16
  pointwise
  rw [zero_word]

/-- The Gram matrix of a 128 x 16 weight, padded to side 32. -/
def padded128x16 (w : Arr 128 16) : S1x32x32.Idx → EReal :=
  broadcastInDim S1x32x32 ![1, 2] bcast_S32x32_S1x32x32_1_2
    (pad S32x32 ![0, 0] ![16, 16] ![0, 0]
      (Host.dotGeneral (F := Ideal) (φ₁ := .f32) (φ₂ := .f32) dot_S16x128_S128x16_S16x16_1_0_0_1_n_n none (transpose S16x128 [1, 0] w transposes_S128x16_S16x128_1_0) w)
      (sitofp (F := Ideal) .f32 (constantI S_ 32 0#32)) pads_S16x16_S32x32_0160_0160 h_S_)

theorem padded128x16_apply (w : Arr 128 16) (i k : Fin 32) :
    padded128x16 w (ix3 0 i k) = if h : (i : ℕ) < 16 ∧ (k : ℕ) < 16 then ∑ s : Fin 128, w (ix2 s ⟨i, h.1⟩) * w (ix2 s ⟨k, h.2⟩) else 0 := by
  unfold padded128x16
  pointwise
  rw [zero_word]

/-- The Gram matrix of a 16 x 16 weight, padded to side 32. -/
def padded16x16 (w : Arr 16 16) : S1x32x32.Idx → EReal :=
  broadcastInDim S1x32x32 ![1, 2] bcast_S32x32_S1x32x32_1_2
    (pad S32x32 ![0, 0] ![16, 16] ![0, 0]
      (Host.dotGeneral (F := Ideal) (φ₁ := .f32) (φ₂ := .f32) dot_S16x16_S16x16_S16x16_1_0_0_1_n_n none (transpose S16x16 [1, 0] w transposes_S16x16_S16x16_1_0) w)
      (sitofp (F := Ideal) .f32 (constantI S_ 32 0#32)) pads_S16x16_S32x32_0160_0160 h_S_)

theorem padded16x16_apply (w : Arr 16 16) (i k : Fin 32) :
    padded16x16 w (ix3 0 i k) = if h : (i : ℕ) < 16 ∧ (k : ℕ) < 16 then ∑ s : Fin 16, w (ix2 s ⟨i, h.1⟩) * w (ix2 s ⟨k, h.2⟩) else 0 := by
  unfold padded16x16
  pointwise
  rw [zero_word]

theorem entry_gram : gramOf (entryContents preI m c) =
    addf (F := Ideal) (φ := .f32) (stack6 (padded256x32 (m ((c.tc : Thread nD τ).loc main_arg5))) (padded32x16 (m ((c.tc : Thread nD τ).loc main_arg6))) (padded128x16 (m ((c.tc : Thread nD τ).loc main_arg7))) (padded16x16 (m ((c.tc : Thread nD τ).loc main_arg8))) (padded16x16 (m ((c.tc : Thread nD τ).loc main_arg9))) (padded16x16 (m ((c.tc : Thread nD τ).loc main_arg10)))) small := by
  unfold gramOf
  simp only [entryContents, afterL_cons, afterL_nil]
  after_reads_simp
  change addf (F := Ideal) (φ := .f32) (stack6 (upto (hostOps0_12 (F := Ideal)) _ 6 (Proc.devRef .tc main_v18)) (upto (hostOps0_12 (F := Ideal)) _ 6 (Proc.devRef .tc main_v19)) (upto (hostOps0_12 (F := Ideal)) _ 6 (Proc.devRef .tc main_v20)) (upto (hostOps0_12 (F := Ideal)) _ 6 (Proc.devRef .tc main_v21)) (upto (hostOps0_12 (F := Ideal)) _ 6 (Proc.devRef .tc main_v22)) (upto (hostOps0_12 (F := Ideal)) _ 6 (Proc.devRef .tc main_v23))) _ = _
  after_reads_simp
  refine congrArg₂ (addf (F := Ideal) (φ := .f32)) ?_ ?_
  · congr 1
    all_goals first | rfl | skip
  · rfl

end Cert.ReferenceIdeal.Loop
-- ==== Proof.ReferenceIdeal.Loop.lean ====
/-
The reference's loop finds each Gram matrix's factor column by column and the inverse of the factor row by row.
-/
module

public import proofs.«01_k».proof.Proof.ReferenceIdeal.Steps

@[expose] public section

set_option maxRecDepth 16384

noncomputable section

namespace Cert.ReferenceIdeal.Loop

open Idealize.ShloMosaic Idealize.ShloMosaic.TcCoe
open Idealize.SL Idealize.SL.RA Idealize.SL.Sem
open Cert.ReferenceIdeal.Gen Cert.ReferenceIdeal.Value
open Cert.Maths

variable {G C Y : Fin 6 → ℕ → ℕ → ℝ}

/-- Before trip `j`: the first `j` columns of the factors and the first `j` rows of the inverses are there, the rest is zero. -/
structure Inv (G C Y : Fin 6 → ℕ → ℕ → ℝ) (j : ℕ) (V : Valuation τ sig (Elt Ideal)) : Prop where
  at_ : At j V
  gram : ∀ (b : Fin 6) (i k : Fin 32), gramOf V (ix3 b i k) = ((G b i k : ℝ) : EReal)
  low : ∀ (b : Fin 6) (i k : Fin 32), lowOf V (ix3 b i k) = (((if (k : ℕ) < j then C b i k else 0) : ℝ) : EReal)
  inv : ∀ (b : Fin 6) (i t : Fin 32), invOf V (ix3 b i t) = (((if (i : ℕ) < j then Y b i t else 0) : ℝ) : EReal)

variable {V : Valuation τ sig (Elt Ideal)} {j : ℕ}

theorem Inv.row (h : Inv G C Y j V) (hj : j < 32) (b : Fin 6) (k : Fin 32) :
    rowOf V (ix2 b k) = (((if (k : ℕ) < j then C b j k else 0) : ℝ) : EReal) := by
  rw [row_apply h.at_ hj, h.low]

theorem Inv.rest (h : Inv G C Y j V) (hF : ∀ b, Factor (G b) (C b) (Y b)) (hj : j < 32) (b : Fin 6) (i : Fin 32) :
    restOf V (ix2 b i) = ((C b i j * C b j j : ℝ) : EReal) := by
  rw [rest_apply h.at_ hj, h.gram]
  simp only [h.row hj, h.low, ← EReal.coe_mul]
  rw [coe_sum, ← EReal.coe_sub, ← (hF b).rest i j i.2 hj]
  congr 2
  rw [← sum_cut 32 j hj.le (fun k => C b i k * C b j k)]
  refine Finset.sum_congr rfl fun k _ => ?_
  split <;> simp

theorem Inv.root (h : Inv G C Y j V) (hF : ∀ b, Factor (G b) (C b) (Y b)) (hj : j < 32) (b : Fin 6) :
    rootOf V (ix1 b) = ((C b j j : ℝ) : EReal) := by
  rw [root_apply h.at_ hj, h.rest hF hj]
  exact coe_sqrt_sq ((hF b).pos j hj)

/-- One trip. -/
theorem Inv.step (h : Inv G C Y j V) (hF : ∀ b, Factor (G b) (C b) (Y b)) (hj : j < 32) : Inv G C Y (j + 1) (STEP V) where
  at_ := by
    refine ⟨?_, ?_, ?_, ?_⟩
    · rw [STEP_main_v40_0]; exact h.at_.rows
    · rw [STEP_main_v40_1]; exact h.at_.cols
    · rw [STEP_main_v40_3]; exact h.at_.nums
    · rw [STEP_main_v40_5]
      unfold step_main_v40_5
      rw [h.at_.count]
      funext i
      simp only [id_eq]
      change BitVec.ofNat 32 j + 1#32 = BitVec.ofNat 32 (j + 1)
      rw [BitVec.ofNat_add]
  gram := by
    intro b i k
    unfold gramOf
    rw [STEP_main_v40_2]
    exact h.gram b i k
  low := by
    intro b i k
    rw [low_step h.at_ hj, h.rest hF hj, h.root hF hj, coe_div _ ((hF b).pos j hj).ne', h.low]
    by_cases hk : (k : ℕ) = j
    · rw [if_pos hk, if_pos (show (k : ℕ) < j + 1 by omega), hk]
      split
      · rw [mul_div_assoc, div_self ((hF b).pos j hj).ne', mul_one]
      · rw [(hF b).tri i j (by omega)]
        rfl
    · rw [if_neg hk]
      by_cases hk' : (k : ℕ) < j
      · rw [if_pos hk', if_pos (by omega)]
      · rw [if_neg hk', if_neg (by omega)]
  inv := by
    intro b i t
    rw [inv_step h.at_ hj, h.root hF hj, h.inv]
    by_cases hi : (i : ℕ) = j
    · rw [if_pos hi, if_pos (show (i : ℕ) < j + 1 by omega), hi, ← (hF b).row j t hj t.2]
      simp only [h.row hj, h.inv, ← EReal.coe_mul]
      rw [coe_sum]
      have h1 : ∑ k : Fin 32, ((if (k : ℕ) < j then C b j k else 0) * (if (k : ℕ) < j then Y b k t else 0)) =
          ∑ k ∈ Finset.range j, C b j k * Y b k t := by
        rw [← sum_cut 32 j hj.le (fun k => C b j k * Y b k t)]
        refine Finset.sum_congr rfl fun k _ => ?_
        split <;> simp
      rw [h1]
      have h2 : (if (t : ℕ) = j then (1 : EReal) else 0) = (((if j = (t : ℕ) then 1 else 0) : ℝ) : EReal) := by
        by_cases ht : (t : ℕ) = j
        · rw [if_pos ht, if_pos ht.symm, EReal.coe_one]
        · rw [if_neg ht, if_neg (Ne.symm ht), EReal.coe_zero]
      rw [h2, ← EReal.coe_sub, coe_div _ ((hF b).pos j hj).ne']
    · rw [if_neg hi]
      by_cases hi' : (i : ℕ) < j
      · rw [if_pos hi', if_pos (by omega)]
      · rw [if_neg hi', if_neg (by omega)]

/-- All trips. -/
theorem Inv.all (h : Inv G C Y 0 V) (hF : ∀ b, Factor (G b) (C b) (Y b)) : ∀ k, k ≤ 32 → Inv G C Y k (STEP^[k] V)
  | 0, _ => h
  | k + 1, hk => by
    rw [Function.iterate_succ_apply']
    exact (Inv.all h hF k (by omega)).step hF (by omega)

/-- After the loop the inverses are complete. -/
theorem Inv.last (h : Inv G C Y 0 V) (hF : ∀ b, Factor (G b) (C b) (Y b)) (b : Fin 6) (i t : Fin 32) :
    invOf (STEP^[32] V) (ix3 b i t) = ((Y b i t : ℝ) : EReal) := by
  rw [(h.all hF 32 le_rfl).inv, if_pos i.2]

end Cert.ReferenceIdeal.Loop
-- ==== Proof.ReferenceIdeal.Outputs.lean ====
/-
The reference's results as matrices of extended reals, in the inverses its loop leaves.
-/
module

public import proofs.«01_k».proof.Proof.ReferenceIdeal.Steps

@[expose] public section

set_option maxRecDepth 16384

noncomputable section

namespace Cert.ReferenceIdeal.Loop

open Idealize.ShloMosaic Idealize.ShloMosaic.TcCoe
open Idealize.SL Idealize.SL.RA Idealize.SL.Sem
open Cert.ReferenceIdeal.Gen Cert.ReferenceIdeal.Value
open Cert.Maths

/-- A weight times the transpose of the leading block of one inverse. -/
def times {r q : ℕ} (hq : q ≤ 32) (w : Arr r q) (I : Box) (b : Fin 6) : Arr r q :=
  mul w fun i => I (ix3 b ⟨(i 1).val, lt_of_lt_of_le (i 1).isLt hq⟩ ⟨(i 0).val, lt_of_lt_of_le (i 0).isLt hq⟩)

theorem dot10000x10000x16 (A : Arr 10000 10000) (B : Arr 10000 16) :
    Host.dotGeneral (F := Ideal) (φ₁ := .f32) (φ₂ := .f32) dot_S10000x10000_S10000x16_S10000x16_1_0_0_1_n_n none A B = mul A B := by
  funext i
  pointwise [mul]

theorem dot10000x10000x32 (A : Arr 10000 10000) (B : Arr 10000 32) :
    Host.dotGeneral (F := Ideal) (φ₁ := .f32) (φ₂ := .f32) dot_S10000x10000_S10000x32_S10000x32_1_0_0_1_n_n none A B = mul A B := by
  funext i
  pointwise [mul]

theorem dot10000x32x16 (A : Arr 10000 32) (B : Arr 32 16) :
    Host.dotGeneral (F := Ideal) (φ₁ := .f32) (φ₂ := .f32) dot_S10000x32_S32x16_S10000x16_1_0_0_1_n_n none A B = mul A B := by
  funext i
  pointwise [mul]

theorem dot10000x16x16 (A : Arr 10000 16) (B : Arr 16 16) :
    Host.dotGeneral (F := Ideal) (φ₁ := .f32) (φ₂ := .f32) dot_S10000x16_S16x16_S10000x16_1_0_0_1_n_n none A B = mul A B := by
  funext i
  pointwise [mul]

theorem dot10000x256x32 (A : Arr 10000 256) (B : Arr 256 32) :
    Host.dotGeneral (F := Ideal) (φ₁ := .f32) (φ₂ := .f32) dot_S10000x256_S256x32_S10000x32_1_0_0_1_n_n none A B = mul A B := by
  funext i
  pointwise [mul]

theorem dot10000x128x16 (A : Arr 10000 128) (B : Arr 128 16) :
    Host.dotGeneral (F := Ideal) (φ₁ := .f32) (φ₂ := .f32) dot_S10000x128_S128x16_S10000x16_1_0_0_1_n_n none A B = mul A B := by
  funext i
  pointwise [mul]

theorem times0 (w : Arr 256 32) (I : Box) :
    Host.dotGeneral (F := Ideal) (φ₁ := .f32) (φ₂ := .f32) dot_S256x32_S32x32_S256x32_1_0_0_1_n_n none w
      (transpose S32x32 [1, 0] (shapeCast _ (extractStridedSlice S1x32x32 ![0, 0, 0] I slices_S6x32x32_S1x32x32_0_0_0) shapeCasts_S1x32x32_S32x32) transposes_S32x32_S32x32_1_0) =
      times (by decide) w I 0 := by
  funext i
  pointwise [mul, times]
  try rfl

theorem times1 (w : Arr 32 16) (I : Box) :
    Host.dotGeneral (F := Ideal) (φ₁ := .f32) (φ₂ := .f32) dot_S32x16_S16x16_S32x16_1_0_0_1_n_n none w
      (transpose S16x16 [1, 0] (shapeCast _ (extractStridedSlice S1x16x16 ![1, 0, 0] I slices_S6x32x32_S1x16x16_1_0_0) shapeCasts_S1x16x16_S16x16) transposes_S16x16_S16x16_1_0) =
      times (by decide) w I 1 := by
  funext i
  pointwise [mul, times]
  try rfl

theorem times2 (w : Arr 128 16) (I : Box) :
    Host.dotGeneral (F := Ideal) (φ₁ := .f32) (φ₂ := .f32) dot_S128x16_S16x16_S128x16_1_0_0_1_n_n none w
      (transpose S16x16 [1, 0] (shapeCast _ (extractStridedSlice S1x16x16 ![2, 0, 0] I slices_S6x32x32_S1x16x16_2_0_0) shapeCasts_S1x16x16_S16x16) transposes_S16x16_S16x16_1_0) =
      times (by decide) w I 2 := by
  funext i
  pointwise [mul, times]
  try rfl

theorem times3 (w : Arr 16 16) (I : Box) :
    Host.dotGeneral (F := Ideal) (φ₁ := .f32) (φ₂ := .f32) dot_S16x16_S16x16_S16x16_1_0_0_1_n_n none w
      (transpose S16x16 [1, 0] (shapeCast _ (extractStridedSlice S1x16x16 ![3, 0, 0] I slices_S6x32x32_S1x16x16_3_0_0) shapeCasts_S1x16x16_S16x16) transposes_S16x16_S16x16_1_0) =
      times (by decide) w I 3 := by
  funext i
  pointwise [mul, times]
  try rfl

theorem times4 (w : Arr 16 16) (I : Box) :
    Host.dotGeneral (F := Ideal) (φ₁ := .f32) (φ₂ := .f32) dot_S16x16_S16x16_S16x16_1_0_0_1_n_n none w
      (transpose S16x16 [1, 0] (shapeCast _ (extractStridedSlice S1x16x16 ![4, 0, 0] I slices_S6x32x32_S1x16x16_4_0_0) shapeCasts_S1x16x16_S16x16) transposes_S16x16_S16x16_1_0) =
      times (by decide) w I 4 := by
  funext i
  pointwise [mul, times]
  try rfl

theorem times5 (w : Arr 16 16) (I : Box) :
    Host.dotGeneral (F := Ideal) (φ₁ := .f32) (φ₂ := .f32) dot_S16x16_S16x16_S16x16_1_0_0_1_n_n none w
      (transpose S16x16 [1, 0] (shapeCast _ (extractStridedSlice S1x16x16 ![5, 0, 0] I slices_S6x32x32_S1x16x16_5_0_0) shapeCasts_S1x16x16_S16x16) transposes_S16x16_S16x16_1_0) =
      times (by decide) w I 5 := by
  funext i
  pointwise [mul, times]
  try rfl

theorem tanh_eq {b : ℕ} (A : Arr 10000 b) : Host.tanh (F := Ideal) (φ := .f32) A = tanhOf A := rfl

theorem plus_eq (A B : Arr 10000 16) : addf (F := Ideal) (φ := .f32) A B = plus A B := rfl

theorem centred_eq (A : Arr 10000 16) :
    subf (F := Ideal) (φ := .f32) A (broadcastInDim S10000x16 ![0, 1] bcast_S1x16_S10000x16_0_1 (broadcastInDim S1x16 ![1] bcast_S16_S1x16_1
      (Host.divf (Host.reduceAdd A (constant S_ .f32 0x00000000#32) reducesTo_S10000x16_S16_d0 h_S_) (broadcastInDim S16 ![] bcast_S_S16 (constant S_ .f32 0x461C4000#32))))) =
      centred A := by
  funext i
  pointwise [centred]

variable (V : Valuation τ sig (Elt Ideal))

theorem out82_eq : (out_main_v82 V : S10000x16.Idx → EReal) =
    centred (layers (V (Proc.devRef .tc main_arg0) : Arr 10000 256) (V (Proc.devRef .tc main_arg2) : Arr 10000 10000) (times (by decide) (V (Proc.devRef .tc main_arg5) : Arr 256 32) (invOf V) 0) (times (by decide) (V (Proc.devRef .tc main_arg6) : Arr 32 16) (invOf V) 1)) := by
  unfold out_main_v82 layers
  generalize (V (Proc.devRef .tc main_arg0)) = x0
  generalize (V (Proc.devRef .tc main_arg2)) = x2
  generalize (V (Proc.devRef .tc main_arg5)) = x5
  generalize (V (Proc.devRef .tc main_arg6)) = x6
  generalize hI : invOf V = I
  change V (Proc.devRef .tc main_v40_7) = I at hI
  rw [hI]
  erw [times0, times1, dot10000x256x32, dot10000x10000x32, tanh_eq, dot10000x32x16, dot10000x10000x16, tanh_eq, centred_eq]

theorem out88_eq : (out_main_v88 V : S10000x16.Idx → EReal) =
    centred (layers (V (Proc.devRef .tc main_arg1) : Arr 10000 128) (V (Proc.devRef .tc main_arg3) : Arr 10000 10000) (times (by decide) (V (Proc.devRef .tc main_arg7) : Arr 128 16) (invOf V) 2) (times (by decide) (V (Proc.devRef .tc main_arg8) : Arr 16 16) (invOf V) 3)) := by
  unfold out_main_v88 layers
  generalize (V (Proc.devRef .tc main_arg1)) = x1
  generalize (V (Proc.devRef .tc main_arg3)) = x3
  generalize (V (Proc.devRef .tc main_arg7)) = x7
  generalize (V (Proc.devRef .tc main_arg8)) = x8
  generalize hI : invOf V = I
  change V (Proc.devRef .tc main_v40_7) = I at hI
  rw [hI]
  erw [times2, times3, dot10000x128x16, dot10000x10000x16, tanh_eq, dot10000x16x16, dot10000x10000x16, tanh_eq, centred_eq]

theorem out93_eq : (out_main_v93 V : S10000x16.Idx → EReal) =
    tanhOf (mul (V (Proc.devRef .tc main_arg4) : Arr 10000 10000) (plus
      (mul (out_main_v82 V : Arr 10000 16) (times (by decide) (V (Proc.devRef .tc main_arg9) : Arr 16 16) (invOf V) 4))
      (mul (out_main_v88 V : Arr 10000 16) (times (by decide) (V (Proc.devRef .tc main_arg10) : Arr 16 16) (invOf V) 5)))) := by
  have h : out_main_v93 V = Host.tanh (F := Ideal) (φ := .f32) (Host.dotGeneral (F := Ideal) (φ₁ := .f32) (φ₂ := .f32) dot_S10000x10000_S10000x16_S10000x16_1_0_0_1_n_n none (V (Proc.devRef .tc main_arg4))
      (addf (F := Ideal) (φ := .f32) (Host.dotGeneral (F := Ideal) (φ₁ := .f32) (φ₂ := .f32) dot_S10000x16_S16x16_S10000x16_1_0_0_1_n_n none (out_main_v82 V) (Host.dotGeneral (F := Ideal) (φ₁ := .f32) (φ₂ := .f32) dot_S16x16_S16x16_S16x16_1_0_0_1_n_n none (V (Proc.devRef .tc main_arg9)) (transpose S16x16 [1, 0] (shapeCast _ (extractStridedSlice S1x16x16 ![4, 0, 0] (V (Proc.devRef .tc main_v40_7)) slices_S6x32x32_S1x16x16_4_0_0) shapeCasts_S1x16x16_S16x16) transposes_S16x16_S16x16_1_0))) (Host.dotGeneral (F := Ideal) (φ₁ := .f32) (φ₂ := .f32) dot_S10000x16_S16x16_S10000x16_1_0_0_1_n_n none (out_main_v88 V) (Host.dotGeneral (F := Ideal) (φ₁ := .f32) (φ₂ := .f32) dot_S16x16_S16x16_S16x16_1_0_0_1_n_n none (V (Proc.devRef .tc main_arg10)) (transpose S16x16 [1, 0] (shapeCast _ (extractStridedSlice S1x16x16 ![5, 0, 0] (V (Proc.devRef .tc main_v40_7)) slices_S6x32x32_S1x16x16_5_0_0) shapeCasts_S1x16x16_S16x16) transposes_S16x16_S16x16_1_0))))) := rfl
  rw [h]
  generalize out_main_v82 V = P
  generalize out_main_v88 V = Q
  generalize (V (Proc.devRef .tc main_arg4)) = x4
  generalize (V (Proc.devRef .tc main_arg9)) = x9
  generalize (V (Proc.devRef .tc main_arg10)) = x10
  generalize hI : invOf V = I
  change V (Proc.devRef .tc main_v40_7) = I at hI
  rw [hI]
  erw [times4, times5, dot10000x16x16, dot10000x16x16, plus_eq, dot10000x10000x16, tanh_eq]

end Cert.ReferenceIdeal.Loop
-- ==== Proof.Gram.lean ====
/-
The Gram matrix of a real weight, padded to side 32, with a small positive diagonal term: it has a factor.
-/
module

public import proofs.«01_k».proof.Proof.Cholesky

@[expose] public section

noncomputable section

namespace Cert.Maths

/-- A weight's row with zeros past its end. -/
def wide {r q : ℕ} (w : Fin r → Fin q → ℝ) (s : Fin r) (i : ℕ) : ℝ := if h : i < q then w s ⟨i, h⟩ else 0

/-- The padded Gram matrix with the diagonal term. -/
def gramReal {r q : ℕ} (e : ℝ) (w : Fin r → Fin q → ℝ) (i k : ℕ) : ℝ :=
  ∑ s, wide w s i * wide w s k + e * (if i = k then 1 else 0)

variable {r q : ℕ} (w : Fin r → Fin q → ℝ)

theorem sum_wide (i k : ℕ) : ∑ s, wide w s i * wide w s k =
    if h : i < q ∧ k < q then ∑ s, w s ⟨i, h.1⟩ * w s ⟨k, h.2⟩ else 0 := by
  unfold wide
  by_cases hi : i < q
  · by_cases hk : k < q
    · simp [hi, hk]
    · simp [hk]
  · simp [hi]

theorem quad_gram (e : ℝ) (x : Fin 32 → ℝ) :
    quad (fun i j => gramReal e w i j) x = ∑ s, (∑ i : Fin 32, x i * wide w s i) ^ 2 + e * ∑ i, x i ^ 2 := by
  have h1 : ∀ i j : Fin 32, x i * gramReal e w i j * x j =
      (∑ s, (x i * wide w s i) * (x j * wide w s j)) + (if i = j then e * (x i * x j) else 0) := by
    intro i j
    unfold gramReal
    rw [mul_add, add_mul, Finset.mul_sum, Finset.sum_mul]
    congr 1
    · exact Finset.sum_congr rfl fun s _ => by ring
    · by_cases hij : i = j
      · rw [if_pos hij, if_pos (by rw [hij])]
        ring
      · rw [if_neg hij, if_neg (fun h => hij (Fin.ext h))]
        ring
  unfold quad
  simp only [h1, Finset.sum_add_distrib]
  congr 1
  · have h2 : ∀ s, (∑ i : Fin 32, x i * wide w s i) ^ 2 = ∑ i : Fin 32, ∑ j : Fin 32, (x i * wide w s i) * (x j * wide w s j) := by
      intro s
      rw [sq, Finset.sum_mul_sum]
    simp only [h2]
    refine Eq.trans (Finset.sum_congr rfl fun i _ => Finset.sum_comm) ?_
    rw [Finset.sum_comm]
  · rw [Finset.mul_sum]
    refine Finset.sum_congr rfl fun i _ => ?_
    rw [Finset.sum_ite_eq Finset.univ i, if_pos (Finset.mem_univ _), sq]

theorem gram_positive {e : ℝ} (he : 0 < e) : Positive (fun i j : Fin 32 => gramReal e w i j) := by
  refine ⟨fun i j => ?_, fun x hx => ?_⟩
  · change gramReal e w i j = gramReal e w j i
    unfold gramReal
    have h : (if (i : ℕ) = j then (1 : ℝ) else 0) = if (j : ℕ) = i then 1 else 0 := by simp only [eq_comm]
    rw [h]
    congr 1
    exact Finset.sum_congr rfl fun s _ => mul_comm (wide w s i) (wide w s j)
  · rw [quad_gram]
    obtain ⟨i, hi⟩ := Function.ne_iff.1 hx
    have h1 : 0 < ∑ i, x i ^ 2 :=
      Finset.sum_pos' (fun j _ => sq_nonneg _) ⟨i, Finset.mem_univ _, by have : x i ≠ 0 := hi; positivity⟩
    have h2 : 0 ≤ ∑ s, (∑ i : Fin 32, x i * wide w s i) ^ 2 := Finset.sum_nonneg fun s _ => sq_nonneg _
    have h3 := mul_pos he h1
    linarith

/-- The padded Gram matrix has a factor with an inverse. -/
theorem exists_gram_factor {e : ℝ} (he : 0 < e) : ∃ C Y, Factor (gramReal e w) C Y := by
  obtain ⟨C, Y, h⟩ := exists_factor _ (gram_positive w he)
  refine ⟨C, Y, h.tri, h.pos, fun i hi j hj => ?_, h.inv⟩
  rw [h.gram i hi j hj]
  exact ext_fin _ ⟨i, hi⟩ ⟨j, hj⟩

end Cert.Maths
-- ==== Proof.Weights.lean ====
/-
A weight of real numbers: what it is for its entries to be real, and its Gram matrix as a real matrix.
-/
module

public import proofs.«01_k».proof.Proof.Scalars
public import proofs.«01_k».proof.Proof.Gram
public import proofs.«01_k».proof.Proof.Matrix

@[expose] public section

noncomputable section

namespace Cert.Maths

open Idealize.ShloMosaic

/-- A value whose magnitude is below plus infinity is real. -/
theorem real_of_lt (x : Ideal .f32)
    (h : FloatOps.cmpf .olt (FloatOps.hostAbsf x) (FloatOps.ofBits (F := Ideal) .f32 0x7F800000#32) = 1#1) :
    ∃ y : ℝ, (x : EReal) = (y : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  refine ⟨EReal.toReal x, (EReal.coe_toReal hlt.1.ne ?_).symm⟩
  intro hb
  rw [hb] at hlt
  simp at hlt

/-- An array whose every magnitude is below plus infinity holds real numbers. -/
theorem real_weight {r q : ℕ} (w : Arr r q)
    (h : ∀ i, FloatOps.cmpf .olt (FloatOps.hostAbsf (w i)) (FloatOps.ofBits (F := Ideal) .f32 0x7F800000#32) = 1#1) :
    ∃ x : Fin r → Fin q → ℝ, ∀ s i, w (ix2 s i) = ((x s i : ℝ) : EReal) := by
  choose x hx using fun s i => real_of_lt (w (ix2 s i)) (h (ix2 s i))
  exact ⟨x, hx⟩

variable {r q : ℕ} {w : Arr r q} {x : Fin r → Fin q → ℝ} {e : ℝ}

/-- The diagonal term. -/
theorem diagonal_coe (he : Ideal.ofBits .f32 0x38D1B717#32 = (e : EReal)) {n : ℕ} (i k : Fin n) :
    Ideal.ofBits .f32 0x38D1B717#32 * (if i = k then 1 else 0) = ((e * (if (i : ℕ) = k then 1 else 0) : ℝ) : EReal) := by
  rw [he]
  by_cases h : i = k
  · rw [if_pos h, if_pos (by rw [h]), mul_one, mul_one]
  · rw [if_neg h, if_neg (fun hh => h (Fin.ext hh)), mul_zero, mul_zero, EReal.coe_zero]

/-- The products of two columns. -/
theorem columns_coe (hw : ∀ s i, w (ix2 s i) = ((x s i : ℝ) : EReal)) (i k : Fin q) :
    ∑ s, w (ix2 s i) * w (ix2 s k) = ((∑ s, x s i * x s k : ℝ) : EReal) := by
  rw [← coe_sum]
  exact Finset.sum_congr rfl fun s _ => by rw [hw, hw, EReal.coe_mul]

/-- The Gram matrix with the diagonal term, on the weight's own side. -/
theorem gram_coe (he : Ideal.ofBits .f32 0x38D1B717#32 = (e : EReal)) (hw : ∀ s i, w (ix2 s i) = ((x s i : ℝ) : EReal)) (i k : Fin q) :
    ∑ s, w (ix2 s i) * w (ix2 s k) + Ideal.ofBits .f32 0x38D1B717#32 * (if i = k then 1 else 0) = ((gramReal e x i k : ℝ) : EReal) := by
  rw [diagonal_coe he, columns_coe hw, ← EReal.coe_add]
  unfold gramReal
  rw [sum_wide, dif_pos ⟨i.2, k.2⟩]

/-- The Gram matrix padded to side 32. -/
theorem padded_coe (he : Ideal.ofBits .f32 0x38D1B717#32 = (e : EReal)) (hw : ∀ s i, w (ix2 s i) = ((x s i : ℝ) : EReal)) (i k : Fin 32) :
    (if h : (i : ℕ) < q ∧ (k : ℕ) < q then ∑ s, w (ix2 s ⟨i, h.1⟩) * w (ix2 s ⟨k, h.2⟩) else 0) +
      Ideal.ofBits .f32 0x38D1B717#32 * (if i = k then 1 else 0) = ((gramReal e x i k : ℝ) : EReal) := by
  rw [diagonal_coe he]
  unfold gramReal
  rw [sum_wide]
  by_cases h : (i : ℕ) < q ∧ (k : ℕ) < q
  · rw [dif_pos h, dif_pos h, columns_coe hw, ← EReal.coe_add]
  · rw [dif_neg h, dif_neg h, ← EReal.coe_zero, ← EReal.coe_add]

end Cert.Maths
-- ==== Proof.ReferenceIdeal.Orthonormal.lean ====
/-
The reference's loop begun from real weights: the inverses it ends with.
-/
module

public import proofs.«01_k».proof.Proof.ReferenceIdeal.Entry
public import proofs.«01_k».proof.Proof.ReferenceIdeal.Loop
public import proofs.«01_k».proof.Proof.ReferenceIdeal.Outputs
public import proofs.«01_k».proof.Proof.Weights

@[expose] public section

set_option maxRecDepth 16384

noncomputable section

namespace Cert.ReferenceIdeal.Loop

open Idealize.ShloMosaic Idealize.ShloMosaic.TcCoe
open Idealize.SL Idealize.SL.RA Idealize.SL.Sem
open Cert.ReferenceIdeal.Gen Cert.ReferenceIdeal.Value
open Idealize.ShloMosaic.StableHlo
open Cert.Maths

/-- The six padded Gram matrices. -/
def grams (e : ℝ) (x5 : Fin 256 → Fin 32 → ℝ) (x6 : Fin 32 → Fin 16 → ℝ) (x7 : Fin 128 → Fin 16 → ℝ) (x8 : Fin 16 → Fin 16 → ℝ) (x9 : Fin 16 → Fin 16 → ℝ) (x10 : Fin 16 → Fin 16 → ℝ) : Fin 6 → ℕ → ℕ → ℝ :=
  ![gramReal e x5, gramReal e x6, gramReal e x7, gramReal e x8, gramReal e x9, gramReal e x10]

/-- Each has a factor with an inverse. -/
theorem exists_factors {e : ℝ} (he : 0 < e) (x5 : Fin 256 → Fin 32 → ℝ) (x6 : Fin 32 → Fin 16 → ℝ) (x7 : Fin 128 → Fin 16 → ℝ) (x8 : Fin 16 → Fin 16 → ℝ) (x9 : Fin 16 → Fin 16 → ℝ) (x10 : Fin 16 → Fin 16 → ℝ) :
    ∃ C Y : Fin 6 → ℕ → ℕ → ℝ, ∀ b, Factor (grams e x5 x6 x7 x8 x9 x10 b) (C b) (Y b) := by
  have h : ∀ b, ∃ C Y, Factor (grams e x5 x6 x7 x8 x9 x10 b) C Y := by
    intro b
    fin_vals b with hb
    all_goals
      obtain rfl := Fin.ext (a := b) (b := ⟨_, by decide⟩) hb
      exact exists_gram_factor _ he
  choose C Y hF using h
  exact ⟨C, Y, hF⟩

variable (m : (ℓ : Loc nD τ sig) → Buf (Elt Ideal) ℓ) (c : Dev nD)

/-- What holds of the contents at the loop's entry. -/
theorem entry_inv_holds {e : ℝ} (he : Ideal.ofBits .f32 0x38D1B717#32 = (e : EReal)) {x5 : Fin 256 → Fin 32 → ℝ} {x6 : Fin 32 → Fin 16 → ℝ} {x7 : Fin 128 → Fin 16 → ℝ} {x8 : Fin 16 → Fin 16 → ℝ} {x9 : Fin 16 → Fin 16 → ℝ} {x10 : Fin 16 → Fin 16 → ℝ}
    (h5 : ∀ s i, (m ((c.tc : Thread nD τ).loc main_arg5) : Arr 256 32) (ix2 s i) = ((x5 s i : ℝ) : EReal))
    (h6 : ∀ s i, (m ((c.tc : Thread nD τ).loc main_arg6) : Arr 32 16) (ix2 s i) = ((x6 s i : ℝ) : EReal))
    (h7 : ∀ s i, (m ((c.tc : Thread nD τ).loc main_arg7) : Arr 128 16) (ix2 s i) = ((x7 s i : ℝ) : EReal))
    (h8 : ∀ s i, (m ((c.tc : Thread nD τ).loc main_arg8) : Arr 16 16) (ix2 s i) = ((x8 s i : ℝ) : EReal))
    (h9 : ∀ s i, (m ((c.tc : Thread nD τ).loc main_arg9) : Arr 16 16) (ix2 s i) = ((x9 s i : ℝ) : EReal))
    (h10 : ∀ s i, (m ((c.tc : Thread nD τ).loc main_arg10) : Arr 16 16) (ix2 s i) = ((x10 s i : ℝ) : EReal))
    (C Y : Fin 6 → ℕ → ℕ → ℝ) : Inv (grams e x5 x6 x7 x8 x9 x10) C Y 0 (entryContents preI m c) := by
  refine ⟨⟨entry_rows m c, entry_cols m c, entry_nums m c, entry_count m c⟩, fun b i k => ?_, fun b i k => ?_, fun b i t => ?_⟩
  · rw [entry_gram]
    have h : ∀ X : Box, addf (F := Ideal) (φ := .f32) X small (ix3 b i k) = X (ix3 b i k) + small (ix3 b i k) := fun _ => rfl
    rw [h, stack6_apply, small_apply]
    fin_vals b with hb
    · obtain rfl := Fin.ext (a := b) (b := ⟨_, by decide⟩) hb
      exact (congrArg (· + Ideal.ofBits .f32 0x38D1B717#32 * (if i = k then 1 else 0)) (padded256x32_apply _ i k)).trans (padded_coe he h5 i k)
    · obtain rfl := Fin.ext (a := b) (b := ⟨_, by decide⟩) hb
      exact (congrArg (· + Ideal.ofBits .f32 0x38D1B717#32 * (if i = k then 1 else 0)) (padded32x16_apply _ i k)).trans (padded_coe he h6 i k)
    · obtain rfl := Fin.ext (a := b) (b := ⟨_, by decide⟩) hb
      exact (congrArg (· + Ideal.ofBits .f32 0x38D1B717#32 * (if i = k then 1 else 0)) (padded128x16_apply _ i k)).trans (padded_coe he h7 i k)
    · obtain rfl := Fin.ext (a := b) (b := ⟨_, by decide⟩) hb
      exact (congrArg (· + Ideal.ofBits .f32 0x38D1B717#32 * (if i = k then 1 else 0)) (padded16x16_apply _ i k)).trans (padded_coe he h8 i k)
    · obtain rfl := Fin.ext (a := b) (b := ⟨_, by decide⟩) hb
      exact (congrArg (· + Ideal.ofBits .f32 0x38D1B717#32 * (if i = k then 1 else 0)) (padded16x16_apply _ i k)).trans (padded_coe he h9 i k)
    · obtain rfl := Fin.ext (a := b) (b := ⟨_, by decide⟩) hb
      exact (congrArg (· + Ideal.ofBits .f32 0x38D1B717#32 * (if i = k then 1 else 0)) (padded16x16_apply _ i k)).trans (padded_coe he h10 i k)
  · rw [entry_low, if_neg (Nat.not_lt_zero _), EReal.coe_zero]
  · rw [entry_inv, if_neg (Nat.not_lt_zero _), EReal.coe_zero]

/-- A weight times the transpose of its factor's inverse. -/
theorem times_value {G C Y : Fin 6 → ℕ → ℕ → ℝ} {V : Valuation τ sig (Elt Ideal)} (h : Inv G C Y 0 V) (hF : ∀ b, Factor (G b) (C b) (Y b))
    {r q : ℕ} (hq : q ≤ 32) (w : Arr r q) (b : Fin 6) :
    times hq w (invOf (STEP^[32] V)) b = mul w fun i => ((Y b (i 1).val (i 0).val : ℝ) : EReal) := by
  unfold times
  congr 1
  funext i
  exact h.last hF b _ _

end Cert.ReferenceIdeal.Loop
-- ==== Proof.Agree.lean ====
/-
The kernel and the reference, run from the same finite weights, end with the same three arrays.
-/
module

public import proofs.«01_k».proof.Defs
public import proofs.«01_k».proof.Proof.KernelIdeal.Results
public import proofs.«01_k».proof.Proof.KernelIdeal.OrthoValues
public import proofs.«01_k».proof.Proof.ReferenceIdeal.Orthonormal

@[expose] public section

set_option maxRecDepth 16384

noncomputable section

namespace Cert.Proof

open Idealize.ShloMosaic Idealize.ShloMosaic.TcCoe
open Idealize.SL Idealize.SL.RA Idealize.SL.Sem
open Idealize.ShloMosaic.StableHlo
open Cert.Maths

/-- The precondition's shape relations. -/
theorem facts_finite : Cert.Pre_finite.Facts where
  bcast_S_S256x32 := by decide
  bcast_S_S32x16 := by decide
  bcast_S_S128x16 := by decide
  bcast_S_S16x16 := by decide

/-- The kernel's normalised 256 x 32 weight, of real entries. -/
theorem ortho256x32_real {e : ℝ} (he : Ideal.ofBits .f32 0x38D1B717#32 = (e : EReal)) {w : Arr 256 32} {x : Fin 256 → Fin 32 → ℝ}
    (hw : ∀ s i, w (ix2 s i) = ((x s i : ℝ) : EReal)) {C Y : ℕ → ℕ → ℝ} (hF : Factor (gramReal e x) C Y) :
    Cert.KernelIdeal.Calls.ortho256x32 (F := Ideal) w = mul w fun i => ((Y (i 1).val (i 0).val : ℝ) : EReal) :=
  Cert.KernelIdeal.Calls.ortho256x32_value hF w fun i k => (Cert.KernelIdeal.Calls.gram256x32_apply w i k).trans (gram_coe he hw i k)

/-- The kernel's normalised 32 x 16 weight, of real entries. -/
theorem ortho32x16_real {e : ℝ} (he : Ideal.ofBits .f32 0x38D1B717#32 = (e : EReal)) {w : Arr 32 16} {x : Fin 32 → Fin 16 → ℝ}
    (hw : ∀ s i, w (ix2 s i) = ((x s i : ℝ) : EReal)) {C Y : ℕ → ℕ → ℝ} (hF : Factor (gramReal e x) C Y) :
    Cert.KernelIdeal.Calls.ortho32x16 (F := Ideal) w = mul w fun i => ((Y (i 1).val (i 0).val : ℝ) : EReal) :=
  Cert.KernelIdeal.Calls.ortho32x16_value hF w fun i k => (Cert.KernelIdeal.Calls.gram32x16_apply w i k).trans (gram_coe he hw i k)

/-- The kernel's normalised 128 x 16 weight, of real entries. -/
theorem ortho128x16_real {e : ℝ} (he : Ideal.ofBits .f32 0x38D1B717#32 = (e : EReal)) {w : Arr 128 16} {x : Fin 128 → Fin 16 → ℝ}
    (hw : ∀ s i, w (ix2 s i) = ((x s i : ℝ) : EReal)) {C Y : ℕ → ℕ → ℝ} (hF : Factor (gramReal e x) C Y) :
    Cert.KernelIdeal.Calls.ortho128x16 (F := Ideal) w = mul w fun i => ((Y (i 1).val (i 0).val : ℝ) : EReal) :=
  Cert.KernelIdeal.Calls.ortho128x16_value hF w fun i k => (Cert.KernelIdeal.Calls.gram128x16_apply w i k).trans (gram_coe he hw i k)

/-- The kernel's normalised 16 x 16 weight, of real entries. -/
theorem ortho16x16_real {e : ℝ} (he : Ideal.ofBits .f32 0x38D1B717#32 = (e : EReal)) {w : Arr 16 16} {x : Fin 16 → Fin 16 → ℝ}
    (hw : ∀ s i, w (ix2 s i) = ((x s i : ℝ) : EReal)) {C Y : ℕ → ℕ → ℝ} (hF : Factor (gramReal e x) C Y) :
    Cert.KernelIdeal.Calls.ortho16x16 (F := Ideal) w = mul w fun i => ((Y (i 1).val (i 0).val : ℝ) : EReal) :=
  Cert.KernelIdeal.Calls.ortho16x16_value hF w fun i k => (Cert.KernelIdeal.Calls.gram16x16_apply w i k).trans (gram_coe he hw i k)

/-- The six normalised weights agree: the kernel's of its arguments, the reference's of the loop's last inverses. -/
theorem weights_agree (m' : (ℓ : Loc Cert.ReferenceIdeal.nD Cert.ReferenceIdeal.τ Cert.ReferenceIdeal.sig) → Buf (Elt Ideal) ℓ) (c : Dev Cert.ReferenceIdeal.nD)
    (w5 : Arr 256 32) (e5 : (m' ((c.tc : Thread Cert.ReferenceIdeal.nD Cert.ReferenceIdeal.τ).loc Cert.ReferenceIdeal.main_arg5)) = w5) (x5 : Fin 256 → Fin 32 → ℝ) (h5 : ∀ s i, w5 (ix2 s i) = ((x5 s i : ℝ) : EReal))
    (w6 : Arr 32 16) (e6 : (m' ((c.tc : Thread Cert.ReferenceIdeal.nD Cert.ReferenceIdeal.τ).loc Cert.ReferenceIdeal.main_arg6)) = w6) (x6 : Fin 32 → Fin 16 → ℝ) (h6 : ∀ s i, w6 (ix2 s i) = ((x6 s i : ℝ) : EReal))
    (w7 : Arr 128 16) (e7 : (m' ((c.tc : Thread Cert.ReferenceIdeal.nD Cert.ReferenceIdeal.τ).loc Cert.ReferenceIdeal.main_arg7)) = w7) (x7 : Fin 128 → Fin 16 → ℝ) (h7 : ∀ s i, w7 (ix2 s i) = ((x7 s i : ℝ) : EReal))
    (w8 : Arr 16 16) (e8 : (m' ((c.tc : Thread Cert.ReferenceIdeal.nD Cert.ReferenceIdeal.τ).loc Cert.ReferenceIdeal.main_arg8)) = w8) (x8 : Fin 16 → Fin 16 → ℝ) (h8 : ∀ s i, w8 (ix2 s i) = ((x8 s i : ℝ) : EReal))
    (w9 : Arr 16 16) (e9 : (m' ((c.tc : Thread Cert.ReferenceIdeal.nD Cert.ReferenceIdeal.τ).loc Cert.ReferenceIdeal.main_arg9)) = w9) (x9 : Fin 16 → Fin 16 → ℝ) (h9 : ∀ s i, w9 (ix2 s i) = ((x9 s i : ℝ) : EReal))
    (w10 : Arr 16 16) (e10 : (m' ((c.tc : Thread Cert.ReferenceIdeal.nD Cert.ReferenceIdeal.τ).loc Cert.ReferenceIdeal.main_arg10)) = w10) (x10 : Fin 16 → Fin 16 → ℝ) (h10 : ∀ s i, w10 (ix2 s i) = ((x10 s i : ℝ) : EReal)) :
    Cert.KernelIdeal.Calls.ortho256x32 (F := Ideal) w5 = Cert.ReferenceIdeal.Loop.times (by decide) w5 (Cert.ReferenceIdeal.Loop.invOf (Cert.ReferenceIdeal.Value.STEP^[32] (entryContents Cert.ReferenceIdeal.Value.preI m' c))) 0
    ∧ Cert.KernelIdeal.Calls.ortho32x16 (F := Ideal) w6 = Cert.ReferenceIdeal.Loop.times (by decide) w6 (Cert.ReferenceIdeal.Loop.invOf (Cert.ReferenceIdeal.Value.STEP^[32] (entryContents Cert.ReferenceIdeal.Value.preI m' c))) 1
    ∧ Cert.KernelIdeal.Calls.ortho128x16 (F := Ideal) w7 = Cert.ReferenceIdeal.Loop.times (by decide) w7 (Cert.ReferenceIdeal.Loop.invOf (Cert.ReferenceIdeal.Value.STEP^[32] (entryContents Cert.ReferenceIdeal.Value.preI m' c))) 2
    ∧ Cert.KernelIdeal.Calls.ortho16x16 (F := Ideal) w8 = Cert.ReferenceIdeal.Loop.times (by decide) w8 (Cert.ReferenceIdeal.Loop.invOf (Cert.ReferenceIdeal.Value.STEP^[32] (entryContents Cert.ReferenceIdeal.Value.preI m' c))) 3
    ∧ Cert.KernelIdeal.Calls.ortho16x16 (F := Ideal) w9 = Cert.ReferenceIdeal.Loop.times (by decide) w9 (Cert.ReferenceIdeal.Loop.invOf (Cert.ReferenceIdeal.Value.STEP^[32] (entryContents Cert.ReferenceIdeal.Value.preI m' c))) 4
    ∧ Cert.KernelIdeal.Calls.ortho16x16 (F := Ideal) w10 = Cert.ReferenceIdeal.Loop.times (by decide) w10 (Cert.ReferenceIdeal.Loop.invOf (Cert.ReferenceIdeal.Value.STEP^[32] (entryContents Cert.ReferenceIdeal.Value.preI m' c))) 5 := by
  obtain ⟨e, hpos, he⟩ := bits_small
  obtain ⟨C, Y, hF⟩ := Cert.ReferenceIdeal.Loop.exists_factors hpos x5 x6 x7 x8 x9 x10
  have hI := Cert.ReferenceIdeal.Loop.entry_inv_holds m' c he (x5 := x5) (x6 := x6) (x7 := x7) (x8 := x8) (x9 := x9) (x10 := x10)
    (fun s i => (congrFun e5 (ix2 s i)).trans (h5 s i))
    (fun s i => (congrFun e6 (ix2 s i)).trans (h6 s i))
    (fun s i => (congrFun e7 (ix2 s i)).trans (h7 s i))
    (fun s i => (congrFun e8 (ix2 s i)).trans (h8 s i))
    (fun s i => (congrFun e9 (ix2 s i)).trans (h9 s i))
    (fun s i => (congrFun e10 (ix2 s i)).trans (h10 s i)) C Y
  have g5 := (ortho256x32_real he h5 (hF 0)).trans (Cert.ReferenceIdeal.Loop.times_value hI hF (by decide) w5 0).symm
  have g6 := (ortho32x16_real he h6 (hF 1)).trans (Cert.ReferenceIdeal.Loop.times_value hI hF (by decide) w6 1).symm
  have g7 := (ortho128x16_real he h7 (hF 2)).trans (Cert.ReferenceIdeal.Loop.times_value hI hF (by decide) w7 2).symm
  have g8 := (ortho16x16_real he h8 (hF 3)).trans (Cert.ReferenceIdeal.Loop.times_value hI hF (by decide) w8 3).symm
  have g9 := (ortho16x16_real he h9 (hF 4)).trans (Cert.ReferenceIdeal.Loop.times_value hI hF (by decide) w9 4).symm
  have g10 := (ortho16x16_real he h10 (hF 5)).trans (Cert.ReferenceIdeal.Loop.times_value hI hF (by decide) w10 5).symm
  exact ⟨g5, g6, g7, g8, g9, g10⟩

theorem algebraic : Cert.algebraic_KernelIdeal_ReferenceIdeal_pre_finite (hKernelIdeal := Cert.KernelIdeal.Gen.facts) (hReferenceIdeal := Cert.ReferenceIdeal.Gen.facts)
    (hPre_finite := facts_finite) := by
  intro m g m' g' hpre hargs
  have hv : ∀ c : Dev Cert.KernelIdeal.nD,
      Cert.ReferenceIdeal.Value.out_main_v93 (Cert.ReferenceIdeal.Value.STEP^[32] (entryContents Cert.ReferenceIdeal.Value.preI m' c)) = Cert.KernelIdeal.Calls.W7 m g c (Proc.devRef .tc Cert.KernelIdeal.main_v6)
      ∧ Cert.ReferenceIdeal.Value.out_main_v82 (Cert.ReferenceIdeal.Value.STEP^[32] (entryContents Cert.ReferenceIdeal.Value.preI m' c)) = Cert.KernelIdeal.Calls.W7 m g c (Proc.devRef .tc Cert.KernelIdeal.main_v5_0)
      ∧ Cert.ReferenceIdeal.Value.out_main_v88 (Cert.ReferenceIdeal.Value.STEP^[32] (entryContents Cert.ReferenceIdeal.Value.preI m' c)) = Cert.KernelIdeal.Calls.W7 m g c (Proc.devRef .tc Cert.KernelIdeal.main_v5_1) := by
    intro c
    obtain ⟨p5, p6, p7, p8, p9, p10⟩ := hpre c
    obtain ⟨e0, e1, e2, e3, e4, e5, e6, e7, e8, e9, e10⟩ := hargs c
    obtain ⟨x5, h5⟩ := real_weight (m ((c.tc : Thread Cert.KernelIdeal.nD Cert.KernelIdeal.τ).loc Cert.KernelIdeal.main_arg5)) (fun i => congrFun p5 i)
    obtain ⟨x6, h6⟩ := real_weight (m ((c.tc : Thread Cert.KernelIdeal.nD Cert.KernelIdeal.τ).loc Cert.KernelIdeal.main_arg6)) (fun i => congrFun p6 i)
    obtain ⟨x7, h7⟩ := real_weight (m ((c.tc : Thread Cert.KernelIdeal.nD Cert.KernelIdeal.τ).loc Cert.KernelIdeal.main_arg7)) (fun i => congrFun p7 i)
    obtain ⟨x8, h8⟩ := real_weight (m ((c.tc : Thread Cert.KernelIdeal.nD Cert.KernelIdeal.τ).loc Cert.KernelIdeal.main_arg8)) (fun i => congrFun p8 i)
    obtain ⟨x9, h9⟩ := real_weight (m ((c.tc : Thread Cert.KernelIdeal.nD Cert.KernelIdeal.τ).loc Cert.KernelIdeal.main_arg9)) (fun i => congrFun p9 i)
    obtain ⟨x10, h10⟩ := real_weight (m ((c.tc : Thread Cert.KernelIdeal.nD Cert.KernelIdeal.τ).loc Cert.KernelIdeal.main_arg10)) (fun i => congrFun p10 i)
    obtain ⟨q5, q6, q7, q8, q9, q10⟩ := weights_agree m' c _ e5 x5 h5 _ e6 x6 h6 _ e7 x7 h7 _ e8 x8 h8 _ e9 x9 h9 _ e10 x10 h10
    have i0 := (Cert.ReferenceIdeal.Value.iter_main_arg0 m' c 32).trans e0
    have i1 := (Cert.ReferenceIdeal.Value.iter_main_arg1 m' c 32).trans e1
    have i2 := (Cert.ReferenceIdeal.Value.iter_main_arg2 m' c 32).trans e2
    have i3 := (Cert.ReferenceIdeal.Value.iter_main_arg3 m' c 32).trans e3
    have i4 := (Cert.ReferenceIdeal.Value.iter_main_arg4 m' c 32).trans e4
    have i5 := (Cert.ReferenceIdeal.Value.iter_main_arg5 m' c 32).trans e5
    have i6 := (Cert.ReferenceIdeal.Value.iter_main_arg6 m' c 32).trans e6
    have i7 := (Cert.ReferenceIdeal.Value.iter_main_arg7 m' c 32).trans e7
    have i8 := (Cert.ReferenceIdeal.Value.iter_main_arg8 m' c 32).trans e8
    have i9 := (Cert.ReferenceIdeal.Value.iter_main_arg9 m' c 32).trans e9
    have i10 := (Cert.ReferenceIdeal.Value.iter_main_arg10 m' c 32).trans e10
    have k82 := Cert.ReferenceIdeal.Loop.out82_eq (Cert.ReferenceIdeal.Value.STEP^[32] (entryContents Cert.ReferenceIdeal.Value.preI m' c))
    have k88 := Cert.ReferenceIdeal.Loop.out88_eq (Cert.ReferenceIdeal.Value.STEP^[32] (entryContents Cert.ReferenceIdeal.Value.preI m' c))
    have k93 := Cert.ReferenceIdeal.Loop.out93_eq (Cert.ReferenceIdeal.Value.STEP^[32] (entryContents Cert.ReferenceIdeal.Value.preI m' c))
    rw [i0, i2, i5, i6, ← q5, ← q6] at k82
    rw [i1, i3, i7, i8, ← q7, ← q8] at k88
    rw [k82, k88, i4, i9, i10, ← q9, ← q10] at k93
    exact ⟨k93.trans (Cert.KernelIdeal.Calls.end_v6 m g c).symm, k82.trans (Cert.KernelIdeal.Calls.end_v5_0 m g c).symm, k88.trans (Cert.KernelIdeal.Calls.end_v5_1 m g c).symm⟩
  refine ⟨fun c => Cert.KernelIdeal.Calls.W7 m g c (Proc.devRef .tc Cert.KernelIdeal.main_v6), fun c => Cert.KernelIdeal.Calls.W7 m g c (Proc.devRef .tc Cert.KernelIdeal.main_v5_0),
    fun c => Cert.KernelIdeal.Calls.W7 m g c (Proc.devRef .tc Cert.KernelIdeal.main_v5_1), ?_, ?_⟩
  · refine (θ_run _ _ _).mono (fun r h c => ?_) (Cert.KernelIdeal.Calls.ends m g)
    have hb := h.1 c
    have ha : ∀ a : Ref Cert.KernelIdeal.sig .tc, a ∈ Cert.KernelIdeal.Calls.argRefs → (Proc.devRef .tc a : DevRef Cert.KernelIdeal.τ Cert.KernelIdeal.sig) ∈ Pipeline.ucRefs Cert.KernelIdeal.τ Cert.KernelIdeal.sig →
        r.2.mem ((c.tc : Thread Cert.KernelIdeal.nD Cert.KernelIdeal.τ).loc a) = m ((c.tc : Thread Cert.KernelIdeal.nD Cert.KernelIdeal.τ).loc a) :=
      fun a h1 h2 => (hb _ h2).trans (Cert.KernelIdeal.Calls.end_arg m g c a h1)
    exact ⟨hb _ (Cert.KernelIdeal.Calls.mem_uc Cert.KernelIdeal.main_v6 (by decide)), hb _ (Cert.KernelIdeal.Calls.mem_uc Cert.KernelIdeal.main_v5_0 (by decide)), hb _ (Cert.KernelIdeal.Calls.mem_uc Cert.KernelIdeal.main_v5_1 (by decide)),
      ha Cert.KernelIdeal.main_arg0 (by decide) (Cert.KernelIdeal.Calls.mem_uc Cert.KernelIdeal.main_arg0 (by decide)), ha Cert.KernelIdeal.main_arg1 (by decide) (Cert.KernelIdeal.Calls.mem_uc Cert.KernelIdeal.main_arg1 (by decide)), ha Cert.KernelIdeal.main_arg2 (by decide) (Cert.KernelIdeal.Calls.mem_uc Cert.KernelIdeal.main_arg2 (by decide)), ha Cert.KernelIdeal.main_arg3 (by decide) (Cert.KernelIdeal.Calls.mem_uc Cert.KernelIdeal.main_arg3 (by decide)), ha Cert.KernelIdeal.main_arg4 (by decide) (Cert.KernelIdeal.Calls.mem_uc Cert.KernelIdeal.main_arg4 (by decide)), ha Cert.KernelIdeal.main_arg5 (by decide) (Cert.KernelIdeal.Calls.mem_uc Cert.KernelIdeal.main_arg5 (by decide)), ha Cert.KernelIdeal.main_arg6 (by decide) (Cert.KernelIdeal.Calls.mem_uc Cert.KernelIdeal.main_arg6 (by decide)), ha Cert.KernelIdeal.main_arg7 (by decide) (Cert.KernelIdeal.Calls.mem_uc Cert.KernelIdeal.main_arg7 (by decide)), ha Cert.KernelIdeal.main_arg8 (by decide) (Cert.KernelIdeal.Calls.mem_uc Cert.KernelIdeal.main_arg8 (by decide)), ha Cert.KernelIdeal.main_arg9 (by decide) (Cert.KernelIdeal.Calls.mem_uc Cert.KernelIdeal.main_arg9 (by decide)), ha Cert.KernelIdeal.main_arg10 (by decide) (Cert.KernelIdeal.Calls.mem_uc Cert.KernelIdeal.main_arg10 (by decide))⟩
  · refine (θ_run _ _ _).mono (fun r h c => ?_) (Cert.ReferenceIdeal.Value.run m' g')
    obtain ⟨h1, h2, h3, h4⟩ := h c
    exact ⟨h1.trans (hv c).1, h2.trans (hv c).2.1, h3.trans (hv c).2.2, h4⟩

end Cert.Proof
-- ==== Proof.lean ====
module

public import proofs.«01_k».proof.Defs
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Kernel.Whole
public import proofs.«01_k».proof.Proof.KernelIdeal.Whole
public import proofs.«01_k».proof.Proof.Agree
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, facts_finite,
    fun m ρ _ => Cert.Kernel.Calls.frame m ρ,
    fun m ρ _ => Cert.KernelIdeal.Calls.frame m ρ,
    fun m ρ _ => Cert.KernelIdeal.Calls.frame m ρ,
    frame_reference,
    fun m ρ _ => frame_reference m ρ trivial,
    trivial,
    algebraic⟩

end Cert.Proof

end
